-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_minus_infinity [hPre_above_minus_infinity : Cert.Pre_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_minus_infinity [hPre_above_minus_infinity : Cert.Pre_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_above_minus_infinity [hKernelIdeal : Cert.KernelIdeal.Facts] [hPre_above_minus_infinity : Cert.Pre_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_above_minus_infinity [hReferenceIdeal : Cert.ReferenceIdeal.Facts] [hPre_above_minus_infinity : Cert.Pre_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_above_minus_infinity [hKernelIdeal : Cert.KernelIdeal.Facts] [hReferenceIdeal : Cert.ReferenceIdeal.Facts] [hPre_above_minus_infinity : Cert.Pre_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_3) = v0 c
          ∧ r.2.mem ((c.tc : Thread Cert.ReferenceIdeal.nD Cert.ReferenceIdeal.τ).loc Cert.ReferenceIdeal.main_v2_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_above_minus_infinity : Cert.Pre_above_minus_infinity.Facts),
    quiescent_Kernel (hKernel := hKernel)
    ∧ quiescent_KernelIdeal (hKernelIdeal := hKernelIdeal)
    ∧ quiescent_KernelIdeal_pre_above_minus_infinity (hKernelIdeal := hKernelIdeal) (hPre_above_minus_infinity := hPre_above_minus_infinity)
    ∧ quiescent_ReferenceIdeal (hReferenceIdeal := hReferenceIdeal)
    ∧ quiescent_ReferenceIdeal_pre_above_minus_infinity (hReferenceIdeal := hReferenceIdeal) (hPre_above_minus_infinity := hPre_above_minus_infinity)
    ∧ preserves_Kernel_KernelIdeal
    ∧ algebraic_KernelIdeal_ReferenceIdeal_pre_above_minus_infinity (hKernelIdeal := hKernelIdeal) (hReferenceIdeal := hReferenceIdeal) (hPre_above_minus_infinity := hPre_above_minus_infinity)
-- ==== Pre_above_minus_infinity.lean ====
abbrev S1024x32768 : Shape := ⟨2, ![1024, 32768]⟩
abbrev S32768 : Shape := ⟨1, ![32768]⟩
abbrev S_ : Shape := ⟨0, ![]⟩

class Facts : Prop where
  bcast_S_S1024x32768 : S_.BroadcastsInDim S1024x32768 (![] : Fin 0 → Fin S1024x32768.rank)
  reducesTo_S1024x32768_S_d0_1 : S1024x32768.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S1024x32768 .f32) (main_arg1 : FVec F S32768 .f32) : IVec S_ 1 :=
  let main_cst : FVec F S_ .f32 := constant S_ .f32 0xFF800000#32
  let main_v0 : FVec F S1024x32768 .f32 := broadcastInDim S1024x32768 ![] bcast_S_S1024x32768 main_cst
  let main_v1 : IVec S1024x32768 1 := cmpf .ogt main_arg0 main_v0
  let main_c : IVec S_ 1 := constantI S_ 1 1#1
  let main_v2 : IVec S_ 1 := (fun x v => Host.reduce IntOp.andi x v reducesTo_S1024x32768_S_d0_1 h_S_) main_v1 main_c
  let main_cst_0 : FVec F S_ .f32 := constant S_ .f32 0xFF800000#32
  let main_v3 : FVec F S32768 .f32 := broadcastInDim S32768 ![] bcast_S_S32768 main_cst_0
  let main_v4 : IVec S32768 1 := cmpf .ogt main_arg1 main_v3
  let main_c_1 : IVec S_ 1 := constantI S_ 1 1#1
  let main_v5 : IVec S_ 1 := (fun x v => Host.reduce IntOp.andi x v reducesTo_S32768_S_d0 h_S_) main_v4 main_c_1
  let main_v6 : IVec S_ 1 := andi main_v2 main_v5
  main_v6
-- ==== Kernel.lean ====
abbrev S1024x32768 : Shape := ⟨2, ![1024, 32768]⟩
abbrev S32768 : Shape := ⟨1, ![32768]⟩
abbrev S8x8x512 : Shape := ⟨3, ![8, 8, 512]⟩
abbrev S8x8192x1 : Shape := ⟨3, ![8, 8192, 1]⟩
abbrev S1x8x512 : Shape := ⟨3, ![1, 8, 512]⟩
abbrev S1x4096x1 : Shape := ⟨3, ![1, 4096, 1]⟩
abbrev S8x512 : Shape := ⟨2, ![8, 512]⟩
abbrev S4096x512 : Shape := ⟨2, ![4096, 512]⟩
abbrev S2x512x8x512 : Shape := ⟨4, ![2, 512, 8, 512]⟩
abbrev S2x8 : Shape := ⟨2, ![2, 8]⟩
abbrev S1x1 : Shape := ⟨2, ![1, 1]⟩
abbrev S_ : Shape := ⟨0, ![]⟩
abbrev S1x512x1x512 : Shape := ⟨4, ![1, 512, 1, 512]⟩
abbrev S512x512 : Shape := ⟨2, ![512, 512]⟩
abbrev S1x1x8x512 : Shape := ⟨4, ![1, 1, 8, 512]⟩
abbrev S4096 : Shape := ⟨1, ![4096]⟩
abbrev S4096x1 : Shape := ⟨2, ![4096, 1]⟩
abbrev S8x1024x8 : Shape := ⟨3, ![8, 1024, 8]⟩
abbrev S1024x8x8 : Shape := ⟨3, ![1024, 8, 8]⟩
abbrev S1024x64 : Shape := ⟨2, ![1024, 64]⟩
abbrev S1024x1 : Shape := ⟨2, ![1024, 1]⟩
abbrev S512x64 : Shape := ⟨2, ![512, 64]⟩
abbrev S512x4096 : Shape := ⟨2, ![512, 4096]⟩
abbrev S512x1 : Shape := ⟨2, ![512, 1]⟩
abbrev S512 : Shape := ⟨1, ![512]⟩
abbrev S1024 : Shape := ⟨1, ![1024]⟩

abbrev nBuf : Space → Nat
  | .hbm => 22
  | .vmem => 25
  | .smem => 0
  | _ => 0

abbrev bufTy : (tb : Table) → Fin (tcTables nBuf tb) → BufTy
  | .hbm, ⟨0, _⟩ => ⟨S1024x32768, .f32⟩
  | .hbm, ⟨1, _⟩ => ⟨S32768, .f32⟩
  | .hbm, ⟨2, _⟩ => ⟨S8x8x512, .f32⟩
  | .hbm, ⟨3, _⟩ => ⟨S8x8192x1, .f32⟩
  | .hbm, ⟨4, _⟩ => ⟨S8x8192x1, .f32⟩
  | .hbm, ⟨5, _⟩ => ⟨S8x8192x1, .i32⟩
  | .hbm, ⟨6, _⟩ => ⟨S8x8192x1, .i32⟩
  | .hbm, ⟨7, _⟩ => ⟨S8x1024x8, .f32⟩
  | .hbm, ⟨8, _⟩ => ⟨S1024x8x8, .f32⟩
  | .hbm, ⟨9, _⟩ => ⟨S1024x64, .f32⟩
  | .hbm, ⟨10, _⟩ => ⟨S8x1024x8, .f32⟩
  | .hbm, ⟨11, _⟩ => ⟨S1024x8x8, .f32⟩
  | .hbm, ⟨12, _⟩ => ⟨S1024x64, .f32⟩
  | .hbm, ⟨13, _⟩ => ⟨S8x1024x8, .i32⟩
  | .hbm, ⟨14, _⟩ => ⟨S1024x8x8, .i32⟩
  | .hbm, ⟨15, _⟩ => ⟨S1024x64, .i32⟩
  | .hbm, ⟨16, _⟩ => ⟨S8x1024x8, .i32⟩
  | .hbm, ⟨17, _⟩ => ⟨S1024x8x8, .i32⟩
  | .hbm, ⟨18, _⟩ => ⟨S1024x64, .i32⟩
  | .hbm, ⟨19, _⟩ => ⟨S1024x32768, .f32⟩
  | .hbm, ⟨20, _⟩ => ⟨S1024x1, .f32⟩
  | .hbm, ⟨21, _⟩ => ⟨S1024, .f32⟩
  | .local _ .vmem, ⟨0, _⟩ => ⟨S1x8x512, .f32⟩
  | .local _ .vmem, ⟨1, _⟩ => ⟨S1x8x512, .f32⟩
  | .local _ .vmem, ⟨2, _⟩ => ⟨S1x4096x1, .f32⟩
  | .local _ .vmem, ⟨3, _⟩ => ⟨S1x4096x1, .f32⟩
  | .local _ .vmem, ⟨4, _⟩ => ⟨S1x4096x1, .f32⟩
  | .local _ .vmem, ⟨5, _⟩ => ⟨S1x4096x1, .f32⟩
  | .local _ .vmem, ⟨6, _⟩ => ⟨S1x4096x1, .i32⟩
  | .local _ .vmem, ⟨7, _⟩ => ⟨S1x4096x1, .i32⟩
  | .local _ .vmem, ⟨8, _⟩ => ⟨S1x4096x1, .i32⟩
  | .local _ .vmem, ⟨9, _⟩ => ⟨S1x4096x1, .i32⟩
  | .local _ .vmem, ⟨10, _⟩ => ⟨S8x512, .f32⟩
  | .local _ .vmem, ⟨11, _⟩ => ⟨S4096x512, .f32⟩
  | .local _ .vmem, ⟨12, _⟩ => ⟨S2x512x8x512, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .i32⟩
  | .local _ .vmem, ⟨18, _⟩ => ⟨S512x64, .i32⟩
  | .local _ .vmem, ⟨19, _⟩ => ⟨S512x64, .i32⟩
  | .local _ .vmem, ⟨20, _⟩ => ⟨S512x64, .i32⟩
  | .local _ .vmem, ⟨21, _⟩ => ⟨S512x4096, .f32⟩
  | .local _ .vmem, ⟨22, _⟩ => ⟨S512x4096, .f32⟩
  | .local _ .vmem, ⟨23, _⟩ => ⟨S512x1, .f32⟩
  | .local _ .vmem, ⟨24, _⟩ => ⟨S512x1, .f32⟩
  | _, _ => ⟨S1024x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c0_i32_2 : BitVec 32 := 0#32
  let v6 : BitVec 1 := Scalar.cmpi .eq v4 c0_i32_2
  let v7 : BitVec 32 := Scalar.extui v6
  let c0_i32_3 : BitVec 32 := 0#32
  let v8 : BitVec 1 := Scalar.cmpi .ne v7 c0_i32_3
  v8

def k0_off1 (i : grid0.Coords) (c0_i32_87 : BitVec 32) : Fin 2 → Nat :=
  let arg1 : BitVec 32 := BitVec.ofNat 32 (i 1).val
  let c512_i32_85 : BitVec 32 := 512#32
  let v145 : BitVec 32 := Scalar.muli arg1 c512_i32_85
  let arg0 : BitVec 32 := BitVec.ofNat 32 (i 0).val
  let c4096_i32_86 : BitVec 32 := 4096#32
  let v146 : BitVec 32 := Scalar.muli arg0 c4096_i32_86
  let v147 : BitVec 32 := Scalar.addi v146 c0_i32_87
  ![v145.toNat, v147.toNat]
def k0_cond3 (i : grid0.Coords) : BitVec 1 :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c16_i32 : BitVec 32 := 16#32
  let v10 : BitVec 1 := Scalar.cmpi .slt v9 c16_i32
  let v11 : BitVec 32 := Scalar.extui v10
  let c0_i32_4 : BitVec 32 := 0#32
  let v12 : BitVec 1 := Scalar.cmpi .ne v11 c0_i32_4
  v12

def k0_off2 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_119 : BitVec 32 := 0#32
  ![v163.toNat, 0]
def k0_off3 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_120 : BitVec 32 := 0#32
  let c0_i32_118 : BitVec 32 := 0#32
  let c0_i32_121 : BitVec 32 := 0#32
  ![v163.toNat, 0, 0, 0]
def k0_off4 (i : grid0.Coords) (c0_i32_96 : BitVec 32) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_92 : BitVec 32 := 2#32
  let v162 : BitVec 32 := Scalar.remsi v9 c2_i32_92
  let c512_i32_94 : BitVec 32 := 512#32
  let v164 : BitVec 32 := Scalar.muli v162 c512_i32_94
  let c0_i32_86 : BitVec 32 := 0#32
  let v146 : BitVec 1 := Scalar.cmpi .sgt v9 c0_i32_86
  let v147 : BitVec 32 := Scalar.extui v146
  let c0_i32_87 : BitVec 32 := 0#32
  let v148 : BitVec 1 := Scalar.cmpi .slt v9 c0_i32_87
  let v149 : BitVec 32 := Scalar.extui v148
  let v150 : BitVec 32 := Scalar.subi v147 v149
  let c2_i32_85 : BitVec 32 := 2#32
  let c0_i32_88 : BitVec 32 := 0#32
  let v151 : BitVec 1 := Scalar.cmpi .sgt c2_i32_85 c0_i32_88
  let v152 : BitVec 32 := Scalar.extui v151
  let c0_i32_89 : BitVec 32 := 0#32
  let v153 : BitVec 1 := Scalar.cmpi .slt c2_i32_85 c0_i32_89
  let v154 : BitVec 32 := Scalar.extui v153
  let v155 : BitVec 32 := Scalar.subi v152 v154
  let v156 : BitVec 1 := Scalar.cmpi .ne v150 v155
  let v157 : BitVec 32 := Scalar.remsi v9 c2_i32_85
  let c0_i32_90 : BitVec 32 := 0#32
  let v158 : BitVec 1 := Scalar.cmpi .ne v157 c0_i32_90
  let v159 : BitVec 1 := Scalar.andi v156 v158
  let v145 : BitVec 32 := Scalar.divsi v9 c2_i32_85
  let c1_i32_91 : BitVec 32 := 1#32
  let v160 : BitVec 32 := Scalar.subi v145 c1_i32_91
  let v161 : BitVec 32 := Scalar.select v159 v160 v145
  let c4096_i32_95 : BitVec 32 := 4096#32
  let v165 : BitVec 32 := Scalar.muli v161 c4096_i32_95
  let v166 : BitVec 32 := Scalar.addi v165 c0_i32_96
  ![v164.toNat, v166.toNat]
def k0_off5 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c1_i32_123 : BitVec 32 := 1#32
  ![v163.toNat, 1]
def k0_off6 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_124 : BitVec 32 := 0#32
  let c1_i32_122 : BitVec 32 := 1#32
  let c0_i32_125 : BitVec 32 := 0#32
  ![v163.toNat, 0, 1, 0]
def k0_off7 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c2_i32_127 : BitVec 32 := 2#32
  ![v163.toNat, 2]
def k0_off8 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_128 : BitVec 32 := 0#32
  let c2_i32_126 : BitVec 32 := 2#32
  let c0_i32_129 : BitVec 32 := 0#32
  ![v163.toNat, 0, 2, 0]
def k0_off9 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c3_i32_131 : BitVec 32 := 3#32
  ![v163.toNat, 3]
def k0_off10 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_132 : BitVec 32 := 0#32
  let c3_i32_130 : BitVec 32 := 3#32
  let c0_i32_133 : BitVec 32 := 0#32
  ![v163.toNat, 0, 3, 0]
def k0_off11 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c4_i32_135 : BitVec 32 := 4#32
  ![v163.toNat, 4]
def k0_off12 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_136 : BitVec 32 := 0#32
  let c4_i32_134 : BitVec 32 := 4#32
  let c0_i32_137 : BitVec 32 := 0#32
  ![v163.toNat, 0, 4, 0]
def k0_off13 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c5_i32_139 : BitVec 32 := 5#32
  ![v163.toNat, 5]
def k0_off14 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_140 : BitVec 32 := 0#32
  let c5_i32_138 : BitVec 32 := 5#32
  let c0_i32_141 : BitVec 32 := 0#32
  ![v163.toNat, 0, 5, 0]
def k0_off15 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c6_i32_143 : BitVec 32 := 6#32
  ![v163.toNat, 6]
def k0_off16 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_144 : BitVec 32 := 0#32
  let c6_i32_142 : BitVec 32 := 6#32
  let c0_i32_145 : BitVec 32 := 0#32
  ![v163.toNat, 0, 6, 0]
def k0_off17 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c7_i32_147 : BitVec 32 := 7#32
  ![v163.toNat, 7]
def k0_off18 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c1_i32 : BitVec 32 := 1#32
  let v9 : BitVec 32 := Scalar.addi v4 c1_i32
  let c2_i32_93 : BitVec 32 := 2#32
  let v163 : BitVec 32 := Scalar.remsi v9 c2_i32_93
  let c0_i32_148 : BitVec 32 := 0#32
  let c7_i32_146 : BitVec 32 := 7#32
  let c0_i32_149 : BitVec 32 := 0#32
  ![v163.toNat, 0, 7, 0]
def k0_off19 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_22 : BitVec 32 := 0#32
  ![v5.toNat, 0]
def k0_off20 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_23 : BitVec 32 := 0#32
  let c0_i32_21 : BitVec 32 := 0#32
  let c0_i32_24 : BitVec 32 := 0#32
  ![v5.toNat, 0, 0, 0]
def k0_off21 (i : grid0.Coords) (c0_i32_5 : BitVec 32) : Fin 2 → Nat :=
  let arg1 : BitVec 32 := BitVec.ofNat 32 (i 1).val
  let c512_i32 : BitVec 32 := 512#32
  let v13 : BitVec 32 := Scalar.muli arg1 c512_i32
  let arg0 : BitVec 32 := BitVec.ofNat 32 (i 0).val
  let c4096_i32 : BitVec 32 := 4096#32
  let v14 : BitVec 32 := Scalar.muli arg0 c4096_i32
  let v15 : BitVec 32 := Scalar.addi v14 c0_i32_5
  ![v13.toNat, v15.toNat]
def k0_off22 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c1_i32_26 : BitVec 32 := 1#32
  ![v5.toNat, 1]
def k0_off23 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_27 : BitVec 32 := 0#32
  let c1_i32_25 : BitVec 32 := 1#32
  let c0_i32_28 : BitVec 32 := 0#32
  ![v5.toNat, 0, 1, 0]
def k0_off24 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c2_i32_30 : BitVec 32 := 2#32
  ![v5.toNat, 2]
def k0_off25 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_31 : BitVec 32 := 0#32
  let c2_i32_29 : BitVec 32 := 2#32
  let c0_i32_32 : BitVec 32 := 0#32
  ![v5.toNat, 0, 2, 0]
def k0_off26 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c3_i32_33 : BitVec 32 := 3#32
  ![v5.toNat, 3]
def k0_off27 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_34 : BitVec 32 := 0#32
  let c3_i32 : BitVec 32 := 3#32
  let c0_i32_35 : BitVec 32 := 0#32
  ![v5.toNat, 0, 3, 0]
def k0_off28 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c4_i32_36 : BitVec 32 := 4#32
  ![v5.toNat, 4]
def k0_off29 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_37 : BitVec 32 := 0#32
  let c4_i32 : BitVec 32 := 4#32
  let c0_i32_38 : BitVec 32 := 0#32
  ![v5.toNat, 0, 4, 0]
def k0_off30 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c5_i32_39 : BitVec 32 := 5#32
  ![v5.toNat, 5]
def k0_off31 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_40 : BitVec 32 := 0#32
  let c5_i32 : BitVec 32 := 5#32
  let c0_i32_41 : BitVec 32 := 0#32
  ![v5.toNat, 0, 5, 0]
def k0_off32 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c6_i32_42 : BitVec 32 := 6#32
  ![v5.toNat, 6]
def k0_off33 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_43 : BitVec 32 := 0#32
  let c6_i32 : BitVec 32 := 6#32
  let c0_i32_44 : BitVec 32 := 0#32
  ![v5.toNat, 0, 6, 0]
def k0_off34 (i : grid0.Coords) : Fin 2 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c7_i32_45 : BitVec 32 := 7#32
  ![v5.toNat, 7]
def k0_off35 (i : grid0.Coords) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let c0_i32_46 : BitVec 32 := 0#32
  let c7_i32 : BitVec 32 := 7#32
  let c0_i32_47 : BitVec 32 := 0#32
  ![v5.toNat, 0, 7, 0]
@[reducible] def k0_t1_loop : Scf.Loop 32 :=
  let c0_i32_50 : BitVec 32 := 0#32
  let c512_i32_51 : BitVec 32 := 512#32
  let v78 : BitVec 32 := Scalar.addi c0_i32_50 c512_i32_51
  let c1_i32_52 : BitVec 32 := 1#32
  ⟨c0_i32_50, v78, c1_i32_52⟩
def k0_off36 (i : grid0.Coords) (k0_t1 : Fin k0_t1_loop.trips) : Fin 4 → Nat :=
  let arg0 : BitVec 32 := BitVec.ofNat 32 (i 0).val
  let c2_i32 : BitVec 32 := 2#32
  let v3 : BitVec 32 := Scalar.muli arg0 c2_i32
  let arg1 : BitVec 32 := BitVec.ofNat 32 (i 1).val
  let v4 : BitVec 32 := Scalar.addi v3 arg1
  let c2_i32_1 : BitVec 32 := 2#32
  let v5 : BitVec 32 := Scalar.remsi v4 c2_i32_1
  let v145 : Index := Scalar.indexCast v5
  let c0_i32_50 : BitVec 32 := 0#32
  let c1_i32_52 : BitVec 32 := 1#32
  let arg12 : BitVec 32 := Scf.iv c0_i32_50 c1_i32_52 k0_t1
  let v146 : Index := Scalar.indexCast arg12
  let c0_85 : Index := 0#32
  let c0_86 : Index := 0#32
  ![v145.toNat, v146.toNat, 0, 0]
def k0_off37 (k0_t1 : Fin k0_t1_loop.trips) : Fin 2 → Nat :=
  let c0_i32_50 : BitVec 32 := 0#32
  let c1_i32_52 : BitVec 32 := 1#32
  let arg12 : BitVec 32 := Scf.iv c0_i32_50 c1_i32_52 k0_t1
  let c8_i32_87 : BitVec 32 := 8#32
  let v154 : BitVec 32 := Scalar.muli arg12 c8_i32_87
  let v155 : Index := Scalar.indexCast v154
  let c0_88 : Index := 0#32
  ![v155.toNat, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def k1_cond1 (i : grid1.Coords) : BitVec 1 :=
  let arg1 : BitVec 32 := BitVec.ofNat 32 (i 1).val
  let c0_i32 : BitVec 32 := 0#32
  let v60 : BitVec 1 := Scalar.cmpi .eq arg1 c0_i32
  let v61 : BitVec 32 := Scalar.extui v60
  let c0_i32_21 : BitVec 32 := 0#32
  let v62 : BitVec 1 := Scalar.cmpi .ne v61 c0_i32_21
  v62

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x64 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x64 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== ReferenceIdeal.lean ====
abbrev S1024x32768 : Shape := ⟨2, ![1024, 32768]⟩
abbrev S32768 : Shape := ⟨1, ![32768]⟩
abbrev S_ : Shape := ⟨0, ![]⟩
abbrev S1024 : Shape := ⟨1, ![1024]⟩
abbrev S1x32768 : Shape := ⟨2, ![1, 32768]⟩
abbrev S2 : Shape := ⟨1, ![2]⟩
abbrev S2x1 : Shape := ⟨2, ![2, 1]⟩
abbrev S1 : Shape := ⟨1, ![1]⟩

abbrev nBuf : Space → Nat
  | .hbm => 62
  | .vmem => 0
  | .smem => 0
  | _ => 0

abbrev bufTy : (tb : Table) → Fin (tcTables nBuf tb) → BufTy
  | .hbm, ⟨0, _⟩ => ⟨S1024x32768, .f32⟩
  | .hbm, ⟨1, _⟩ => ⟨S32768, .f32⟩
  | .hbm, ⟨2, _⟩ => ⟨S_, .f32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S_, .i32⟩
  | .hbm, ⟨7, _⟩ => ⟨S1024x32768, .f32⟩
  | .hbm, ⟨8, _⟩ => ⟨S_, .i32⟩
  | .hbm, ⟨9, _⟩ => ⟨S32768, .f32⟩
  | .hbm, ⟨10, _⟩ => ⟨S1024x32768, .f32⟩
  | .hbm, ⟨11, _⟩ => ⟨S1024, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S1x32768, .f32⟩
  | .hbm, ⟨16, _⟩ => ⟨S32768, .f32⟩
  | .hbm, ⟨17, _⟩ => ⟨S_, .f32⟩
  | .hbm, ⟨18, _⟩ => ⟨S32768, .f32⟩
  | .hbm, ⟨19, _⟩ => ⟨S32768, .f32⟩
  | .hbm, ⟨20, _⟩ => ⟨S_, .f32⟩
  | .hbm, ⟨21, _⟩ => ⟨S32768, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S32768, .f32⟩
  | .hbm, ⟨30, _⟩ => ⟨S32768, .f32⟩
  | .hbm, ⟨31, _⟩ => ⟨S2, .f32⟩
  | .hbm, ⟨32, _⟩ => ⟨S2, .i32⟩
  | .hbm, ⟨33, _⟩ => ⟨S_, .f32⟩
  | .hbm, ⟨34, _⟩ => ⟨S32768, .f32⟩
  | .hbm, ⟨35, _⟩ => ⟨S_, .i32⟩
  | .hbm, ⟨36, _⟩ => ⟨S2, .i32⟩
  | .hbm, ⟨37, _⟩ => ⟨S2, .i1⟩
  | .hbm, ⟨38, _⟩ => ⟨S_, .i32⟩
  | .hbm, ⟨39, _⟩ => ⟨S2, .i32⟩
  | .hbm, ⟨40, _⟩ => ⟨S2, .i32⟩
  | .hbm, ⟨41, _⟩ => ⟨S2, .i32⟩
  | .hbm, ⟨42, _⟩ => ⟨S2x1, .i32⟩
  | .hbm, ⟨43, _⟩ => ⟨S_, .f32⟩
  | .hbm, ⟨44, _⟩ => ⟨S2, .f32⟩
  | .hbm, ⟨45, _⟩ => ⟨S32768, .f32⟩
  | .hbm, ⟨46, _⟩ => ⟨S_, .f32⟩
  | .hbm, ⟨47, _⟩ => ⟨S32768, .f32⟩
  | .hbm, ⟨48, _⟩ => ⟨S32768, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1x32768, .f32⟩
  | .hbm, ⟨56, _⟩ => ⟨S_, .i32⟩
  | .hbm, ⟨57, _⟩ => ⟨S1024x32768, .f32⟩
  | .hbm, ⟨58, _⟩ => ⟨S1, .f32⟩
  | .hbm, ⟨59, _⟩ => ⟨S1024, .f32⟩
  | .hbm, ⟨60, _⟩ => ⟨S_, .i32⟩
  | .hbm, ⟨61, _⟩ => ⟨S_, .i32⟩
  | _, _ => ⟨S1024x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_5 : Ref sig .tc := ⟨.hbm, 12, rfl⟩
abbrev main_while0c_v3 : Ref sig .tc := ⟨.hbm, 13, rfl⟩
abbrev main_while0b_call0_c : Ref sig .tc := ⟨.hbm, 14, rfl⟩
abbrev main_while0b_call0_v0 : Ref sig .tc := ⟨.hbm, 15, rfl⟩
abbrev main_while0b_v3 : Ref sig .tc := ⟨.hbm, 16, rfl⟩
abbrev main_while0b_cst_5 : Ref sig .tc := ⟨.hbm, 17, rfl⟩
abbrev main_while0b_v4 : Ref sig .tc := ⟨.hbm, 18, rfl⟩
abbrev main_while0b_v5 : Ref sig .tc := ⟨.hbm, 19, rfl⟩
abbrev main_while0b_cst_6 : Ref sig .tc := ⟨.hbm, 20, rfl⟩
abbrev main_while0b_v6 : Ref sig .tc := ⟨.hbm, 21, rfl⟩
abbrev main_while0b_v7 : Ref sig .tc := ⟨.hbm, 22, rfl⟩
abbrev main_while0b_v8 : Ref sig .tc := ⟨.hbm, 23, rfl⟩
abbrev main_while0b_cst_7 : Ref sig .tc := ⟨.hbm, 24, rfl⟩
abbrev main_while0b_v9 : Ref sig .tc := ⟨.hbm, 25, rfl⟩
abbrev main_while0b_cst_8 : Ref sig .tc := ⟨.hbm, 26, rfl⟩
abbrev main_while0b_v10 : Ref sig .tc := ⟨.hbm, 27, rfl⟩
abbrev main_while0b_cst_9 : Ref sig .tc := ⟨.hbm, 28, rfl⟩
abbrev main_while0b_v11 : Ref sig .tc := ⟨.hbm, 29, rfl⟩
abbrev main_while0b_v12 : Ref sig .tc := ⟨.hbm, 30, rfl⟩
abbrev main_while0b_values : Ref sig .tc := ⟨.hbm, 31, rfl⟩
abbrev main_while0b_indices : Ref sig .tc := ⟨.hbm, 32, rfl⟩
abbrev main_while0b_cst_10 : Ref sig .tc := ⟨.hbm, 33, rfl⟩
abbrev main_while0b_v13 : Ref sig .tc := ⟨.hbm, 34, rfl⟩
abbrev main_while0b_c_11 : Ref sig .tc := ⟨.hbm, 35, rfl⟩
abbrev main_while0b_v14 : Ref sig .tc := ⟨.hbm, 36, rfl⟩
abbrev main_while0b_v15 : Ref sig .tc := ⟨.hbm, 37, rfl⟩
abbrev main_while0b_c_12 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_cst_13 : Ref sig .tc := ⟨.hbm, 43, rfl⟩
abbrev main_while0b_v20 : Ref sig .tc := ⟨.hbm, 44, rfl⟩
abbrev main_while0b_v21 : Ref sig .tc := ⟨.hbm, 45, rfl⟩
abbrev main_while0b_cst_14 : Ref sig .tc := ⟨.hbm, 46, rfl⟩
abbrev main_while0b_v22 : Ref sig .tc := ⟨.hbm, 47, rfl⟩
abbrev main_while0b_v23 : Ref sig .tc := ⟨.hbm, 48, rfl⟩
abbrev main_while0b_cst_15 : Ref sig .tc := ⟨.hbm, 49, rfl⟩
abbrev main_while0b_v24 : Ref sig .tc := ⟨.hbm, 50, rfl⟩
abbrev main_while0b_cst_16 : Ref sig .tc := ⟨.hbm, 51, rfl⟩
abbrev main_while0b_v25 : Ref sig .tc := ⟨.hbm, 52, rfl⟩
abbrev main_while0b_cst_17 : Ref sig .tc := ⟨.hbm, 53, rfl⟩
abbrev main_while0b_v26 : Ref sig .tc := ⟨.hbm, 54, rfl⟩
abbrev main_while0b_call3_v0 : Ref sig .tc := ⟨.hbm, 55, rfl⟩
abbrev main_while0b_call3_c : Ref sig .tc := ⟨.hbm, 56, rfl⟩
abbrev main_while0b_v27 : Ref sig .tc := ⟨.hbm, 57, rfl⟩
abbrev main_while0b_call4_v0 : Ref sig .tc := ⟨.hbm, 58, rfl⟩
abbrev main_while0b_v28 : Ref sig .tc := ⟨.hbm, 59, rfl⟩
abbrev main_while0b_c_18 : Ref sig .tc := ⟨.hbm, 60, rfl⟩
abbrev main_while0b_v29 : Ref sig .tc := ⟨.hbm, 61, rfl⟩

abbrev nD : Nat := 1
abbrev τ : Topo := Topo.v7x

variable {F : FTy → Type} [FloatOps F]

abbrev main_while0_count : Scf.Loop 32 := ⟨0#32, 1024#32, 1#32⟩
-- ==== Proof.S1Names.lean ====
/-
  Stage 1 of the kernel, names: the blocks of the spike array that the kernel copies by hand, the slots of
  its double buffer and the semaphores of the copies, with the closed forms of the printed offsets.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Regions
public import Idealize.ShloMosaic.Lib.Pipeline.KitQuiescent
public import Idealize.ShloMosaic.Lib.Pipeline.RegionsLoop
public import Idealize.ShloMosaic.Lib.Ring
public import Idealize.ShloMosaic.Lib.Affine
public import Idealize.ShloMosaic.Lib.Tactic

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters that the kernel's own copies use. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## Points, blocks, slots, semaphores -/

/-- The grid point as a number below 16. -/
abbrev pt (t : Fin cfg0.N) : Fin 16 := t.cast N_0
/-- The half of the double buffer that a point uses. -/
abbrev par (p : Fin 16) : Fin 2 := ⟨p.val % 2, Nat.mod_lt _ (by decide)⟩
/-- The point after `p` (wrapping at the end, where it is not used). -/
abbrev nx (p : Fin 16) : Fin 16 := ⟨(p.val + 1) % 16, Nat.mod_lt _ (by decide)⟩

abbrev aM : Memref sig .tc .hbm S1024x32768 .f32 := Memref.whole main_arg0
abbrev bufM : Memref sig .tc .vmem S2x512x8x512 .f32 := Memref.whole cc0_scratch2

abbrev grpOff (p : Fin 16) (q : Fin 8) : Fin 2 → Nat := ![(p.val % 2) * 512, (p.val / 2) * 4096 + q.val * 512]
theorem grpOff_inb (p : Fin 16) (q : Fin 8) : ∀ a, grpOff p q a + S512x512.size a ≤ S1024x32768.size a := by
  have := p.isLt; have := q.isLt; intro a; fin_cases a
  · show p.val % 2 * 512 + 512 ≤ 1024; omega
  · show p.val / 2 * 4096 + q.val * 512 + 512 ≤ 32768; omega
abbrev slotOff (b : Fin 2) (q : Fin 8) : Fin 4 → Nat := ![b.val, 0, q.val, 0]
theorem slotOff_inb (b : Fin 2) (q : Fin 8) : ∀ a, slotOff b q a + S1x512x1x512.size a ≤ S2x512x8x512.size a := by
  have := b.isLt; have := q.isLt; intro a; fin_cases a
  · show b.val + 1 ≤ 2; omega
  · show 0 + 512 ≤ 512; omega
  · show q.val + 1 ≤ 8; omega
  · show 0 + 512 ≤ 512; omega
abbrev semOff (b : Fin 2) (q : Fin 8) : Fin 2 → Nat := ![b.val, q.val]
theorem semOff_inb (b : Fin 2) (q : Fin 8) : ∀ a, semOff b q a + S1x1.size a ≤ S2x8.size a := by
  have := b.isLt; have := q.isLt; intro a; fin_cases a
  · show b.val + 1 ≤ 2; omega
  · show q.val + 1 ≤ 8; omega

/-- Block `q` of point `p`'s tile of the spike array. -/
def grp (p : Fin 16) (q : Fin 8) : Memref sig .tc .hbm S512x512 .f32 :=
  aM.slice (Rect.unit (s := S1024x32768) (grpOff p q) S512x512.size (grpOff_inb p q)) (fun _ => rfl)
/-- Slot `q` of half `b` of the double buffer, as the body slices and squeezes it. -/
def rslot (b : Fin 2) (q : Fin 8) : Memref sig .tc .vmem S512x512 .f32 :=
  (bufM.slice (Rect.unit (s := S2x512x8x512) (slotOff b q) S1x512x1x512.size (slotOff_inb b q)) (fun _ => rfl)).squeeze S512x512 squeezes_S1x512x1x512_S512x512
/-- The semaphore of slot `q` of half `b`. -/
def csm (b : Fin 2) (q : Fin 8) : DmaSems sig S_ := (cc0_scratch3.slice (Rect.unit (s := S2x8) (semOff b q) S1x1.size (semOff_inb b q))).squeeze S_ squeezes_S1x1_S_

instance (b : Fin 2) (q : Fin 8) : ClosedOff (slotOff b q) := ⟨slotOff b q, rfl⟩
instance (p : Fin 16) (q : Fin 8) : ClosedOff (grpOff p q) := ⟨grpOff p q, rfl⟩

/-! ## The printed offsets in closed form, by evaluation at the sixteen points -/

theorem cond2_iff : ∀ t : Fin cfg0.N, k0_cond2 (grid0.coords t) = 1#1 ↔ t.val = 0 := by decide +kernel
theorem cond3_iff : ∀ t : Fin cfg0.N, k0_cond3 (grid0.coords t) = 1#1 ↔ t.val < 15 := by decide +kernel
/-- The point's two coordinates. -/
theorem coord0 : ∀ t : Fin cfg0.N, ((grid0.coords t) 0).val = t.val / 2 := by decide +kernel
theorem coord1 : ∀ t : Fin cfg0.N, ((grid0.coords t) 1).val = t.val % 2 := by decide +kernel
theorem cond1_iff : ∀ t : Fin cfg0.N, Scalar.cmpi .ne (Scalar.extui (Scalar.cmpi .eq (BitVec.ofNat 32 ((grid0.coords t) 1).val) 0#32) : BitVec 32) 0#32 = 1#1 ↔ t.val % 2 = 0 := by decide +kernel

theorem off2_eq : ∀ t : Fin cfg0.N, k0_cond3 (grid0.coords t) = 1#1 → k0_off2 (grid0.coords t) = semOff (par (nx (pt t))) 0 := by decide +kernel
theorem off3_eq : ∀ t : Fin cfg0.N, k0_cond3 (grid0.coords t) = 1#1 → k0_off3 (grid0.coords t) = slotOff (par (nx (pt t))) 0 := by decide +kernel
theorem off19_eq : ∀ t : Fin cfg0.N, k0_off19 (grid0.coords t) = semOff (par (pt t)) 0 := by decide +kernel
theorem off20_eq : ∀ t : Fin cfg0.N, k0_off20 (grid0.coords t) = slotOff (par (pt t)) 0 := by decide +kernel
theorem off5_eq : ∀ t : Fin cfg0.N, k0_cond3 (grid0.coords t) = 1#1 → k0_off5 (grid0.coords t) = semOff (par (nx (pt t))) 1 := by decide +kernel
theorem off6_eq : ∀ t : Fin cfg0.N, k0_cond3 (grid0.coords t) = 1#1 → k0_off6 (grid0.coords t) = slotOff (par (nx (pt t))) 1 := by decide +kernel
theorem off22_eq : ∀ t : Fin cfg0.N, k0_off22 (grid0.coords t) = semOff (par (pt t)) 1 := by decide +kernel
theorem off23_eq : ∀ t : Fin cfg0.N, k0_off23 (grid0.coords t) = slotOff (par (pt t)) 1 := by decide +kernel
theorem off7_eq : ∀ t : Fin cfg0.N, k0_cond3 (grid0.coords t) = 1#1 → k0_off7 (grid0.coords t) = semOff (par (nx (pt t))) 2 := by decide +kernel
theorem off8_eq : ∀ t : Fin cfg0.N, k0_cond3 (grid0.coords t) = 1#1 → k0_off8 (grid0.coords t) = slotOff (par (nx (pt t))) 2 := by decide +kernel
theorem off24_eq : ∀ t : Fin cfg0.N, k0_off24 (grid0.coords t) = semOff (par (pt t)) 2 := by decide +kernel
theorem off25_eq : ∀ t : Fin cfg0.N, k0_off25 (grid0.coords t) = slotOff (par (pt t)) 2 := by decide +kernel
theorem off9_eq : ∀ t : Fin cfg0.N, k0_cond3 (grid0.coords t) = 1#1 → k0_off9 (grid0.coords t) = semOff (par (nx (pt t))) 3 := by decide +kernel
theorem off10_eq : ∀ t : Fin cfg0.N, k0_cond3 (grid0.coords t) = 1#1 → k0_off10 (grid0.coords t) = slotOff (par (nx (pt t))) 3 := by decide +kernel
theorem off26_eq : ∀ t : Fin cfg0.N, k0_off26 (grid0.coords t) = semOff (par (pt t)) 3 := by decide +kernel
theorem off27_eq : ∀ t : Fin cfg0.N, k0_off27 (grid0.coords t) = slotOff (par (pt t)) 3 := by decide +kernel
theorem off11_eq : ∀ t : Fin cfg0.N, k0_cond3 (grid0.coords t) = 1#1 → k0_off11 (grid0.coords t) = semOff (par (nx (pt t))) 4 := by decide +kernel
theorem off12_eq : ∀ t : Fin cfg0.N, k0_cond3 (grid0.coords t) = 1#1 → k0_off12 (grid0.coords t) = slotOff (par (nx (pt t))) 4 := by decide +kernel
theorem off28_eq : ∀ t : Fin cfg0.N, k0_off28 (grid0.coords t) = semOff (par (pt t)) 4 := by decide +kernel
theorem off29_eq : ∀ t : Fin cfg0.N, k0_off29 (grid0.coords t) = slotOff (par (pt t)) 4 := by decide +kernel
theorem off13_eq : ∀ t : Fin cfg0.N, k0_cond3 (grid0.coords t) = 1#1 → k0_off13 (grid0.coords t) = semOff (par (nx (pt t))) 5 := by decide +kernel
theorem off14_eq : ∀ t : Fin cfg0.N, k0_cond3 (grid0.coords t) = 1#1 → k0_off14 (grid0.coords t) = slotOff (par (nx (pt t))) 5 := by decide +kernel
theorem off30_eq : ∀ t : Fin cfg0.N, k0_off30 (grid0.coords t) = semOff (par (pt t)) 5 := by decide +kernel
theorem off31_eq : ∀ t : Fin cfg0.N, k0_off31 (grid0.coords t) = slotOff (par (pt t)) 5 := by decide +kernel
theorem off15_eq : ∀ t : Fin cfg0.N, k0_cond3 (grid0.coords t) = 1#1 → k0_off15 (grid0.coords t) = semOff (par (nx (pt t))) 6 := by decide +kernel
theorem off16_eq : ∀ t : Fin cfg0.N, k0_cond3 (grid0.coords t) = 1#1 → k0_off16 (grid0.coords t) = slotOff (par (nx (pt t))) 6 := by decide +kernel
theorem off32_eq : ∀ t : Fin cfg0.N, k0_off32 (grid0.coords t) = semOff (par (pt t)) 6 := by decide +kernel
theorem off33_eq : ∀ t : Fin cfg0.N, k0_off33 (grid0.coords t) = slotOff (par (pt t)) 6 := by decide +kernel
theorem off17_eq : ∀ t : Fin cfg0.N, k0_cond3 (grid0.coords t) = 1#1 → k0_off17 (grid0.coords t) = semOff (par (nx (pt t))) 7 := by decide +kernel
theorem off18_eq : ∀ t : Fin cfg0.N, k0_cond3 (grid0.coords t) = 1#1 → k0_off18 (grid0.coords t) = slotOff (par (nx (pt t))) 7 := by decide +kernel
theorem off34_eq : ∀ t : Fin cfg0.N, k0_off34 (grid0.coords t) = semOff (par (pt t)) 7 := by decide +kernel
theorem off35_eq : ∀ t : Fin cfg0.N, k0_off35 (grid0.coords t) = slotOff (par (pt t)) 7 := by decide +kernel
theorem off1_eq : ∀ (t : Fin cfg0.N) (q : Fin 8), k0_cond2 (grid0.coords t) = 1#1 → k0_off1 (grid0.coords t) (BitVec.ofNat 32 (512 * q.val)) = grpOff 0 q := by decide +kernel
theorem off4_eq : ∀ (t : Fin cfg0.N) (q : Fin 8), k0_cond3 (grid0.coords t) = 1#1 → k0_off4 (grid0.coords t) (BitVec.ofNat 32 (512 * q.val)) = grpOff (nx (pt t)) q := by decide +kernel
theorem off21_eq : ∀ (t : Fin cfg0.N) (q : Fin 8), k0_off21 (grid0.coords t) (BitVec.ofNat 32 (512 * q.val)) = grpOff (pt t) q := by decide +kernel

/-! ## The body's slices under their names -/

section Canon

private theorem csm_congr {off : Fin 2 → Nat} {b : Fin 2} {q : Fin 8} (e : off = semOff b q) (hh) :
    (cc0_scratch3.slice (Rect.unit (s := S2x8) off S1x1.size hh)).squeeze S_ squeezes_S1x1_S_ = csm b q :=
  congrArg (fun A : DmaSems sig S1x1 => A.squeeze S_ squeezes_S1x1_S_) (SemArray.slice_unit_congr _ e _ _)
private theorem rslot_congr {off : Fin 4 → Nat} {b : Fin 2} {q : Fin 8} (e : off = slotOff b q) (hh hs) :
    (bufM.slice (Rect.unit (s := S2x512x8x512) off S1x512x1x512.size hh) hs).squeeze S512x512 squeezes_S1x512x1x512_S512x512 = rslot b q :=
  congrArg (fun M : Memref sig .tc .vmem S1x512x1x512 .f32 => M.squeeze S512x512 squeezes_S1x512x1x512_S512x512) (Memref.slice_unit_congr _ e _ _ _ _)
private theorem grp_congr {off : Fin 2 → Nat} {p : Fin 16} {q : Fin 8} (e : off = grpOff p q) (hh hs) :
    aM.slice (Rect.unit (s := S1024x32768) off S512x512.size hh) hs = grp p q := Memref.slice_unit_congr _ e _ _ _ (fun _ => rfl)

@[sl_canon] theorem semL0 (hh) : (cc0_scratch3.slice (Rect.unit (s := S2x8) (![0, 0]) S1x1.size hh)).squeeze S_ squeezes_S1x1_S_ = csm 0 0 := csm_congr (by decide) _
@[sl_canon] theorem slotL0 (hh hs) : (bufM.slice (Rect.unit (s := S2x512x8x512) (![0, 0, 0, 0]) S1x512x1x512.size hh) hs).squeeze S512x512 squeezes_S1x512x1x512_S512x512 = rslot 0 0 := rslot_congr (by decide) _ _
@[sl_canon] theorem grpL0 (t : Fin cfg0.N) (h2 : k0_cond2 (grid0.coords t) = 1#1) (hh hs) : aM.slice (Rect.unit (s := S1024x32768) (k0_off1 (grid0.coords t) 0#32) S512x512.size hh) hs = grp 0 0 := grp_congr (off1_eq t 0 h2) _ _
@[sl_canon] theorem semN0 (t : Fin cfg0.N) (h3 : k0_cond3 (grid0.coords t) = 1#1) (hh) : (cc0_scratch3.slice (Rect.unit (s := S2x8) (k0_off2 (grid0.coords t)) S1x1.size hh)).squeeze S_ squeezes_S1x1_S_ = csm (par (nx (pt t))) 0 := csm_congr (off2_eq t h3) _
@[sl_canon] theorem slotN0 (t : Fin cfg0.N) (h3 : k0_cond3 (grid0.coords t) = 1#1) (hh hs) : (bufM.slice (Rect.unit (s := S2x512x8x512) (k0_off3 (grid0.coords t)) S1x512x1x512.size hh) hs).squeeze S512x512 squeezes_S1x512x1x512_S512x512 = rslot (par (nx (pt t))) 0 := rslot_congr (off3_eq t h3) _ _
@[sl_canon] theorem grpN0 (t : Fin cfg0.N) (h3 : k0_cond3 (grid0.coords t) = 1#1) (hh hs) : aM.slice (Rect.unit (s := S1024x32768) (k0_off4 (grid0.coords t) 0#32) S512x512.size hh) hs = grp (nx (pt t)) 0 := grp_congr (off4_eq t 0 h3) _ _
@[sl_canon] theorem semW0 (t : Fin cfg0.N) (hh) : (cc0_scratch3.slice (Rect.unit (s := S2x8) (k0_off19 (grid0.coords t)) S1x1.size hh)).squeeze S_ squeezes_S1x1_S_ = csm (par (pt t)) 0 := csm_congr (off19_eq t) _
@[sl_canon] theorem slotW0 (t : Fin cfg0.N) (hh hs) : (bufM.slice (Rect.unit (s := S2x512x8x512) (k0_off20 (grid0.coords t)) S1x512x1x512.size hh) hs).squeeze S512x512 squeezes_S1x512x1x512_S512x512 = rslot (par (pt t)) 0 := rslot_congr (off20_eq t) _ _
@[sl_canon] theorem grpW0 (t : Fin cfg0.N) (hh hs) : aM.slice (Rect.unit (s := S1024x32768) (k0_off21 (grid0.coords t) 0#32) S512x512.size hh) hs = grp (pt t) 0 := grp_congr (off21_eq t 0) _ _
@[sl_canon] theorem semL1 (hh) : (cc0_scratch3.slice (Rect.unit (s := S2x8) (![0, 1]) S1x1.size hh)).squeeze S_ squeezes_S1x1_S_ = csm 0 1 := csm_congr (by decide) _
@[sl_canon] theorem slotL1 (hh hs) : (bufM.slice (Rect.unit (s := S2x512x8x512) (![0, 0, 1, 0]) S1x512x1x512.size hh) hs).squeeze S512x512 squeezes_S1x512x1x512_S512x512 = rslot 0 1 := rslot_congr (by decide) _ _
@[sl_canon] theorem grpL1 (t : Fin cfg0.N) (h2 : k0_cond2 (grid0.coords t) = 1#1) (hh hs) : aM.slice (Rect.unit (s := S1024x32768) (k0_off1 (grid0.coords t) 512#32) S512x512.size hh) hs = grp 0 1 := grp_congr (off1_eq t 1 h2) _ _
@[sl_canon] theorem semN1 (t : Fin cfg0.N) (h3 : k0_cond3 (grid0.coords t) = 1#1) (hh) : (cc0_scratch3.slice (Rect.unit (s := S2x8) (k0_off5 (grid0.coords t)) S1x1.size hh)).squeeze S_ squeezes_S1x1_S_ = csm (par (nx (pt t))) 1 := csm_congr (off5_eq t h3) _
@[sl_canon] theorem slotN1 (t : Fin cfg0.N) (h3 : k0_cond3 (grid0.coords t) = 1#1) (hh hs) : (bufM.slice (Rect.unit (s := S2x512x8x512) (k0_off6 (grid0.coords t)) S1x512x1x512.size hh) hs).squeeze S512x512 squeezes_S1x512x1x512_S512x512 = rslot (par (nx (pt t))) 1 := rslot_congr (off6_eq t h3) _ _
@[sl_canon] theorem grpN1 (t : Fin cfg0.N) (h3 : k0_cond3 (grid0.coords t) = 1#1) (hh hs) : aM.slice (Rect.unit (s := S1024x32768) (k0_off4 (grid0.coords t) 512#32) S512x512.size hh) hs = grp (nx (pt t)) 1 := grp_congr (off4_eq t 1 h3) _ _
@[sl_canon] theorem semW1 (t : Fin cfg0.N) (hh) : (cc0_scratch3.slice (Rect.unit (s := S2x8) (k0_off22 (grid0.coords t)) S1x1.size hh)).squeeze S_ squeezes_S1x1_S_ = csm (par (pt t)) 1 := csm_congr (off22_eq t) _
@[sl_canon] theorem slotW1 (t : Fin cfg0.N) (hh hs) : (bufM.slice (Rect.unit (s := S2x512x8x512) (k0_off23 (grid0.coords t)) S1x512x1x512.size hh) hs).squeeze S512x512 squeezes_S1x512x1x512_S512x512 = rslot (par (pt t)) 1 := rslot_congr (off23_eq t) _ _
@[sl_canon] theorem grpW1 (t : Fin cfg0.N) (hh hs) : aM.slice (Rect.unit (s := S1024x32768) (k0_off21 (grid0.coords t) 512#32) S512x512.size hh) hs = grp (pt t) 1 := grp_congr (off21_eq t 1) _ _
@[sl_canon] theorem semL2 (hh) : (cc0_scratch3.slice (Rect.unit (s := S2x8) (![0, 2]) S1x1.size hh)).squeeze S_ squeezes_S1x1_S_ = csm 0 2 := csm_congr (by decide) _
@[sl_canon] theorem slotL2 (hh hs) : (bufM.slice (Rect.unit (s := S2x512x8x512) (![0, 0, 2, 0]) S1x512x1x512.size hh) hs).squeeze S512x512 squeezes_S1x512x1x512_S512x512 = rslot 0 2 := rslot_congr (by decide) _ _
@[sl_canon] theorem grpL2 (t : Fin cfg0.N) (h2 : k0_cond2 (grid0.coords t) = 1#1) (hh hs) : aM.slice (Rect.unit (s := S1024x32768) (k0_off1 (grid0.coords t) 1024#32) S512x512.size hh) hs = grp 0 2 := grp_congr (off1_eq t 2 h2) _ _
@[sl_canon] theorem semN2 (t : Fin cfg0.N) (h3 : k0_cond3 (grid0.coords t) = 1#1) (hh) : (cc0_scratch3.slice (Rect.unit (s := S2x8) (k0_off7 (grid0.coords t)) S1x1.size hh)).squeeze S_ squeezes_S1x1_S_ = csm (par (nx (pt t))) 2 := csm_congr (off7_eq t h3) _
@[sl_canon] theorem slotN2 (t : Fin cfg0.N) (h3 : k0_cond3 (grid0.coords t) = 1#1) (hh hs) : (bufM.slice (Rect.unit (s := S2x512x8x512) (k0_off8 (grid0.coords t)) S1x512x1x512.size hh) hs).squeeze S512x512 squeezes_S1x512x1x512_S512x512 = rslot (par (nx (pt t))) 2 := rslot_congr (off8_eq t h3) _ _
@[sl_canon] theorem grpN2 (t : Fin cfg0.N) (h3 : k0_cond3 (grid0.coords t) = 1#1) (hh hs) : aM.slice (Rect.unit (s := S1024x32768) (k0_off4 (grid0.coords t) 1024#32) S512x512.size hh) hs = grp (nx (pt t)) 2 := grp_congr (off4_eq t 2 h3) _ _
@[sl_canon] theorem semW2 (t : Fin cfg0.N) (hh) : (cc0_scratch3.slice (Rect.unit (s := S2x8) (k0_off24 (grid0.coords t)) S1x1.size hh)).squeeze S_ squeezes_S1x1_S_ = csm (par (pt t)) 2 := csm_congr (off24_eq t) _
@[sl_canon] theorem slotW2 (t : Fin cfg0.N) (hh hs) : (bufM.slice (Rect.unit (s := S2x512x8x512) (k0_off25 (grid0.coords t)) S1x512x1x512.size hh) hs).squeeze S512x512 squeezes_S1x512x1x512_S512x512 = rslot (par (pt t)) 2 := rslot_congr (off25_eq t) _ _
@[sl_canon] theorem grpW2 (t : Fin cfg0.N) (hh hs) : aM.slice (Rect.unit (s := S1024x32768) (k0_off21 (grid0.coords t) 1024#32) S512x512.size hh) hs = grp (pt t) 2 := grp_congr (off21_eq t 2) _ _
@[sl_canon] theorem semL3 (hh) : (cc0_scratch3.slice (Rect.unit (s := S2x8) (![0, 3]) S1x1.size hh)).squeeze S_ squeezes_S1x1_S_ = csm 0 3 := csm_congr (by decide) _
@[sl_canon] theorem slotL3 (hh hs) : (bufM.slice (Rect.unit (s := S2x512x8x512) (![0, 0, 3, 0]) S1x512x1x512.size hh) hs).squeeze S512x512 squeezes_S1x512x1x512_S512x512 = rslot 0 3 := rslot_congr (by decide) _ _
@[sl_canon] theorem grpL3 (t : Fin cfg0.N) (h2 : k0_cond2 (grid0.coords t) = 1#1) (hh hs) : aM.slice (Rect.unit (s := S1024x32768) (k0_off1 (grid0.coords t) 1536#32) S512x512.size hh) hs = grp 0 3 := grp_congr (off1_eq t 3 h2) _ _
@[sl_canon] theorem semN3 (t : Fin cfg0.N) (h3 : k0_cond3 (grid0.coords t) = 1#1) (hh) : (cc0_scratch3.slice (Rect.unit (s := S2x8) (k0_off9 (grid0.coords t)) S1x1.size hh)).squeeze S_ squeezes_S1x1_S_ = csm (par (nx (pt t))) 3 := csm_congr (off9_eq t h3) _
@[sl_canon] theorem slotN3 (t : Fin cfg0.N) (h3 : k0_cond3 (grid0.coords t) = 1#1) (hh hs) : (bufM.slice (Rect.unit (s := S2x512x8x512) (k0_off10 (grid0.coords t)) S1x512x1x512.size hh) hs).squeeze S512x512 squeezes_S1x512x1x512_S512x512 = rslot (par (nx (pt t))) 3 := rslot_congr (off10_eq t h3) _ _
@[sl_canon] theorem grpN3 (t : Fin cfg0.N) (h3 : k0_cond3 (grid0.coords t) = 1#1) (hh hs) : aM.slice (Rect.unit (s := S1024x32768) (k0_off4 (grid0.coords t) 1536#32) S512x512.size hh) hs = grp (nx (pt t)) 3 := grp_congr (off4_eq t 3 h3) _ _
@[sl_canon] theorem semW3 (t : Fin cfg0.N) (hh) : (cc0_scratch3.slice (Rect.unit (s := S2x8) (k0_off26 (grid0.coords t)) S1x1.size hh)).squeeze S_ squeezes_S1x1_S_ = csm (par (pt t)) 3 := csm_congr (off26_eq t) _
@[sl_canon] theorem slotW3 (t : Fin cfg0.N) (hh hs) : (bufM.slice (Rect.unit (s := S2x512x8x512) (k0_off27 (grid0.coords t)) S1x512x1x512.size hh) hs).squeeze S512x512 squeezes_S1x512x1x512_S512x512 = rslot (par (pt t)) 3 := rslot_congr (off27_eq t) _ _
@[sl_canon] theorem grpW3 (t : Fin cfg0.N) (hh hs) : aM.slice (Rect.unit (s := S1024x32768) (k0_off21 (grid0.coords t) 1536#32) S512x512.size hh) hs = grp (pt t) 3 := grp_congr (off21_eq t 3) _ _
@[sl_canon] theorem semL4 (hh) : (cc0_scratch3.slice (Rect.unit (s := S2x8) (![0, 4]) S1x1.size hh)).squeeze S_ squeezes_S1x1_S_ = csm 0 4 := csm_congr (by decide) _
@[sl_canon] theorem slotL4 (hh hs) : (bufM.slice (Rect.unit (s := S2x512x8x512) (![0, 0, 4, 0]) S1x512x1x512.size hh) hs).squeeze S512x512 squeezes_S1x512x1x512_S512x512 = rslot 0 4 := rslot_congr (by decide) _ _
@[sl_canon] theorem grpL4 (t : Fin cfg0.N) (h2 : k0_cond2 (grid0.coords t) = 1#1) (hh hs) : aM.slice (Rect.unit (s := S1024x32768) (k0_off1 (grid0.coords t) 2048#32) S512x512.size hh) hs = grp 0 4 := grp_congr (off1_eq t 4 h2) _ _
@[sl_canon] theorem semN4 (t : Fin cfg0.N) (h3 : k0_cond3 (grid0.coords t) = 1#1) (hh) : (cc0_scratch3.slice (Rect.unit (s := S2x8) (k0_off11 (grid0.coords t)) S1x1.size hh)).squeeze S_ squeezes_S1x1_S_ = csm (par (nx (pt t))) 4 := csm_congr (off11_eq t h3) _
@[sl_canon] theorem slotN4 (t : Fin cfg0.N) (h3 : k0_cond3 (grid0.coords t) = 1#1) (hh hs) : (bufM.slice (Rect.unit (s := S2x512x8x512) (k0_off12 (grid0.coords t)) S1x512x1x512.size hh) hs).squeeze S512x512 squeezes_S1x512x1x512_S512x512 = rslot (par (nx (pt t))) 4 := rslot_congr (off12_eq t h3) _ _
@[sl_canon] theorem grpN4 (t : Fin cfg0.N) (h3 : k0_cond3 (grid0.coords t) = 1#1) (hh hs) : aM.slice (Rect.unit (s := S1024x32768) (k0_off4 (grid0.coords t) 2048#32) S512x512.size hh) hs = grp (nx (pt t)) 4 := grp_congr (off4_eq t 4 h3) _ _
@[sl_canon] theorem semW4 (t : Fin cfg0.N) (hh) : (cc0_scratch3.slice (Rect.unit (s := S2x8) (k0_off28 (grid0.coords t)) S1x1.size hh)).squeeze S_ squeezes_S1x1_S_ = csm (par (pt t)) 4 := csm_congr (off28_eq t) _
@[sl_canon] theorem slotW4 (t : Fin cfg0.N) (hh hs) : (bufM.slice (Rect.unit (s := S2x512x8x512) (k0_off29 (grid0.coords t)) S1x512x1x512.size hh) hs).squeeze S512x512 squeezes_S1x512x1x512_S512x512 = rslot (par (pt t)) 4 := rslot_congr (off29_eq t) _ _
@[sl_canon] theorem grpW4 (t : Fin cfg0.N) (hh hs) : aM.slice (Rect.unit (s := S1024x32768) (k0_off21 (grid0.coords t) 2048#32) S512x512.size hh) hs = grp (pt t) 4 := grp_congr (off21_eq t 4) _ _
@[sl_canon] theorem semL5 (hh) : (cc0_scratch3.slice (Rect.unit (s := S2x8) (![0, 5]) S1x1.size hh)).squeeze S_ squeezes_S1x1_S_ = csm 0 5 := csm_congr (by decide) _
@[sl_canon] theorem slotL5 (hh hs) : (bufM.slice (Rect.unit (s := S2x512x8x512) (![0, 0, 5, 0]) S1x512x1x512.size hh) hs).squeeze S512x512 squeezes_S1x512x1x512_S512x512 = rslot 0 5 := rslot_congr (by decide) _ _
@[sl_canon] theorem grpL5 (t : Fin cfg0.N) (h2 : k0_cond2 (grid0.coords t) = 1#1) (hh hs) : aM.slice (Rect.unit (s := S1024x32768) (k0_off1 (grid0.coords t) 2560#32) S512x512.size hh) hs = grp 0 5 := grp_congr (off1_eq t 5 h2) _ _
@[sl_canon] theorem semN5 (t : Fin cfg0.N) (h3 : k0_cond3 (grid0.coords t) = 1#1) (hh) : (cc0_scratch3.slice (Rect.unit (s := S2x8) (k0_off13 (grid0.coords t)) S1x1.size hh)).squeeze S_ squeezes_S1x1_S_ = csm (par (nx (pt t))) 5 := csm_congr (off13_eq t h3) _
@[sl_canon] theorem slotN5 (t : Fin cfg0.N) (h3 : k0_cond3 (grid0.coords t) = 1#1) (hh hs) : (bufM.slice (Rect.unit (s := S2x512x8x512) (k0_off14 (grid0.coords t)) S1x512x1x512.size hh) hs).squeeze S512x512 squeezes_S1x512x1x512_S512x512 = rslot (par (nx (pt t))) 5 := rslot_congr (off14_eq t h3) _ _
@[sl_canon] theorem grpN5 (t : Fin cfg0.N) (h3 : k0_cond3 (grid0.coords t) = 1#1) (hh hs) : aM.slice (Rect.unit (s := S1024x32768) (k0_off4 (grid0.coords t) 2560#32) S512x512.size hh) hs = grp (nx (pt t)) 5 := grp_congr (off4_eq t 5 h3) _ _
@[sl_canon] theorem semW5 (t : Fin cfg0.N) (hh) : (cc0_scratch3.slice (Rect.unit (s := S2x8) (k0_off30 (grid0.coords t)) S1x1.size hh)).squeeze S_ squeezes_S1x1_S_ = csm (par (pt t)) 5 := csm_congr (off30_eq t) _
@[sl_canon] theorem slotW5 (t : Fin cfg0.N) (hh hs) : (bufM.slice (Rect.unit (s := S2x512x8x512) (k0_off31 (grid0.coords t)) S1x512x1x512.size hh) hs).squeeze S512x512 squeezes_S1x512x1x512_S512x512 = rslot (par (pt t)) 5 := rslot_congr (off31_eq t) _ _
@[sl_canon] theorem grpW5 (t : Fin cfg0.N) (hh hs) : aM.slice (Rect.unit (s := S1024x32768) (k0_off21 (grid0.coords t) 2560#32) S512x512.size hh) hs = grp (pt t) 5 := grp_congr (off21_eq t 5) _ _
@[sl_canon] theorem semL6 (hh) : (cc0_scratch3.slice (Rect.unit (s := S2x8) (![0, 6]) S1x1.size hh)).squeeze S_ squeezes_S1x1_S_ = csm 0 6 := csm_congr (by decide) _
@[sl_canon] theorem slotL6 (hh hs) : (bufM.slice (Rect.unit (s := S2x512x8x512) (![0, 0, 6, 0]) S1x512x1x512.size hh) hs).squeeze S512x512 squeezes_S1x512x1x512_S512x512 = rslot 0 6 := rslot_congr (by decide) _ _
@[sl_canon] theorem grpL6 (t : Fin cfg0.N) (h2 : k0_cond2 (grid0.coords t) = 1#1) (hh hs) : aM.slice (Rect.unit (s := S1024x32768) (k0_off1 (grid0.coords t) 3072#32) S512x512.size hh) hs = grp 0 6 := grp_congr (off1_eq t 6 h2) _ _
@[sl_canon] theorem semN6 (t : Fin cfg0.N) (h3 : k0_cond3 (grid0.coords t) = 1#1) (hh) : (cc0_scratch3.slice (Rect.unit (s := S2x8) (k0_off15 (grid0.coords t)) S1x1.size hh)).squeeze S_ squeezes_S1x1_S_ = csm (par (nx (pt t))) 6 := csm_congr (off15_eq t h3) _
@[sl_canon] theorem slotN6 (t : Fin cfg0.N) (h3 : k0_cond3 (grid0.coords t) = 1#1) (hh hs) : (bufM.slice (Rect.unit (s := S2x512x8x512) (k0_off16 (grid0.coords t)) S1x512x1x512.size hh) hs).squeeze S512x512 squeezes_S1x512x1x512_S512x512 = rslot (par (nx (pt t))) 6 := rslot_congr (off16_eq t h3) _ _
@[sl_canon] theorem grpN6 (t : Fin cfg0.N) (h3 : k0_cond3 (grid0.coords t) = 1#1) (hh hs) : aM.slice (Rect.unit (s := S1024x32768) (k0_off4 (grid0.coords t) 3072#32) S512x512.size hh) hs = grp (nx (pt t)) 6 := grp_congr (off4_eq t 6 h3) _ _
@[sl_canon] theorem semW6 (t : Fin cfg0.N) (hh) : (cc0_scratch3.slice (Rect.unit (s := S2x8) (k0_off32 (grid0.coords t)) S1x1.size hh)).squeeze S_ squeezes_S1x1_S_ = csm (par (pt t)) 6 := csm_congr (off32_eq t) _
@[sl_canon] theorem slotW6 (t : Fin cfg0.N) (hh hs) : (bufM.slice (Rect.unit (s := S2x512x8x512) (k0_off33 (grid0.coords t)) S1x512x1x512.size hh) hs).squeeze S512x512 squeezes_S1x512x1x512_S512x512 = rslot (par (pt t)) 6 := rslot_congr (off33_eq t) _ _
@[sl_canon] theorem grpW6 (t : Fin cfg0.N) (hh hs) : aM.slice (Rect.unit (s := S1024x32768) (k0_off21 (grid0.coords t) 3072#32) S512x512.size hh) hs = grp (pt t) 6 := grp_congr (off21_eq t 6) _ _
@[sl_canon] theorem semL7 (hh) : (cc0_scratch3.slice (Rect.unit (s := S2x8) (![0, 7]) S1x1.size hh)).squeeze S_ squeezes_S1x1_S_ = csm 0 7 := csm_congr (by decide) _
@[sl_canon] theorem slotL7 (hh hs) : (bufM.slice (Rect.unit (s := S2x512x8x512) (![0, 0, 7, 0]) S1x512x1x512.size hh) hs).squeeze S512x512 squeezes_S1x512x1x512_S512x512 = rslot 0 7 := rslot_congr (by decide) _ _
@[sl_canon] theorem grpL7 (t : Fin cfg0.N) (h2 : k0_cond2 (grid0.coords t) = 1#1) (hh hs) : aM.slice (Rect.unit (s := S1024x32768) (k0_off1 (grid0.coords t) 3584#32) S512x512.size hh) hs = grp 0 7 := grp_congr (off1_eq t 7 h2) _ _
@[sl_canon] theorem semN7 (t : Fin cfg0.N) (h3 : k0_cond3 (grid0.coords t) = 1#1) (hh) : (cc0_scratch3.slice (Rect.unit (s := S2x8) (k0_off17 (grid0.coords t)) S1x1.size hh)).squeeze S_ squeezes_S1x1_S_ = csm (par (nx (pt t))) 7 := csm_congr (off17_eq t h3) _
@[sl_canon] theorem slotN7 (t : Fin cfg0.N) (h3 : k0_cond3 (grid0.coords t) = 1#1) (hh hs) : (bufM.slice (Rect.unit (s := S2x512x8x512) (k0_off18 (grid0.coords t)) S1x512x1x512.size hh) hs).squeeze S512x512 squeezes_S1x512x1x512_S512x512 = rslot (par (nx (pt t))) 7 := rslot_congr (off18_eq t h3) _ _
@[sl_canon] theorem grpN7 (t : Fin cfg0.N) (h3 : k0_cond3 (grid0.coords t) = 1#1) (hh hs) : aM.slice (Rect.unit (s := S1024x32768) (k0_off4 (grid0.coords t) 3584#32) S512x512.size hh) hs = grp (nx (pt t)) 7 := grp_congr (off4_eq t 7 h3) _ _
@[sl_canon] theorem semW7 (t : Fin cfg0.N) (hh) : (cc0_scratch3.slice (Rect.unit (s := S2x8) (k0_off34 (grid0.coords t)) S1x1.size hh)).squeeze S_ squeezes_S1x1_S_ = csm (par (pt t)) 7 := csm_congr (off34_eq t) _
@[sl_canon] theorem slotW7 (t : Fin cfg0.N) (hh hs) : (bufM.slice (Rect.unit (s := S2x512x8x512) (k0_off35 (grid0.coords t)) S1x512x1x512.size hh) hs).squeeze S512x512 squeezes_S1x512x1x512_S512x512 = rslot (par (pt t)) 7 := rslot_congr (off35_eq t) _ _
@[sl_canon] theorem grpW7 (t : Fin cfg0.N) (hh hs) : aM.slice (Rect.unit (s := S1024x32768) (k0_off21 (grid0.coords t) 3584#32) S512x512.size hh) hs = grp (pt t) 7 := grp_congr (off21_eq t 7) _ _

end Canon

/-! ## The pieces -/

section Pieces
variable (c : Dev nD) (XA : Buf (Elt F) (aM.view.loc (c : Thread nD τ)))

abbrev cellP (b : Fin 2) (q : Fin 8) : sProp 𝕄 := semVal ((c : Thread nD τ), SemLoc.dma (csm b q).sem) 0
abbrev slotP (b : Fin 2) (q : Fin 8) (f : Buf (Elt F) ((rslot b q).view.loc (c : Thread nD τ))) : sProp 𝕄 :=
  (rslot b q).view.loc (c : Thread nD τ) ↦[(rslot b q).view.set]{fullShare} f
/-- A block of the spike array, held at the array's contents. -/
abbrev homeP (p : Fin 16) (q : Fin 8) : sProp 𝕄 := (grp p q).view.loc (c : Thread nD τ) ↦[(grp p q).view.set]{fullShare} XA
/-- A block's words as a copy's payload. -/
abbrev payload (p : Fin 16) (q : Fin 8) : S512x512.Idx → Elt F .f32 := ReadAs.same.apply ((grp p q).view.read (Elt F) XA)
/-- What a copy of a block leaves in a slot over prior contents `f`. -/
abbrev landed (b : Fin 2) (p : Fin 16) (q : Fin 8) (f : Buf (Elt F) ((rslot b q).view.loc (c : Thread nD τ))) : Buf (Elt F) ((rslot b q).view.loc (c : Thread nD τ)) :=
  (rslot b q).view.writes (Elt F) f [⟨Rect.whole S512x512, payload c XA p q⟩]
/-- A copy in flight: a block going to its slot. -/
abbrev flightP (b : Fin 2) (p : Fin 16) (q : Fin 8) (f : Buf (Elt F) ((rslot b q).view.loc (c : Thread nD τ))) : sProp 𝕄 :=
  Transfers.Flight countersEmb (c : Thread nD τ) (SemLoc.dma (csm b q).sem) () 32768 iprop(slotP c b q (landed c XA b p q f) ∗ homeP c XA p q)

end Pieces

end Cert.Proof.Ideal

end
-- ==== Proof.S1Run.lean ====
/-
  Stage 1 of the kernel, the body's run at one grid point, part by part: the copies started, the copies awaited,
  the loop over the rows of the tile, the stores of the four results.
-/
module

public import proofs.«01_k».proof.Proof.S1Names
public import Idealize.ShloMosaic.Lib.VecWindow
public import Idealize.ShloMosaic.Lib.WritesUnit

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The eight copies of a point together -/

section Bundles
variable (c : Dev nD) (XA : Buf (Elt F) (aM.view.loc (c : Thread nD τ)))

/-- The eight blocks of point `p`, held at the spike array's contents. -/
def home8 (p : Fin 16) : sProp 𝕄 := iprop(homeP c XA p 0 ∗ homeP c XA p 1 ∗ homeP c XA p 2 ∗ homeP c XA p 3 ∗ homeP c XA p 4 ∗ homeP c XA p 5 ∗ homeP c XA p 6 ∗ homeP c XA p 7)
/-- Half `b` of the double buffer idle: its slots at any contents, its semaphores at zero. -/
def idle8 (b : Fin 2) : sProp 𝕄 := iprop((∃ f, slotP (F := F) c b 0 f) ∗ (∃ f, slotP (F := F) c b 1 f) ∗ (∃ f, slotP (F := F) c b 2 f) ∗ (∃ f, slotP (F := F) c b 3 f) ∗ (∃ f, slotP (F := F) c b 4 f) ∗ (∃ f, slotP (F := F) c b 5 f) ∗ (∃ f, slotP (F := F) c b 6 f) ∗ (∃ f, slotP (F := F) c b 7 f) ∗ cellP (F := F) c b 0 ∗ cellP (F := F) c b 1 ∗ cellP (F := F) c b 2 ∗ cellP (F := F) c b 3 ∗ cellP (F := F) c b 4 ∗ cellP (F := F) c b 5 ∗ cellP (F := F) c b 6 ∗ cellP (F := F) c b 7)
/-- The eight copies of point `p` in flight into half `b`. -/
def flight8 (b : Fin 2) (p : Fin 16) : sProp 𝕄 := iprop((∃ f, flightP c XA b p 0 f) ∗ (∃ f, flightP c XA b p 1 f) ∗ (∃ f, flightP c XA b p 2 f) ∗ (∃ f, flightP c XA b p 3 f) ∗ (∃ f, flightP c XA b p 4 f) ∗ (∃ f, flightP c XA b p 5 f) ∗ (∃ f, flightP c XA b p 6 f) ∗ (∃ f, flightP c XA b p 7 f))
/-- Half `b` filled with point `p`'s blocks, its semaphores at zero. -/
def landed8 (b : Fin 2) (p : Fin 16) : sProp 𝕄 := iprop((∃ f, slotP c b 0 (landed c XA b p 0 f)) ∗ (∃ f, slotP c b 1 (landed c XA b p 1 f)) ∗ (∃ f, slotP c b 2 (landed c XA b p 2 f)) ∗ (∃ f, slotP c b 3 (landed c XA b p 3 f)) ∗ (∃ f, slotP c b 4 (landed c XA b p 4 f)) ∗ (∃ f, slotP c b 5 (landed c XA b p 5 f)) ∗ (∃ f, slotP c b 6 (landed c XA b p 6 f)) ∗ (∃ f, slotP c b 7 (landed c XA b p 7 f)) ∗ cellP (F := F) c b 0 ∗ cellP (F := F) c b 1 ∗ cellP (F := F) c b 2 ∗ cellP (F := F) c b 3 ∗ cellP (F := F) c b 4 ∗ cellP (F := F) c b 5 ∗ cellP (F := F) c b 6 ∗ cellP (F := F) c b 7)
end Bundles

abbrev m8 : Memref sig .tc .vmem S8x512 .f32 := Memref.whole cc0_scratch0
abbrev m9 : Memref sig .tc .vmem S4096x512 .f32 := Memref.whole cc0_scratch1

section Parts

variable (c : Dev nD) (XA : Buf (Elt F) (aM.view.loc (c : Thread nD τ)))
  (arg3 : Memref sig .tc .vmem S1x8x512 .f32) (harg3 : arg3.IsWhole)
  (arg4 : Memref sig .tc .vmem S1x4096x1 .f32) (harg4 : arg4.IsWhole) (arg5 : Memref sig .tc .vmem S1x4096x1 .f32) (harg5 : arg5.IsWhole)
  (arg6 : Memref sig .tc .vmem S1x4096x1 .i32) (harg6 : arg6.IsWhole) (arg7 : Memref sig .tc .vmem S1x4096x1 .i32) (harg7 : arg7.IsWhole)
  (t : Fin cfg0.N)

abbrev p5 := k0_part5 (F := F) (grid0.coords t) aM (Memref.isWhole_whole _) arg3 harg3 arg4 harg4 arg5 harg5 arg6 harg6 arg7 harg7 m8 (Memref.isWhole_whole _) m9 (Memref.isWhole_whole _) bufM (Memref.isWhole_whole _) cc0_scratch3

/-- What the first part returns. -/
abbrev r5 : Σ' (arg0 : BitVec 32) (arg1 : BitVec 32) (v5 : BitVec 32), BitVec 32 :=
  ⟨BitVec.ofNat 32 ((grid0.coords t) 0).val, BitVec.ofNat 32 ((grid0.coords t) 1).val,
    Scalar.remsi (Scalar.addi (Scalar.muli (BitVec.ofNat 32 ((grid0.coords t) 0).val) 2#32) (BitVec.ofNat 32 ((grid0.coords t) 1).val)) 2#32, 4096#32⟩

abbrev WPr {α : Type} (pr : Prog (TpuEff nD τ sig (Elt F) Λ₀ .tc) α) (Q : α → sProp 𝕄) : sProp 𝕄 :=
  wp frame (wpE (defs₀ (F := F)) 𝒱₀ (c : Thread nD τ) none) Set.univ pr Q

abbrev m8P (nm : S8x512.Idx → Elt F .f32) : sProp 𝕄 := m8.view.loc (c : Thread nD τ) ↦[m8.view.set]{fullShare} m8.view.rep nm
abbrev a3P (n0 : S1x8x512.Idx → Elt F .f32) : sProp 𝕄 := arg3.view.loc (c : Thread nD τ) ↦[arg3.view.set]{fullShare} arg3.view.rep n0

/-- The carried state's buffer after the reset: the window's block, reshaped. -/
theorem m8_reset (n0 : S1x8x512.Idx → Elt F .f32) (f : S8x512.Idx → Elt F .f32) :
    (m8.view.loc (c : Thread nD τ) ↦[m8.view.set]{fullShare} m8.view.writes (Elt F) (m8.view.rep f)
      [⟨Rect.unit (s := S8x512) ![0, 0] S8x512.size inb_S8x512_S8x512_0_0,
        shapeCast S8x512 (shapeCast S8x512 (arg3.view.readAt (Elt F) (Rect.unit (s := S1x8x512) ![0, 0, 0] S1x8x512.size inb_S1x8x512_S1x8x512_0_0_0).toLoadRect (arg3.view.rep n0)) shapeCasts_S1x8x512_S8x512) shapeCasts_S8x512_S8x512⟩])
      ⊢ (m8P c (k0_pay5 n0) : sProp 𝕄) := by
  have e := View.read_writes_full m8.view (m8.view.rep f) (off := ![0, 0]) inb_S8x512_S8x512_0_0
    (shapeCast S8x512 (shapeCast S8x512 (arg3.view.readAt (Elt F) (Rect.unit (s := S1x8x512) ![0, 0, 0] S1x8x512.size inb_S1x8x512_S1x8x512_0_0_0).toLoadRect (arg3.view.rep n0)) shapeCasts_S1x8x512_S8x512) shapeCasts_S8x512_S8x512) []
  rw [View.readAt_rep_full] at e ⊢
  refine (pointsTo_rep_entails (c : Thread nD τ) m8 _ fullShare).trans ?_
  rw [e]
  exact .rfl

/-- A middle point of odd number: the next point's copies are started, the carried state is kept. -/
theorem part5_mid1 (h1 : t.val % 2 = 1) (h3 : t.val < 15) (W : Waits sig Unit) (Q : _ → sProp 𝕄) :
    iprop((home8 c XA (nx (pt t)) ∗ idle8 (F := F) c (par (nx (pt t)))) ∗ owes (c : Thread nD τ) 0 W
        ∗ ((flight8 c XA (par (nx (pt t))) (nx (pt t)) ∗ (∃ W, owes (c : Thread nD τ) 0 W)) -∗ Q (r5 t)))
      ⊢ WPr c (p5 arg3 harg3 arg4 harg4 arg5 harg5 arg6 harg6 arg7 harg7 t) Q := by
  have hc1 := (cond1_iff t).not.mpr (by omega)
  have hc2 := (cond2_iff t).not.mpr (by omega)
  have hc3 := (cond3_iff t).mpr h3
  unfold home8 idle8 flight8
  iintro ⟨⟨⟨Ha0, Ha1, Ha2, Ha3, Ha4, Ha5, Ha6, Ha7⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, Hc0, Hc1, Hc2, Hc3, Hc4, Hc5, Hc6, Hc7⟩⟩, HW, Hk⟩
  dsimp only [WPr, p5]
  sl_exec
  sl_step
  sl_unfold_run_names
  iapply Hk
  isplitr [HW]
  · skip
    isplitl [Hc0]; · iexists f0; iexact Hc0
    isplitl [Hc1]; · iexists f1; iexact Hc1
    isplitl [Hc2]; · iexists f2; iexact Hc2
    isplitl [Hc3]; · iexists f3; iexact Hc3
    isplitl [Hc4]; · iexists f4; iexact Hc4
    isplitl [Hc5]; · iexists f5; iexact Hc5
    isplitl [Hc6]; · iexists f6; iexact Hc6
    iexists f7; iexact Hc7
  iexists _; iexact HW
/-- The last point: nothing is started. -/
theorem part5_last (h3 : t.val = 15) (W : Waits sig Unit) (Q : _ → sProp 𝕄) :
    iprop(emp ∗ owes (c : Thread nD τ) 0 W
        ∗ ((emp ∗ (∃ W, owes (c : Thread nD τ) 0 W)) -∗ Q (r5 t)))
      ⊢ WPr c (p5 arg3 harg3 arg4 harg4 arg5 harg5 arg6 harg6 arg7 harg7 t) Q := by
  have hc1 := (cond1_iff t).not.mpr (by omega)
  have hc2 := (cond2_iff t).not.mpr (by omega)
  have hc3 := (cond3_iff t).not.mpr (by omega)
  iintro ⟨-, HW, Hk⟩
  dsimp only [WPr, p5]
  sl_exec
  sl_step
  sl_unfold_run_names
  iapply Hk
  isplitr [HW]
  · iempintro
  iexists _; iexact HW
/-- A middle point of even number: the carried state is reset, the next point's copies are started. -/
theorem part5_even (h1 : t.val % 2 = 0) (h2 : 0 < t.val) (n0 : S1x8x512.Idx → Elt F .f32) (W : Waits sig Unit) (Q : _ → sProp 𝕄) :
    iprop((home8 c XA (nx (pt t)) ∗ idle8 (F := F) c (par (nx (pt t))) ∗ a3P c arg3 n0 ∗ ∃ f, m8P (F := F) c f) ∗ owes (c : Thread nD τ) 0 W
        ∗ (((flight8 c XA (par (nx (pt t))) (nx (pt t)) ∗ a3P c arg3 n0 ∗ m8P c (k0_pay5 n0)) ∗ (∃ W, owes (c : Thread nD τ) 0 W)) -∗ Q (r5 t)))
      ⊢ WPr c (p5 arg3 harg3 arg4 harg4 arg5 harg5 arg6 harg6 arg7 harg7 t) Q := by
  have hc1 := (cond1_iff t).mpr h1
  have hc2 := (cond2_iff t).not.mpr (by omega)
  have hc3 := (cond3_iff t).mpr (by have := (pt t).isLt; have e : (pt t).val = t.val := rfl; omega)
  unfold home8 idle8 flight8
  iintro ⟨⟨⟨Ha0, Ha1, Ha2, Ha3, Ha4, Ha5, Ha6, Ha7⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, Hc0, Hc1, Hc2, Hc3, Hc4, Hc5, Hc6, Hc7⟩, H3, ⟨%f8, H8⟩⟩, HW, Hk⟩
  dsimp only [WPr, p5]
  sl_exec
  sl_step
  sl_unfold_run_names
  ihave Hm := (m8_reset c arg3 n0 f8) $$ H8
  iapply Hk
  isplitr [HW]
  · isplitr [H3 Hm]
    · skip
      isplitl [Hc0]; · iexists f0; iexact Hc0
      isplitl [Hc1]; · iexists f1; iexact Hc1
      isplitl [Hc2]; · iexists f2; iexact Hc2
      isplitl [Hc3]; · iexists f3; iexact Hc3
      isplitl [Hc4]; · iexists f4; iexact Hc4
      isplitl [Hc5]; · iexists f5; iexact Hc5
      isplitl [Hc6]; · iexists f6; iexact Hc6
      iexists f7; iexact Hc7
    isplitl [H3]; · iexact H3
    iexact Hm
  iexists _; iexact HW
/-- The first point: the carried state is reset, its own copies and the next point's are started. -/
theorem part5_zero (h1 : t.val = 0) (n0 : S1x8x512.Idx → Elt F .f32) (W : Waits sig Unit) (Q : _ → sProp 𝕄) :
    iprop((home8 c XA 0 ∗ idle8 (F := F) c 0 ∗ home8 c XA (nx (pt t)) ∗ idle8 (F := F) c (par (nx (pt t))) ∗ a3P c arg3 n0 ∗ ∃ f, m8P (F := F) c f) ∗ owes (c : Thread nD τ) 0 W
        ∗ (((flight8 c XA 0 0 ∗ flight8 c XA (par (nx (pt t))) (nx (pt t)) ∗ a3P c arg3 n0 ∗ m8P c (k0_pay5 n0)) ∗ (∃ W, owes (c : Thread nD τ) 0 W)) -∗ Q (r5 t)))
      ⊢ WPr c (p5 arg3 harg3 arg4 harg4 arg5 harg5 arg6 harg6 arg7 harg7 t) Q := by
  have hc1 := (cond1_iff t).mpr (by omega)
  have hc2 := (cond2_iff t).mpr h1
  have hc3 := (cond3_iff t).mpr (by omega)
  unfold home8 idle8 flight8
  iintro ⟨⟨⟨Hax0, Hax1, Hax2, Hax3, Hax4, Hax5, Hax6, Hax7⟩, ⟨⟨%fx0, Hsx0⟩, ⟨%fx1, Hsx1⟩, ⟨%fx2, Hsx2⟩, ⟨%fx3, Hsx3⟩, ⟨%fx4, Hsx4⟩, ⟨%fx5, Hsx5⟩, ⟨%fx6, Hsx6⟩, ⟨%fx7, Hsx7⟩, Hcx0, Hcx1, Hcx2, Hcx3, Hcx4, Hcx5, Hcx6, Hcx7⟩, ⟨Ha0, Ha1, Ha2, Ha3, Ha4, Ha5, Ha6, Ha7⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, Hc0, Hc1, Hc2, Hc3, Hc4, Hc5, Hc6, Hc7⟩, H3, ⟨%f8, H8⟩⟩, HW, Hk⟩
  dsimp only [WPr, p5]
  sl_exec
  sl_step
  sl_unfold_run_names
  ihave Hm := (m8_reset c arg3 n0 f8) $$ H8
  iapply Hk
  isplitr [HW]
  · isplitl [Hcx0 Hcx1 Hcx2 Hcx3 Hcx4 Hcx5 Hcx6 Hcx7]
    · skip
      isplitl [Hcx0]; · iexists fx0; iexact Hcx0
      isplitl [Hcx1]; · iexists fx1; iexact Hcx1
      isplitl [Hcx2]; · iexists fx2; iexact Hcx2
      isplitl [Hcx3]; · iexists fx3; iexact Hcx3
      isplitl [Hcx4]; · iexists fx4; iexact Hcx4
      isplitl [Hcx5]; · iexists fx5; iexact Hcx5
      isplitl [Hcx6]; · iexists fx6; iexact Hcx6
      iexists fx7; iexact Hcx7
    isplitr [H3 Hm]
    · skip
      isplitl [Hc0]; · iexists f0; iexact Hc0
      isplitl [Hc1]; · iexists f1; iexact Hc1
      isplitl [Hc2]; · iexists f2; iexact Hc2
      isplitl [Hc3]; · iexists f3; iexact Hc3
      isplitl [Hc4]; · iexists f4; iexact Hc4
      isplitl [Hc5]; · iexists f5; iexact Hc5
      isplitl [Hc6]; · iexists f6; iexact Hc6
      iexists f7; iexact Hc7
    isplitl [H3]; · iexact H3
    iexact Hm
  iexists _; iexact HW
end Parts

end Cert.Proof.Ideal

end
-- ==== Proof.S1Half.lean ====
/-
  Stage 1 of the kernel, the double buffer's halves: the eight slots of a half filled with a point's blocks are the half
  holding the point's tile.
-/
module

public import proofs.«01_k».proof.Proof.S1Run
public import Idealize.ShloMosaic.Lib.ValueLayout
public import Idealize.ShloMosaic.Lib.Pipeline.ValueKit.Geometry

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-! ## The sets -/

abbrev S1x512x8x512 : Shape := ⟨4, ![1, 512, 8, 512]⟩
abbrev halfOff (b : Fin 2) : Fin 4 → Nat := ![b.val, 0, 0, 0]
theorem halfOff_inb (b : Fin 2) : ∀ a, halfOff b a + S1x512x8x512.size a ≤ S2x512x8x512.size a := by
  have := b.isLt; intro a; fin_cases a
  · show b.val + 1 ≤ 2; omega
  · show 0 + 512 ≤ 512; omega
  · show 0 + 8 ≤ 8; omega
  · show 0 + 512 ≤ 512; omega
/-- Half `b` of the double buffer. -/
abbrev half (b : Fin 2) : Memref sig .tc .vmem S1x512x8x512 .f32 :=
  bufM.slice (Rect.unit (s := S2x512x8x512) (halfOff b) S1x512x8x512.size (halfOff_inb b)) (fun _ => rfl)
instance (b : Fin 2) : ClosedOff (halfOff b) := ⟨halfOff b, rfl⟩

abbrev SlotSet (b : Fin 2) (q : Fin 8) : Finset S2x512x8x512.Idx := (Rect.unit (s := S2x512x8x512) (slotOff b q) S1x512x1x512.size (slotOff_inb b q)).set
abbrev HalfSet (b : Fin 2) : Finset S2x512x8x512.Idx := (Rect.unit (s := S2x512x8x512) (halfOff b) S1x512x8x512.size (halfOff_inb b)).set

theorem rslot_set (b : Fin 2) (q : Fin 8) : (rslot b q).view.set = SlotSet b q :=
  (View.set_reshape _ _).trans (View.set_slice_whole cc0_scratch2 _)
theorem half_set (b : Fin 2) : (half b).view.set = HalfSet b := View.set_slice_whole cc0_scratch2 _

theorem mem_SlotSet (b : Fin 2) (q : Fin 8) (y : S2x512x8x512.Idx) : y ∈ SlotSet b q ↔ (y 0).val = b.val ∧ (y 2).val = q.val := by
  rw [Rect.mem_set_unit]
  have h1 : (y 1).val < 512 := (y 1).isLt
  have h3 : (y 3).val < 512 := (y 3).isLt
  constructor
  · intro H
    have a0 : b.val ≤ (y 0).val ∧ (y 0).val < b.val + 1 := H 0
    have a2 : q.val ≤ (y 2).val ∧ (y 2).val < q.val + 1 := H 2
    omega
  · intro H i; fin_cases i
    · show b.val ≤ (y 0).val ∧ (y 0).val < b.val + 1; omega
    · show 0 ≤ (y 1).val ∧ (y 1).val < 0 + 512; omega
    · show q.val ≤ (y 2).val ∧ (y 2).val < q.val + 1; omega
    · show 0 ≤ (y 3).val ∧ (y 3).val < 0 + 512; omega
theorem mem_HalfSet (b : Fin 2) (y : S2x512x8x512.Idx) : y ∈ HalfSet b ↔ (y 0).val = b.val := by
  rw [Rect.mem_set_unit]
  have h1 : (y 1).val < 512 := (y 1).isLt
  have h2 : (y 2).val < 8 := (y 2).isLt
  have h3 : (y 3).val < 512 := (y 3).isLt
  constructor
  · intro H
    have a0 : b.val ≤ (y 0).val ∧ (y 0).val < b.val + 1 := H 0
    omega
  · intro H i; fin_cases i
    · show b.val ≤ (y 0).val ∧ (y 0).val < b.val + 1; omega
    · show 0 ≤ (y 1).val ∧ (y 1).val < 0 + 512; omega
    · show 0 ≤ (y 2).val ∧ (y 2).val < 0 + 8; omega
    · show 0 ≤ (y 3).val ∧ (y 3).val < 0 + 512; omega
theorem Slot_disjoint (b : Fin 2) : ∀ q q' : Fin 8, q ≠ q' → Disjoint (SlotSet b q) (SlotSet b q') := by
  intro q q' hne; rw [Finset.disjoint_left]; intro y hy hy'
  rw [mem_SlotSet] at hy hy'; exact hne (Fin.ext (hy.2.symm.trans hy'.2))
theorem Slot_cover (b : Fin 2) : (Finset.univ : Finset (Fin 8)).biUnion (SlotSet b) = HalfSet b := by
  ext y; simp only [Finset.mem_biUnion, Finset.mem_univ, true_and]
  constructor
  · rintro ⟨q, hq⟩; rw [mem_SlotSet] at hq; rw [mem_HalfSet]; exact hq.1
  · intro h; rw [mem_HalfSet] at h
    exact ⟨⟨(y 2).val, (y 2).isLt⟩, (mem_SlotSet _ _ _).mpr ⟨h, rfl⟩⟩

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-! ## The tile in a half -/

section Tile
variable (c : Dev nD) (XA : Buf (Elt F) (aM.view.loc (c : Thread nD τ)))

/-- The row of the spike array that row `y1` of point `p`'s tile is. -/
abbrev tileRow (p : Fin 16) (y1 : Fin 512) : Fin 1024 := ⟨p.val % 2 * 512 + y1.val, by have := y1.isLt; omega⟩
/-- The column of the spike array that column `y3` of group `y2` of point `p`'s tile is. -/
abbrev tileCol (p : Fin 16) (y2 : Fin 8) (y3 : Fin 512) : Fin 32768 :=
  ⟨p.val / 2 * 4096 + y2.val * 512 + y3.val, by have := y2.isLt; have := y3.isLt; have := p.isLt; omega⟩
/-- The spike array's element that a half's element holds when point `p`'s blocks are there. -/
abbrev tileIdx (p : Fin 16) (y1 : Fin 512) (y2 : Fin 8) (y3 : Fin 512) : S1024x32768.Idx :=
  ix2 (tileRow p y1) (tileCol p y2 y3)
/-- The double buffer's contents over a half holding point `p`'s tile. -/
def tileBuf (p : Fin 16) : Buf (Elt F) (bufM.view.loc (c : Thread nD τ)) :=
  fun (y : S2x512x8x512.Idx) => XA (tileIdx p (y 1) (y 2) (y 3))

theorem reshapeEquiv_1a1b {a b : ℕ} (h : (⟨2, ![a, b]⟩ : Shape).numel = (⟨4, ![1, a, 1, b]⟩ : Shape).numel)
    (x : Fin a) (y : Fin b) :
    Shape.reshapeEquiv h (ix2 x y) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * a + x.val) * 1 + 0) * b + y.val) = x.val * b + y.val
    simp only [Nat.zero_mul, Nat.zero_add, Nat.mul_one, Nat.add_zero])

theorem rslot_emb (b : Fin 2) (q : Fin 8) (x : S512x512.Idx) :
    (rslot b q).view.emb x = ix4 (n0 := 2) (n1 := 512) (n2 := 8) (n3 := 512) b (x 0) q (x 1) := by
  have hx : x = ix2 (x 0 : Fin 512) (x 1 : Fin 512) := by funext a; fin_cases a <;> rfl
  have hr : Shape.reshapeEquiv (s' := S512x512) (s := S1x512x1x512) (by decide) x = ix4 (⟨0, Nat.one_pos⟩ : Fin 1) (x 0 : Fin 512) (⟨0, Nat.one_pos⟩ : Fin 1) (x 1 : Fin 512) :=
    (congrArg _ hx).trans (reshapeEquiv_1a1b _ (x 0) (x 1))
  refine (congrArg (Rect.unit (s := S2x512x8x512) (slotOff b q) S1x512x1x512.size (slotOff_inb b q)).emb hr).trans ?_
  funext a; apply Fin.ext
  refine (ValueKit.rect_emb_unit_val _ _ _ _ _).trans ?_
  fin_cases a <;> simp [slotOff]
theorem grp_emb (p : Fin 16) (q : Fin 8) (x : S512x512.Idx) :
    (grp p q).view.emb x = tileIdx p (x 0) q (x 1) := by
  show (Rect.unit (s := S1024x32768) (grpOff p q) S512x512.size (grpOff_inb p q)).emb x = _
  funext a; apply Fin.ext
  rw [ValueKit.rect_emb_unit_val]
  fin_cases a <;> simp [grpOff]

theorem landed_at (b : Fin 2) (p : Fin 16) (q : Fin 8) (f) (x : S512x512.Idx) :
    landed c XA b p q f ((rslot b q).view.emb x) = tileBuf c XA p ((rslot b q).view.emb x) := by
  have e1 : View.read (Elt F) (rslot b q).view (landed c XA b p q f) x = payload c XA p q x := by
    rw [View.read_writes_whole]
  have e2 : payload c XA p q x = XA ((grp p q).view.emb x) := rfl
  have e3 : tileBuf c XA p ((rslot b q).view.emb x) = XA (tileIdx p (x 0) q (x 1)) := by
    rw [rslot_emb]; rfl
  rw [grp_emb] at e2
  have e0 : ∀ g : Buf (Elt F) ((rslot b q).view.loc (c : Thread nD τ)), View.read (Elt F) (rslot b q).view g x = g ((rslot b q).view.emb x) := fun g => rfl
  rw [e3, ← e2, ← e1, e0]

/-- A slot that a copy of block `q` has filled holds the tile's elements. -/
theorem slot_tile (b : Fin 2) (p : Fin 16) (q : Fin 8) (f) :
    (slotP c b q (landed c XA b p q f) : sProp 𝕄) = slotP c b q (tileBuf c XA p) := by
  have h : ∀ i ∈ (rslot b q).view.set, landed c XA b p q f i = tileBuf c XA p i := by
    intro i hi
    obtain ⟨x, -, rfl⟩ := Finset.mem_map.mp hi
    exact landed_at c XA b p q f x
  exact pointsTo_congr (q := fullShare) (ℓ := (rslot b q).view.loc (c : Thread nD τ)) h

/-- The half held at the tile is its eight slots held at it. -/
theorem half_eq (b : Fin 2) (f : Buf (Elt F) (bufM.view.loc (c : Thread nD τ))) :
    ((half b).view.loc (c : Thread nD τ) ↦[(half b).view.set]{fullShare} f : sProp 𝕄)
      = iprop(slotP c b 0 f ∗ slotP c b 1 f ∗ slotP c b 2 f ∗ slotP c b 3 f ∗ slotP c b 4 f ∗ slotP c b 5 f ∗ slotP c b 6 f ∗ slotP c b 7 f) := by
  have h := Ring.pointsTo_sub_blocks (Ix := Unit) (Name := ℕ) (U := UU nD τ) (Lvl := ℕ) (q := fullShare) (ℓ := (c : Thread nD τ).loc cc0_scratch2) (SlotSet b) (Slot_disjoint b) (HalfSet b) (Slot_cover b) f
  rw [bigSep_fin8] at h
  have hs : ∀ q, (slotP c b q f : sProp 𝕄) = (((c : Thread nD τ).loc cc0_scratch2) ↦[SlotSet b q]{fullShare} f : sProp 𝕄) :=
    fun q => congrArg (fun S => (_ ↦[S]{fullShare} f : sProp 𝕄)) (rslot_set b q)
  rw [hs, hs, hs, hs, hs, hs, hs, hs]
  rw [← h]
  exact congrArg (fun S => (_ ↦[S]{fullShare} f : sProp 𝕄)) (half_set b)

end Tile

end Cert.Proof.Ideal

end
-- ==== Proof.S1Loop.lean ====
/-
  Stage 1 of the kernel, the loop over a tile's rows: what a trip loads, what the loop carries, what it stores.
-/
module

public import proofs.«01_k».proof.Proof.S1Half
public import Idealize.ShloMosaic.Lib.VecWindow
public import Idealize.ShloMosaic.Lib.WritesUnit
public import Idealize.ShloMosaic.Lib.Pipeline.Value

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

/-- Row `k` of point `p`'s tile of the spike array, as a trip of the loop loads it. -/
def tile (XA : S1024x32768.Idx → Elt F .f32) (p : Fin 16) (k : ℕ) : Vec F S1x1x8x512 .f32 :=
  fun y => XA (tileIdx p ⟨k % 512, Nat.mod_lt _ (by decide)⟩ (y 2) (y 3))
/-- The carried state after `k` rows of point `p`'s tile, from `init`. -/
def nmAt (XA : S1024x32768.Idx → Elt F .f32) (p : Fin 16) (init : Vec F S8x512 .f32) : ℕ → Vec F S8x512 .f32
  | 0 => init
  | k + 1 => k0_pay6 (nmAt XA p init k) (tile XA p k)
/-- The states after each row of point `p`'s tile, row `8 k + q` the state of group `q` after row `k`. -/
def rowsV (XA : S1024x32768.Idx → Elt F .f32) (p : Fin 16) (init : Vec F S8x512 .f32) : Vec F S4096x512 .f32 :=
  fun y => nmAt XA p init ((y 0).val / 8 + 1) (ix2 (n0 := 8) (n1 := 512) ⟨(y 0).val % 8, Nat.mod_lt _ (by decide)⟩ (y 1))

theorem pay7_eq (a : Vec F S8x512 .f32) (v : Vec F S1x1x8x512 .f32) : k0_pay7 a v = k0_pay6 a v := shapeCast_self _ _
theorem pay8_eq (a : Vec F S8x512 .f32) : k0_pay8 a = a := shapeCast_self _ _

section Loop
variable (c : Dev nD) (XA : Buf (Elt F) (aM.view.loc (c : Thread nD τ)))
  (arg3 : Memref sig .tc .vmem S1x8x512 .f32) (harg3 : arg3.IsWhole)
  (arg4 : Memref sig .tc .vmem S1x4096x1 .f32) (harg4 : arg4.IsWhole) (arg5 : Memref sig .tc .vmem S1x4096x1 .f32) (harg5 : arg5.IsWhole)
  (arg6 : Memref sig .tc .vmem S1x4096x1 .i32) (harg6 : arg6.IsWhole) (arg7 : Memref sig .tc .vmem S1x4096x1 .i32) (harg7 : arg7.IsWhole)
  (t : Fin cfg0.N)

abbrev off36 (b : Fin 2) (k : ℕ) : Fin 4 → Nat := ![b.val, k, 0, 0]
theorem off36_eq (k : Fin k0_t1_loop.trips) : k0_off36 (grid0.coords t) k = off36 (par (pt t)) k.val := by
  rw [k0_off36_eq, coord0, coord1]
  have h : (2 * (t.val / 2) + t.val % 2) % 2 = t.val % 2 := by omega
  rw [h]; rfl
instance (priority := high) closed36 (k : Fin k0_t1_loop.trips) : ClosedOff (k0_off36 (grid0.coords t) k) := ⟨off36 (par (pt t)) k.val, off36_eq t k⟩

/-- Half `b` of the double buffer at contents `f`. -/
abbrev halfP (b : Fin 2) (f : Buf (Elt F) (bufM.view.loc (c : Thread nD τ))) : sProp 𝕄 :=
  (half b).view.loc (c : Thread nD τ) ↦[(half b).view.set]{fullShare} f
/-- The states' buffer at `f`. -/
abbrev m9P (f : S4096x512.Idx → Elt F .f32) : sProp 𝕄 := m9.view.loc (c : Thread nD τ) ↦[m9.view.set]{fullShare} m9.view.rep f
/-- The states' buffer at contents whose first `8 k` rows are the states. -/
abbrev m9At (init : Vec F S8x512 .f32) (k : ℕ) : sProp 𝕄 :=
  iprop(∃ f : Vec F S4096x512 .f32, m9P c f
    ∗ ⌜∀ y : S4096x512.Idx, (y 0).val < 8 * k → f y = rowsV XA (pt t) init y⌝)

abbrev body1 := k0_t1_body (F := F) (grid0.coords t) aM (Memref.isWhole_whole _) arg3 harg3 arg4 harg4 arg5 harg5 arg6 harg6 arg7 harg7 m8 (Memref.isWhole_whole _) m9 (Memref.isWhole_whole _) bufM (Memref.isWhole_whole _) cc0_scratch3

theorem load_sub (k : Fin k0_t1_loop.trips) (hh) :
    (bufM.access (Rect.unit (s := S2x512x8x512) (k0_off36 (grid0.coords t) k) S1x1x8x512.size hh)).set ⊆ (half (par (pt t))).view.set := by
  have e : (bufM.access (Rect.unit (s := S2x512x8x512) (k0_off36 (grid0.coords t) k) S1x1x8x512.size hh)).set
      = (Rect.unit (s := S2x512x8x512) (k0_off36 (grid0.coords t) k) S1x1x8x512.size hh).set := View.set_slice_whole cc0_scratch2 _
  rw [e, half_set]
  intro y hy
  rw [Rect.mem_set_unit] at hy
  rw [mem_HalfSet]
  have h0 : k0_off36 (grid0.coords t) k 0 ≤ (y 0).val ∧ (y 0).val < k0_off36 (grid0.coords t) k 0 + 1 := hy 0
  have h1 : k0_off36 (grid0.coords t) k 0 = (par (pt t)).val := congrFun (off36_eq t k) 0
  omega

/-- The trip's load is the tile's row. -/
theorem load_tile (k : Fin k0_t1_loop.trips) (hh) :
    View.readAt (Elt F) bufM.view (Rect.unit (s := S2x512x8x512) (k0_off36 (grid0.coords t) k) S1x1x8x512.size hh).toLoadRect (tileBuf c XA (pt t))
      = tile XA (pt t) k.val := by
  have hk : k.val < 512 := Nat.lt_of_lt_of_le k.isLt k0_t1_abs.2.1
  funext y
  show tileBuf c XA (pt t) ((Rect.unit (s := S2x512x8x512) (k0_off36 (grid0.coords t) k) S1x1x8x512.size hh).emb y) = _
  have h := fun a => ValueKit.rect_emb_unit_val (s := S2x512x8x512) (k0_off36 (grid0.coords t) k) S1x1x8x512.size hh y a
  have h1 := (h 1).trans (congrArg (· + (y 1).val) (congrFun (off36_eq t k) 1))
  have h2 := (h 2).trans (congrArg (· + (y 2).val) (congrFun (off36_eq t k) 2))
  have h3 := (h 3).trans (congrArg (· + (y 3).val) (congrFun (off36_eq t k) 3))
  have y1 : (y 1).val < 1 := (y 1).isLt
  unfold tileBuf tile
  refine congrArg XA (congr (congr (congrArg _ (Fin.ext ?_)) (Fin.ext ?_)) (Fin.ext ?_))
  · refine h1.trans ?_
    show k.val + (y 1).val = k.val % 512
    omega
  · refine h2.trans ?_
    show 0 + (y 2).val = (y 2).val
    omega
  · refine h3.trans ?_
    show 0 + (y 3).val = (y 3).val
    omega

/-- A store of eight rows at row `8 k`: read back, these rows are the stored ones and the others are as before. -/
theorem rows_put (k : Fin k0_t1_loop.trips) (f : S4096x512.Idx → Elt F .f32) (w : S8x512.Idx → Elt F .f32) (hh) (y : S4096x512.Idx) :
    ((y 0).val < 8 * k.val → m9.view.read (Elt F) (m9.view.writes (Elt F) (m9.view.rep f) [⟨Rect.unit (s := S4096x512) (k0_off37 k) S8x512.size hh, w⟩]) y = f y)
    ∧ (∀ h : (y 0).val - 8 * k.val < 8, 8 * k.val ≤ (y 0).val →
        m9.view.read (Elt F) (m9.view.writes (Elt F) (m9.view.rep f) [⟨Rect.unit (s := S4096x512) (k0_off37 k) S8x512.size hh, w⟩]) y
          = w (ix2 (n0 := 8) (n1 := 512) ⟨(y 0).val - 8 * k.val, h⟩ (y 1))) := by
  constructor
  · intro h
    have e := View.read_writes_cons_unit_of_not_mem (Val := Elt F) m9.view (m9.view.rep f) hh w [] y (k0_off37_eq k) (0 : Fin 2) (.inl h)
    rw [e, View.writes_nil, View.read_rep]
  · intro h h'
    refine View.read_writes_cons_unit_of_mem (Val := Elt F) m9.view (m9.view.rep f) hh w [] y (ix2 (n0 := 8) (n1 := 512) ⟨(y 0).val - 8 * k.val, h⟩ (y 1)) (k0_off37_eq k) fun a => ?_
    match a with
    | ⟨0, _⟩ => show (y 0).val = 8 * k.val + ((y 0).val - 8 * k.val); omega
    | ⟨1, _⟩ => show (y 1).val = 0 + (y 1).val; omega

theorem rowsV_at (XA : S1024x32768.Idx → Elt F .f32) (p : Fin 16) (init : Vec F S8x512 .f32) (k : ℕ) (y : S4096x512.Idx)
    (h : (y 0).val - 8 * k < 8) (h' : 8 * k ≤ (y 0).val) :
    rowsV XA p init y = nmAt XA p init (k + 1) (ix2 (n0 := 8) (n1 := 512) ⟨(y 0).val - 8 * k, h⟩ (y 1)) := by
  have e1 : (y 0).val / 8 = k := by omega
  have e2 : (y 0).val % 8 = (y 0).val - 8 * k := by omega
  unfold rowsV
  simp only [e1, e2]

/-- The trip's store: eight more rows are the states. -/
theorem m9_step (init : Vec F S8x512 .f32) (k : Fin k0_t1_loop.trips) (f : S4096x512.Idx → Elt F .f32) (w : S8x512.Idx → Elt F .f32) (hh)
    (hw : w = nmAt XA (pt t) init (k.val + 1))
    (hf : ∀ y : S4096x512.Idx, (y 0).val < 8 * k.val → f y = rowsV XA (pt t) init y) :
    (m9.view.loc (c : Thread nD τ) ↦[m9.view.set]{fullShare} m9.view.writes (Elt F) (m9.view.rep f)
        [⟨Rect.unit (s := S4096x512) (k0_off37 k) S8x512.size hh, w⟩])
      ⊢ (m9At c XA t init (k.val + 1) : sProp 𝕄) := by
  refine (pointsTo_rep_entails (c : Thread nD τ) m9 _ fullShare).trans ?_
  iintro H
  iexists _
  isplitl [H]; · iexact H
  ipureintro
  intro y hy
  by_cases h : (y 0).val < 8 * k.val
  · exact ((rows_put k f w hh y).1 h).trans (hf y h)
  · have h1 : (y 0).val - 8 * k.val < 8 := by omega
    have h2 : 8 * k.val ≤ (y 0).val := by omega
    rw [(rows_put k f w hh y).2 h1 h2, rowsV_at XA (pt t) init k.val y h1 h2, hw]

/-- A trip: the tile is read, the state moves on by a row, eight more rows of states are stored. -/
theorem trip (v5 : BitVec 32) (init : Vec F S8x512 .f32) (k : Fin k0_t1_loop.trips) (Q : _ → sProp 𝕄) :
    iprop(halfP c (par (pt t)) (tileBuf c XA (pt t)) ∗ m9At c XA t init k.val
        ∗ ((halfP c (par (pt t)) (tileBuf c XA (pt t)) ∗ m9At c XA t init (k.val + 1)) -∗ Q (nmAt XA (pt t) init (k.val + 1))))
      ⊢ wp frame (wpE (defs₀ (F := F)) 𝒱₀ (c : Thread nD τ) none) Set.univ (body1 arg3 harg3 arg4 harg4 arg5 harg5 arg6 harg6 arg7 harg7 t v5 k (nmAt XA (pt t) init k.val)) Q := by
  have hk : k.val < 512 := Nat.lt_of_lt_of_le k.isLt k0_t1_abs.2.1
  dsimp only [body1]
  unfold k0_t1_body
  iintro ⟨HH, ⟨%f, H9, %hf⟩, Hk⟩
  have hsub := load_sub t k (k0_off36_inb (grid0.coords t) k)
  sl_exec
  sl_step
  sl_unfold_run_names
  rw [load_tile c XA t k (k0_off36_inb (grid0.coords t) k)]
  ihave Hm := (m9_step c XA t init k f (k0_pay7 (nmAt XA (pt t) init k.val) (tile XA (pt t) k.val)) (k0_off37_inb k) (pay7_eq _ _) hf) $$ H9
  have eN : k0_pay6 (nmAt XA (pt t) init k.val) (tile XA (pt t) k.val) = nmAt XA (pt t) init (k.val + 1) := rfl
  rw [eN]
  iapply Hk
  isplitl [HH]; · iexact HH
  iexact Hm

set_option warn.classDefReducibility false in
/-- The loop by its invariant: before trip `k` the first `8 k` rows are the states and the carried value is the state. -/
@[sl_loop] def loopInv1 (v5 : BitVec 32) (init : Vec F S8x512 .f32) :
    LoopInvTy_k0_t1 (F := F) Unit ℕ (UU nD τ) ℕ 𝒱₀ c none Set.univ (grid0.coords t) aM (Memref.isWhole_whole _) arg3 harg3 arg4 harg4 arg5 harg5 arg6 harg6 arg7 harg7 m8 (Memref.isWhole_whole _) m9 (Memref.isWhole_whole _) bufM (Memref.isWhole_whole _) cc0_scratch3 v5 init where
  inv k acc := iprop(halfP c (par (pt t)) (tileBuf c XA (pt t)) ∗ m9At c XA t init k ∗ ⌜acc = nmAt XA (pt t) init k⌝)
  step k acc := by
    iintro ⟨HH, H9, %e⟩
    subst e
    iapply (trip c XA arg3 harg3 arg4 harg4 arg5 harg5 arg6 harg6 arg7 harg7 t v5 init k)
    isplitl [HH]; · iexact HH
    isplitl [H9]; · iexact H9
    iintro ⟨HH, H9⟩
    isplitl [HH]; · iexact HH
    isplitl [H9]; · iexact H9
    ipureintro; rfl

abbrev p6 := k0_part6 (F := F) (grid0.coords t) aM (Memref.isWhole_whole _) arg3 harg3 arg4 harg4 arg5 harg5 arg6 harg6 arg7 harg7 m8 (Memref.isWhole_whole _) m9 (Memref.isWhole_whole _) bufM (Memref.isWhole_whole _) cc0_scratch3

end Loop

end Cert.Proof.Ideal

end
-- ==== Proof.S1Body.lean ====
/-
  Stage 1 of the kernel, the rest of a point's body: the waits for the point's copies, the loop over its rows, and the
  four stores.
-/
module

public import proofs.«01_k».proof.Proof.S1Loop

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Rest
variable (c : Dev nD) (XA : Buf (Elt F) (aM.view.loc (c : Thread nD τ)))
  (arg3 : Memref sig .tc .vmem S1x8x512 .f32) (harg3 : arg3.IsWhole)
  (arg4 : Memref sig .tc .vmem S1x4096x1 .f32) (harg4 : arg4.IsWhole) (arg5 : Memref sig .tc .vmem S1x4096x1 .f32) (harg5 : arg5.IsWhole)
  (arg6 : Memref sig .tc .vmem S1x4096x1 .i32) (harg6 : arg6.IsWhole) (arg7 : Memref sig .tc .vmem S1x4096x1 .i32) (harg7 : arg7.IsWhole)
  (t : Fin cfg0.N)

abbrev p7 := k0_part7 (F := F) (grid0.coords t) aM (Memref.isWhole_whole _) arg3 harg3 arg4 harg4 arg5 harg5 arg6 harg6 arg7 harg7 m8 (Memref.isWhole_whole _) m9 (Memref.isWhole_whole _) bufM (Memref.isWhole_whole _) cc0_scratch3
abbrev p8 := k0_part8 (F := F) (grid0.coords t) aM (Memref.isWhole_whole _) arg3 harg3 arg4 harg4 arg5 harg5 arg6 harg6 arg7 harg7 m8 (Memref.isWhole_whole _) m9 (Memref.isWhole_whole _) bufM (Memref.isWhole_whole _) cc0_scratch3

/-- The waits for the point's first four copies. -/
theorem part6_run (arg0 arg1 c4096 : BitVec 32) (W : Waits sig Unit) (Q : _ → sProp 𝕄) :
    iprop(((∃ f, flightP c XA (par (pt t)) (pt t) 0 f) ∗ (∃ f, flightP c XA (par (pt t)) (pt t) 1 f) ∗ (∃ f, flightP c XA (par (pt t)) (pt t) 2 f) ∗ (∃ f, flightP c XA (par (pt t)) (pt t) 3 f)) ∗ owes (c : Thread nD τ) 0 W
        ∗ ((((∃ f, slotP c (par (pt t)) 0 (landed c XA (par (pt t)) (pt t) 0 f)) ∗ (∃ f, slotP c (par (pt t)) 1 (landed c XA (par (pt t)) (pt t) 1 f)) ∗ (∃ f, slotP c (par (pt t)) 2 (landed c XA (par (pt t)) (pt t) 2 f)) ∗ (∃ f, slotP c (par (pt t)) 3 (landed c XA (par (pt t)) (pt t) 3 f)) ∗ homeP c XA (pt t) 0 ∗ homeP c XA (pt t) 1 ∗ homeP c XA (pt t) 2 ∗ homeP c XA (pt t) 3 ∗ cellP (F := F) c (par (pt t)) 0 ∗ cellP (F := F) c (par (pt t)) 1 ∗ cellP (F := F) c (par (pt t)) 2 ∗ cellP (F := F) c (par (pt t)) 3) ∗ (∃ W, owes (c : Thread nD τ) 0 W)) -∗ Q ⟨⟩))
      ⊢ WPr c (p6 arg3 harg3 arg4 harg4 arg5 harg5 arg6 harg6 arg7 harg7 t arg0 arg1 c4096) Q := by
  iintro ⟨⟨⟨%f0, Hc0⟩, ⟨%f1, Hc1⟩, ⟨%f2, Hc2⟩, ⟨%f3, Hc3⟩⟩, HW, Hk⟩
  dsimp only [WPr, p6]
  sl_exec
  sl_step
  sl_unfold_run_names
  iapply Hk
  isplitr [HW]
  · skip
    isplitl [Hc0_dst]; · iexists f0; iexact Hc0_dst
    isplitl [Hc1_dst]; · iexists f1; iexact Hc1_dst
    isplitl [Hc2_dst]; · iexists f2; iexact Hc2_dst
    isplitl [Hc3_dst]; · iexists f3; iexact Hc3_dst
    isplitl [Hc0_src]; · iexact Hc0_src
    isplitl [Hc1_src]; · iexact Hc1_src
    isplitl [Hc2_src]; · iexact Hc2_src
    isplitl [Hc3_src]; · iexact Hc3_src
    isplitl [Hc0]; · iexact Hc0
    isplitl [Hc1]; · iexact Hc1
    isplitl [Hc2]; · iexact Hc2
    iexact Hc3
  iexists _; iexact HW

/-- The half filled by the eight copies, joined, holds the point's tile. -/
theorem half_join (b : Fin 2) (p : Fin 16) :
    iprop((∃ f, slotP c b 0 (landed c XA b p 0 f)) ∗ (∃ f, slotP c b 1 (landed c XA b p 1 f)) ∗ (∃ f, slotP c b 2 (landed c XA b p 2 f)) ∗ (∃ f, slotP c b 3 (landed c XA b p 3 f)) ∗ (∃ f, slotP c b 4 (landed c XA b p 4 f)) ∗ (∃ f, slotP c b 5 (landed c XA b p 5 f)) ∗ (∃ f, slotP c b 6 (landed c XA b p 6 f)) ∗ (∃ f, slotP c b 7 (landed c XA b p 7 f)))
      ⊢ (halfP c b (tileBuf c XA p) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  unfold halfP
  rw [half_eq]
  rw [← slot_tile c XA b p 0 f0, ← slot_tile c XA b p 1 f1, ← slot_tile c XA b p 2 f2, ← slot_tile c XA b p 3 f3, ← slot_tile c XA b p 4 f4, ← slot_tile c XA b p 5 f5, ← slot_tile c XA b p 6 f6, ← slot_tile c XA b p 7 f7]
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A half at any contents is its slots at any contents. -/
theorem half_split (b : Fin 2) (f : Buf (Elt F) (bufM.view.loc (c : Thread nD τ))) :
    (halfP c b f : sProp 𝕄) ⊢ iprop((∃ f, slotP (F := F) c b 0 f) ∗ (∃ f, slotP (F := F) c b 1 f) ∗ (∃ f, slotP (F := F) c b 2 f) ∗ (∃ f, slotP (F := F) c b 3 f) ∗ (∃ f, slotP (F := F) c b 4 f) ∗ (∃ f, slotP (F := F) c b 5 f) ∗ (∃ f, slotP (F := F) c b 6 f) ∗ (∃ f, slotP (F := F) c b 7 f)) := by
  unfold halfP
  rw [half_eq]
  iintro ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

/-- The states' buffer before the loop: no row is stated. -/
theorem m9_start (nm : Vec F S8x512 .f32) (f : S4096x512.Idx → Elt F .f32) : (m9P c f : sProp 𝕄) ⊢ m9At c XA t nm 0 := by
  iintro H
  iexists f
  isplitl [H]; · iexact H
  ipureintro
  intro y hy; omega

/-- The carried state's buffer after the closing store. -/
theorem m8_end (w : S8x512.Idx → Elt F .f32) (f : S8x512.Idx → Elt F .f32) :
    (m8.view.loc (c : Thread nD τ) ↦[m8.view.set]{fullShare} m8.view.writes (Elt F) (m8.view.rep f)
      [⟨Rect.unit (s := S8x512) ![0, 0] S8x512.size inb_S8x512_S8x512_0_0, k0_pay8 w⟩])
      ⊢ (m8P c w : sProp 𝕄) :=
  pointsTo_rep_of_read (c : Thread nD τ) m8 _ fullShare w
    ((View.read_writes_full m8.view (m8.view.rep f) (off := ![0, 0]) inb_S8x512_S8x512_0_0 (k0_pay8 w) []).trans (pay8_eq w))

/-- The waits for the last four copies, then the loop. -/
theorem part7_run (v5 : BitVec 32) (nm : S8x512.Idx → Elt F .f32) (W : Waits sig Unit) (Q : _ → sProp 𝕄) :
    iprop((((∃ f, slotP c (par (pt t)) 0 (landed c XA (par (pt t)) (pt t) 0 f)) ∗ (∃ f, slotP c (par (pt t)) 1 (landed c XA (par (pt t)) (pt t) 1 f)) ∗ (∃ f, slotP c (par (pt t)) 2 (landed c XA (par (pt t)) (pt t) 2 f)) ∗ (∃ f, slotP c (par (pt t)) 3 (landed c XA (par (pt t)) (pt t) 3 f))) ∗ (∃ f, flightP c XA (par (pt t)) (pt t) 4 f) ∗ (∃ f, flightP c XA (par (pt t)) (pt t) 5 f) ∗ (∃ f, flightP c XA (par (pt t)) (pt t) 6 f) ∗ (∃ f, flightP c XA (par (pt t)) (pt t) 7 f) ∗ m8P c nm ∗ (∃ f, m9P (F := F) c f)) ∗ owes (c : Thread nD τ) 0 W
        ∗ ((halfP c (par (pt t)) (tileBuf c XA (pt t)) ∗ homeP c XA (pt t) 4 ∗ homeP c XA (pt t) 5 ∗ homeP c XA (pt t) 6 ∗ homeP c XA (pt t) 7 ∗ cellP (F := F) c (par (pt t)) 4 ∗ cellP (F := F) c (par (pt t)) 5 ∗ cellP (F := F) c (par (pt t)) 6 ∗ cellP (F := F) c (par (pt t)) 7 ∗ m8P c (nmAt XA (pt t) nm 512) ∗ (∃ f, m9P (F := F) c f) ∗ (∃ W, owes (c : Thread nD τ) 0 W))
            -∗ Q ⟨rowsV XA (pt t) nm, k0_pay9 (rowsV XA (pt t) nm), k0_pay10⟩))
      ⊢ WPr c (p7 arg3 harg3 arg4 harg4 arg5 harg5 arg6 harg6 arg7 harg7 t v5) Q := by
  iintro ⟨⟨⟨⟨%f0, Hs0⟩, ⟨%f1, Hs1⟩, ⟨%f2, Hs2⟩, ⟨%f3, Hs3⟩⟩, ⟨%f4, Hc4⟩, ⟨%f5, Hc5⟩, ⟨%f6, Hc6⟩, ⟨%f7, Hc7⟩, H8, ⟨%f9, H9⟩⟩, HW, Hk⟩
  dsimp only [WPr, p7]
  rw [k0_part7_eq_skeleton]
  unfold k0_part7_skel
  sl_exec
  rw [View.readAt_rep_full]
  ihave HH := (half_join c XA (par (pt t)) (pt t)) $$ [Hs0 Hs1 Hs2 Hs3 Hc4_dst Hc5_dst Hc6_dst Hc7_dst]
  · isplitl [Hs0]; · iexists _; iexact Hs0
    isplitl [Hs1]; · iexists _; iexact Hs1
    isplitl [Hs2]; · iexists _; iexact Hs2
    isplitl [Hs3]; · iexists _; iexact Hs3
    isplitl [Hc4_dst]; · iexists _; iexact Hc4_dst
    isplitl [Hc5_dst]; · iexists _; iexact Hc5_dst
    isplitl [Hc6_dst]; · iexists _; iexact Hc6_dst
    iexists _; iexact Hc7_dst
  ihave H9' := (m9_start c XA t nm f9) $$ H9
  icases H9' with ⟨%f9', H9, %h9⟩
  sl_exec
  sl_step
  sl_unfold_run_names
  rw [View.readAt_rep_full]
  have eT : Scf.trips k0_t1_loop.lb k0_t1_loop.ub k0_t1_loop.st = 512 := by decide +kernel
  rw [eT] at hL2 ⊢
  have eR : fL0 = rowsV XA (pt t) nm := funext fun y => hL2 y (by have h : (y 0).val < 4096 := (y 0).isLt; omega)
  rw [eR]
  ihave H8' := (m8_end c (nmAt XA (pt t) nm 512) nm) $$ H8
  iapply Hk
  isplitl [HH]; · iexact HH
  isplitl [Hc4_src]; · iexact Hc4_src
  isplitl [Hc5_src]; · iexact Hc5_src
  isplitl [Hc6_src]; · iexact Hc6_src
  isplitl [Hc7_src]; · iexact Hc7_src
  isplitl [Hc4]; · iexact Hc4
  isplitl [Hc5]; · iexact Hc5
  isplitl [Hc6]; · iexact Hc6
  isplitl [Hc7]; · iexact Hc7
  isplitl [H8']; · iexact H8'
  isplitl [H9]; · iexists _; iexact H9
  iexists _; iexact HW

/-! ## The outputs of a point -/

/-- The states of point `t`'s rows, from the carried state before them. -/
abbrev rowsAt (nm : S8x512.Idx → Elt F .f32) : Vec F S4096x512 .f32 := rowsV XA (pt t) nm
/-- The rows' first values. -/
def out4 (V : Vec F S4096x512 .f32) : S1x4096x1.Idx → Elt F .f32 := k0_pay1 (k0_pay9 V)
/-- The rows' second values. -/
def out5 (V : Vec F S4096x512 .f32) : S1x4096x1.Idx → Elt F .f32 := k0_pay2 (k0_pay14 V (k0_pay9 V) k0_pay10)
/-- The rows' first columns. -/
def out6 (t : Fin cfg0.N) (V : Vec F S4096x512 .f32) : S1x4096x1.Idx → Elt F .i32 := k0_pay3 (k0_pay12 V (k0_pay9 V) k0_pay10) (k0_pay16 (BitVec.ofNat 32 ((grid0.coords t) 0).val))
/-- The rows' second columns. -/
def out7 (t : Fin cfg0.N) (V : Vec F S4096x512 .f32) : S1x4096x1.Idx → Elt F .i32 := k0_pay4 (k0_pay15 V (k0_pay9 V) k0_pay10) (k0_pay16 (BitVec.ofNat 32 ((grid0.coords t) 0).val))

theorem st4 (m : Memref sig .tc .vmem S1x4096x1 .f32) (g : Buf (Elt F) (m.view.loc (c : Thread nD τ)))
    (w : S1x4096x1.Idx → Elt F .f32) (hh) :
    (m.view.loc (c : Thread nD τ) ↦[m.view.set]{fullShare} m.view.writes (Elt F) g [⟨Rect.unit (s := S1x4096x1) ![0, 0, 0] ![1, 4096, 1] hh, w⟩])
      ⊢ (m.view.loc (c : Thread nD τ) ↦[m.view.set]{fullShare} m.view.rep w : sProp 𝕄) :=
  pointsTo_rep_of_read (c : Thread nD τ) m _ fullShare w (View.read_writes_full m.view g (off := ![0, 0, 0]) hh w [])
theorem st6 (m : Memref sig .tc .vmem S1x4096x1 .i32) (g : Buf (Elt F) (m.view.loc (c : Thread nD τ)))
    (w : S1x4096x1.Idx → Elt F .i32) (hh) :
    (m.view.loc (c : Thread nD τ) ↦[m.view.set]{fullShare} m.view.writes (Elt F) g [⟨Rect.unit (s := S1x4096x1) ![0, 0, 0] ![1, 4096, 1] hh, w⟩])
      ⊢ (m.view.loc (c : Thread nD τ) ↦[m.view.set]{fullShare} m.view.rep w : sProp 𝕄) :=
  pointsTo_rep_of_read (c : Thread nD τ) m _ fullShare w (View.read_writes_full m.view g (off := ![0, 0, 0]) hh w [])

abbrev b0 := cc0__stage1_body (F := F) (grid0.coords t) aM (Memref.isWhole_whole _) arg3 harg3 arg4 harg4 arg5 harg5 arg6 harg6 arg7 harg7 m8 (Memref.isWhole_whole _) m9 (Memref.isWhole_whole _) bufM (Memref.isWhole_whole _) cc0_scratch3

abbrev outsAny : sProp 𝕄 := iprop((∃ g, arg4.view.loc (c : Thread nD τ) ↦[arg4.view.set]{fullShare} g) ∗ (∃ g, arg5.view.loc (c : Thread nD τ) ↦[arg5.view.set]{fullShare} g)
  ∗ (∃ g, arg6.view.loc (c : Thread nD τ) ↦[arg6.view.set]{fullShare} g) ∗ (∃ g, arg7.view.loc (c : Thread nD τ) ↦[arg7.view.set]{fullShare} g))
abbrev outsAt (V : Vec F S4096x512 .f32) : sProp 𝕄 := iprop((arg4.view.loc (c : Thread nD τ) ↦[arg4.view.set]{fullShare} arg4.view.rep (out4 V)) ∗ (arg5.view.loc (c : Thread nD τ) ↦[arg5.view.set]{fullShare} arg5.view.rep (out5 V))
  ∗ (arg6.view.loc (c : Thread nD τ) ↦[arg6.view.set]{fullShare} arg6.view.rep (out6 t V)) ∗ (arg7.view.loc (c : Thread nD τ) ↦[arg7.view.set]{fullShare} arg7.view.rep (out7 t V)))

/-- A point's body, from what its first part leaves: the point's copies are waited for, its rows gone through, its
    outputs stored. -/
theorem body_of (PRE Fr : sProp 𝕄) (nm : S8x512.Idx → Elt F .f32) (W : Waits sig Unit) (Q : PUnit → sProp 𝕄)
    (h5 : ∀ Q', iprop(PRE ∗ owes (c : Thread nD τ) 0 W ∗ (((flight8 c XA (par (pt t)) (pt t) ∗ m8P c nm ∗ Fr) ∗ (∃ W, owes (c : Thread nD τ) 0 W)) -∗ Q' (r5 t)))
      ⊢ WPr c (p5 arg3 harg3 arg4 harg4 arg5 harg5 arg6 harg6 arg7 harg7 t) Q') :
    iprop(PRE ∗ (∃ f, m9P (F := F) c f) ∗ outsAny (F := F) c arg4 arg5 arg6 arg7 ∗ owes (c : Thread nD τ) 0 W
        ∗ ((home8 c XA (pt t) ∗ idle8 (F := F) c (par (pt t)) ∗ m8P c (nmAt XA (pt t) nm 512) ∗ Fr ∗ (∃ f, m9P (F := F) c f)
            ∗ outsAt c arg4 arg5 arg6 arg7 t (rowsV XA (pt t) nm) ∗ (∃ W, owes (c : Thread nD τ) 0 W)) -∗ Q ⟨⟩))
      ⊢ WPr c (b0 arg3 harg3 arg4 harg4 arg5 harg5 arg6 harg6 arg7 harg7 t) Q := by
  iintro ⟨HP, H9, ⟨⟨%g4, H4⟩, ⟨%g5, H5⟩, ⟨%g6, H6⟩, ⟨%g7, H7⟩⟩, HW, Hk⟩
  dsimp only [WPr, b0]
  unfold cc0__stage1_body
  rw [wp_bind]
  iapply (h5 _)
  isplitl [HP]; · iexact HP
  isplitl [HW]; · iexact HW
  unfold flight8
  iintro ⟨⟨⟨Hf0, Hf1, Hf2, Hf3, Hf4, Hf5, Hf6, Hf7⟩, H8, HF⟩, ⟨%W1, HW⟩⟩
  dsimp only [r5]
  rw [wp_bind]
  iapply (part6_run c XA arg3 harg3 arg4 harg4 arg5 harg5 arg6 harg6 arg7 harg7 t _ _ _ W1)
  isplitl [Hf0 Hf1 Hf2 Hf3]
  · isplitl [Hf0]; · iexact Hf0
    isplitl [Hf1]; · iexact Hf1
    isplitl [Hf2]; · iexact Hf2
    iexact Hf3
  isplitl [HW]; · iexact HW
  iintro ⟨⟨Hs0, Hs1, Hs2, Hs3, Hh0, Hh1, Hh2, Hh3, Hc0, Hc1, Hc2, Hc3⟩, ⟨%W2, HW⟩⟩
  rw [wp_bind]
  iapply (part7_run c XA arg3 harg3 arg4 harg4 arg5 harg5 arg6 harg6 arg7 harg7 t _ nm W2)
  isplitl [Hs0 Hs1 Hs2 Hs3 Hf4 Hf5 Hf6 Hf7 H8 H9]
  · isplitl [Hs0 Hs1 Hs2 Hs3]
    · isplitl [Hs0]; · iexact Hs0
      isplitl [Hs1]; · iexact Hs1
      isplitl [Hs2]; · iexact Hs2
      iexact Hs3
    isplitl [Hf4]; · iexact Hf4
    isplitl [Hf5]; · iexact Hf5
    isplitl [Hf6]; · iexact Hf6
    isplitl [Hf7]; · iexact Hf7
    isplitl [H8]; · iexact H8
    iexact H9
  isplitl [HW]; · iexact HW
  iintro ⟨HH, Hh4, Hh5, Hh6, Hh7, Hc4, Hc5, Hc6, Hc7, H8, H9, ⟨%W3, HW⟩⟩
  dsimp only
  rw [k0_part8_eq_skeleton]
  unfold k0_part8_skel
  sl_exec
  sl_step
  ihave H4' := (st4 c arg4 g4 _ _) $$ H4
  ihave H5' := (st4 c arg5 g5 _ _) $$ H5
  ihave H6' := (st6 c arg6 g6 _ _) $$ H6
  ihave H7' := (st6 c arg7 g7 _ _) $$ H7
  ihave HS := (half_split c (par (pt t)) (tileBuf c XA (pt t))) $$ HH
  icases HS with ⟨Hs0, Hs1, Hs2, Hs3, Hs4, Hs5, Hs6, Hs7⟩
  iapply Hk
  isplitl [Hh0 Hh1 Hh2 Hh3 Hh4 Hh5 Hh6 Hh7]
  · unfold home8
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    iexact Hh7
  isplitl [Hs0 Hs1 Hs2 Hs3 Hs4 Hs5 Hs6 Hs7 Hc0 Hc1 Hc2 Hc3 Hc4 Hc5 Hc6 Hc7]
  · unfold idle8
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  isplitl [H8]; · iexact H8
  isplitl [HF]; · iexact HF
  isplitl [H9]; · iexact H9
  isplitr [HW]
  · unfold outsAt out4 out5 out6 out7 k0_pay1 k0_pay2 k0_pay3 k0_pay4
    dsimp only
    isplitl [H4']; · iexact H4'
    isplitl [H5']; · iexact H5'
    isplitl [H6']; · iexact H6'
    iexact H7'
  iexists _; iexact HW

end Rest

end Cert.Proof.Ideal

end
-- ==== Proof.S1Point.lean ====
/-
  Stage 1 of the kernel, a grid point's body from the invariant before it to the invariant after it.
-/
module

public import proofs.«01_k».proof.Proof.S1Body

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Inv
variable (c : Dev nD) (XA : Buf (Elt F) (aM.view.loc (c : Thread nD τ))) (N0 : Fin 16 → S1x8x512.Idx → Elt F .f32)

/-- The blocks of the spike array that lie at home, of the points in `S`. -/
abbrev homes (S : Finset (Fin 16)) : sProp 𝕄 := bigSep S (home8 c XA)
/-- The point before `p`. -/
abbrev pv (p : Fin 16) : Fin 16 := ⟨(p.val + 15) % 16, Nat.mod_lt _ (by decide)⟩
/-- The carried state before point `p`'s rows: the start block's at an even point, what the point before left at an odd one. -/
def nmIn (p : Fin 16) : S8x512.Idx → Elt F .f32 :=
  if p.val % 2 = 0 then k0_pay5 (N0 p) else nmAt XA (pv p) (k0_pay5 (N0 (pv p))) 512
/-- Between two points: the copies of point `p` in flight, the other half idle, all other blocks at home. -/
def inv (p : Fin 16) : sProp 𝕄 :=
  iprop(flight8 c XA (par p) p ∗ idle8 (F := F) c (par (nx p)) ∗ homes c XA (Finset.univ.erase p)
    ∗ (if p.val % 2 = 0 then iprop(∃ f, m8P (F := F) c f) else m8P c (nmIn c XA N0 p)) ∗ ∃ f, m9P (F := F) c f)
/-- At the ends: nothing in flight. -/
def invE : sProp 𝕄 :=
  iprop(homes c XA Finset.univ ∗ (idle8 (F := F) c 0 ∗ idle8 (F := F) c 1) ∗ (∃ f, m8P (F := F) c f) ∗ ∃ f, m9P (F := F) c f)
/-- The invariant before point `n`. -/
def invN (n : ℕ) : sProp 𝕄 := if h : 0 < n ∧ n < 16 then inv c XA N0 ⟨n, h.2⟩ else invE c XA

omit [FloatOps F] in
theorem homes_take (p : Fin 16) {S : Finset (Fin 16)} (h : p ∈ S) (Φ : Fin 16 → sProp 𝕄) :
    bigSep S Φ = iprop(Φ p ∗ bigSep (S.erase p) Φ) := by
  conv_lhs => rw [← Finset.insert_erase h]
  exact bigSep_insert (Finset.notMem_erase p S)

theorem invN_mid (p : Fin 16) (h : 0 < p.val) : invN c XA N0 p.val = inv c XA N0 p := dif_pos ⟨h, p.isLt⟩
theorem invN_zero : invN c XA N0 0 = invE c XA := dif_neg (by omega)
theorem invN_last : invN c XA N0 16 = invE c XA := dif_neg (by omega)
theorem nx_ne (p : Fin 16) : nx p ≠ p := by revert p; decide
theorem pv_nx (p : Fin 16) : pv (nx p) = p := by revert p; decide
theorem par_nx (p : Fin 16) : par (nx (nx p)) = par p := by revert p; decide
theorem nmIn_even (p : Fin 16) (h : p.val % 2 = 0) : nmIn c XA N0 p = k0_pay5 (N0 p) := if_pos h
theorem nmIn_next (p : Fin 16) (h : p.val % 2 = 0) : nmIn c XA N0 (nx p) = nmAt XA p (nmIn c XA N0 p) 512 := by
  have h' : ¬ (nx p).val % 2 = 0 := by show ¬ ((p.val + 1) % 16) % 2 = 0; omega
  rw [nmIn_even c XA N0 p h]
  unfold nmIn
  rw [if_neg h', pv_nx]

end Inv

section Points
variable (c : Dev nD) (XA : Buf (Elt F) (aM.view.loc (c : Thread nD τ)))
  (arg3 : Memref sig .tc .vmem S1x8x512 .f32) (harg3 : arg3.IsWhole)
  (arg4 : Memref sig .tc .vmem S1x4096x1 .f32) (harg4 : arg4.IsWhole) (arg5 : Memref sig .tc .vmem S1x4096x1 .f32) (harg5 : arg5.IsWhole)
  (arg6 : Memref sig .tc .vmem S1x4096x1 .i32) (harg6 : arg6.IsWhole) (arg7 : Memref sig .tc .vmem S1x4096x1 .i32) (harg7 : arg7.IsWhole)
  (t : Fin cfg0.N)

variable (N0 : Fin 16 → S1x8x512.Idx → Elt F .f32)

/-- What a point's body leaves. -/
abbrev postAt : sProp 𝕄 :=
  iprop(invN c XA N0 (t.val + 1) ∗ a3P c arg3 (N0 (pt t)) ∗ outsAt c arg4 arg5 arg6 arg7 t (rowsV XA (pt t) (nmIn c XA N0 (pt t))) ∗ ∃ W, owes (c : Thread nD τ) 0 W)

theorem point_zero (ht : t.val = 0) (W : Waits sig Unit) (Q : PUnit → sProp 𝕄) :
    iprop(invN c XA N0 t.val ∗ a3P c arg3 (N0 (pt t)) ∗ outsAny (F := F) c arg4 arg5 arg6 arg7 ∗ owes (c : Thread nD τ) 0 W
        ∗ (postAt c XA arg3 arg4 arg5 arg6 arg7 t N0 -∗ Q ⟨⟩))
      ⊢ WPr c (b0 arg3 harg3 arg4 harg4 arg5 harg5 arg6 harg6 arg7 harg7 t) Q := by
  have e0 : pt t = 0 := Fin.ext ht
  have ep : par (pt t) = 0 := by rw [e0]; rfl
  have en : par (nx (pt t)) = 1 := by rw [e0]; rfl
  have hnm : nmIn c XA N0 (pt t) = k0_pay5 (N0 (pt t)) := nmIn_even c XA N0 (pt t) (by rw [e0]; rfl)
  have hnx : t.val + 1 = (nx (pt t)).val := by rw [e0, ht]; rfl
  have hn1 : ¬ (nx (pt t)).val % 2 = 0 := by rw [← hnx, ht]; decide
  iintro ⟨HI, H3, HO, HW, Hk⟩
  ihave HI' := (entails_of_eq ((congrArg (invN c XA N0) ht).trans (invN_zero c XA N0))) $$ HI
  unfold invE
  icases HI' with ⟨Hh, ⟨Hi0, Hi1⟩, H8, H9⟩
  ihave Hh1 := (entails_of_eq (homes_take (F := F) (pt t) (Finset.mem_univ _) (home8 c XA))) $$ Hh
  icases Hh1 with ⟨Hp, Hh⟩
  ihave Hh1 := (entails_of_eq (homes_take (F := F) (nx (pt t)) (Finset.mem_erase.mpr ⟨nx_ne _, Finset.mem_univ _⟩) (home8 c XA))) $$ Hh
  icases Hh1 with ⟨Hn, Hh⟩
  have h5 := fun Q' => part5_zero c XA arg3 harg3 arg4 harg4 arg5 harg5 arg6 harg6 arg7 harg7 t ht (N0 (pt t)) W Q'
  iapply (body_of c XA arg3 harg3 arg4 harg4 arg5 harg5 arg6 harg6 arg7 harg7 t
    iprop(home8 c XA (pt t) ∗ idle8 (F := F) c (par (pt t)) ∗ home8 c XA (nx (pt t)) ∗ idle8 (F := F) c (par (nx (pt t))) ∗ a3P c arg3 (N0 (pt t)) ∗ ∃ f, m8P (F := F) c f)
    iprop(flight8 c XA (par (nx (pt t))) (nx (pt t)) ∗ a3P c arg3 (N0 (pt t))) (nmIn c XA N0 (pt t)) W Q (fun Q' => ?h5))
  case h5 =>
    rw [e0] at h5
    rw [hnm, ep, e0]
    iintro ⟨HP, HW, Hk⟩
    iapply (h5 Q')
    isplitl [HP]; · iexact HP
    isplitl [HW]; · iexact HW
    iintro ⟨⟨Hf, Hg, H3, H8⟩, HW⟩
    iapply Hk
    isplitr [HW]
    · isplitl [Hf]; · iexact Hf
      isplitl [H8]; · iexact H8
      isplitl [Hg]; · iexact Hg
      iexact H3
    iexact HW
  isplitl [Hp Hi0 Hn Hi1 H3 H8]
  · isplitl [Hp]; · iexact Hp
    rw [ep, en]
    isplitl [Hi0]; · iexact Hi0
    isplitl [Hn]; · iexact Hn
    isplitl [Hi1]; · iexact Hi1
    isplitl [H3]; · iexact H3
    iexact H8
  isplitl [H9]; · iexact H9
  isplitl [HO]; · iexact HO
  isplitl [HW]; · iexact HW
  iintro ⟨Hp, Hi, H8, ⟨Hf, H3⟩, H9, HO, HW⟩
  iapply Hk
  isplitr [H3 HO HW]
  · rw [hnx, invN_mid c XA N0 (nx (pt t)) (by rw [← hnx]; omega)]
    unfold inv
    isplitl [Hf]; · iexact Hf
    isplitl [Hi]; · rw [par_nx]; iexact Hi
    isplitl [Hp Hh]
    · iapply (entails_of_eq (homes_take (F := F) (pt t) (S := Finset.univ.erase (nx (pt t))) (Finset.mem_erase.mpr ⟨(nx_ne _).symm, Finset.mem_univ _⟩) (home8 c XA)).symm)
      isplitl [Hp]; · iexact Hp
      rw [Finset.erase_right_comm]
      iexact Hh
    rw [if_neg hn1, nmIn_next c XA N0 (pt t) (by rw [e0]; rfl)]
    isplitl [H8]; · iexact H8
    iexact H9
  isplitl [H3]; · iexact H3
  isplitl [HO]; · iexact HO
  iexact HW

theorem point_even (h1 : t.val % 2 = 0) (h2 : 0 < t.val) (W : Waits sig Unit) (Q : PUnit → sProp 𝕄) :
    iprop(invN c XA N0 t.val ∗ a3P c arg3 (N0 (pt t)) ∗ outsAny (F := F) c arg4 arg5 arg6 arg7 ∗ owes (c : Thread nD τ) 0 W
        ∗ (postAt c XA arg3 arg4 arg5 arg6 arg7 t N0 -∗ Q ⟨⟩))
      ⊢ WPr c (b0 arg3 harg3 arg4 harg4 arg5 harg5 arg6 harg6 arg7 harg7 t) Q := by
  have hlt : t.val < 16 := (pt t).isLt
  have hpe : (pt t).val % 2 = 0 := h1
  have hnm : nmIn c XA N0 (pt t) = k0_pay5 (N0 (pt t)) := nmIn_even c XA N0 (pt t) h1
  have hnx : t.val + 1 = (nx (pt t)).val := by show t.val + 1 = (t.val + 1) % 16; omega
  have hn1 : ¬ (nx (pt t)).val % 2 = 0 := by rw [← hnx]; omega
  iintro ⟨HI, H3, HO, HW, Hk⟩
  ihave HI' := (entails_of_eq (show invN c XA N0 t.val = inv c XA N0 (pt t) from invN_mid c XA N0 (pt t) h2)) $$ HI
  unfold inv
  rw [if_pos hpe]
  icases HI' with ⟨Hfl, Hid, Hh, H8, H9⟩
  ihave Hh1 := (entails_of_eq (homes_take (F := F) (nx (pt t)) (Finset.mem_erase.mpr ⟨nx_ne _, Finset.mem_univ _⟩) (home8 c XA))) $$ Hh
  icases Hh1 with ⟨Hn, Hh⟩
  have h5 := fun Q' => part5_even c XA arg3 harg3 arg4 harg4 arg5 harg5 arg6 harg6 arg7 harg7 t h1 h2 (N0 (pt t)) W Q'
  iapply (body_of c XA arg3 harg3 arg4 harg4 arg5 harg5 arg6 harg6 arg7 harg7 t
    iprop(flight8 c XA (par (pt t)) (pt t) ∗ (home8 c XA (nx (pt t)) ∗ idle8 (F := F) c (par (nx (pt t))) ∗ a3P c arg3 (N0 (pt t)) ∗ ∃ f, m8P (F := F) c f))
    iprop(flight8 c XA (par (nx (pt t))) (nx (pt t)) ∗ a3P c arg3 (N0 (pt t))) (nmIn c XA N0 (pt t)) W Q (fun Q' => ?h5))
  case h5 =>
    rw [hnm]
    iintro ⟨⟨Hfl, HP⟩, HW, Hk⟩
    iapply (h5 Q')
    isplitl [HP]; · iexact HP
    isplitl [HW]; · iexact HW
    iintro ⟨⟨Hg, H3, H8⟩, HW⟩
    iapply Hk
    isplitr [HW]
    · isplitl [Hfl]; · iexact Hfl
      isplitl [H8]; · iexact H8
      isplitl [Hg]; · iexact Hg
      iexact H3
    iexact HW
  isplitl [Hfl Hn Hid H3 H8]
  · isplitl [Hfl]; · iexact Hfl
    isplitl [Hn]; · iexact Hn
    isplitl [Hid]; · iexact Hid
    isplitl [H3]; · iexact H3
    iexact H8
  isplitl [H9]; · iexact H9
  isplitl [HO]; · iexact HO
  isplitl [HW]; · iexact HW
  iintro ⟨Hp, Hi, H8, ⟨Hf, H3⟩, H9, HO, HW⟩
  iapply Hk
  isplitr [H3 HO HW]
  · rw [hnx, invN_mid c XA N0 (nx (pt t)) (by rw [← hnx]; omega)]
    unfold inv
    isplitl [Hf]; · iexact Hf
    isplitl [Hi]; · rw [par_nx]; iexact Hi
    isplitl [Hp Hh]
    · iapply (entails_of_eq (homes_take (F := F) (pt t) (S := Finset.univ.erase (nx (pt t))) (Finset.mem_erase.mpr ⟨(nx_ne _).symm, Finset.mem_univ _⟩) (home8 c XA)).symm)
      isplitl [Hp]; · iexact Hp
      rw [Finset.erase_right_comm]
      iexact Hh
    rw [if_neg hn1, nmIn_next c XA N0 (pt t) h1]
    isplitl [H8]; · iexact H8
    iexact H9
  isplitl [H3]; · iexact H3
  isplitl [HO]; · iexact HO
  iexact HW

theorem point_odd (h1 : t.val % 2 = 1) (h3 : t.val < 15) (W : Waits sig Unit) (Q : PUnit → sProp 𝕄) :
    iprop(invN c XA N0 t.val ∗ a3P c arg3 (N0 (pt t)) ∗ outsAny (F := F) c arg4 arg5 arg6 arg7 ∗ owes (c : Thread nD τ) 0 W
        ∗ (postAt c XA arg3 arg4 arg5 arg6 arg7 t N0 -∗ Q ⟨⟩))
      ⊢ WPr c (b0 arg3 harg3 arg4 harg4 arg5 harg5 arg6 harg6 arg7 harg7 t) Q := by
  have hpe : ¬ (pt t).val % 2 = 0 := by show ¬ t.val % 2 = 0; omega
  have hnx : t.val + 1 = (nx (pt t)).val := by show t.val + 1 = (t.val + 1) % 16; omega
  have hn1 : (nx (pt t)).val % 2 = 0 := by rw [← hnx]; omega
  iintro ⟨HI, H3, HO, HW, Hk⟩
  ihave HI' := (entails_of_eq (show invN c XA N0 t.val = inv c XA N0 (pt t) from invN_mid c XA N0 (pt t) (by show 0 < t.val; omega))) $$ HI
  unfold inv
  rw [if_neg hpe]
  icases HI' with ⟨Hfl, Hid, Hh, H8, H9⟩
  ihave Hh1 := (entails_of_eq (homes_take (F := F) (nx (pt t)) (Finset.mem_erase.mpr ⟨nx_ne _, Finset.mem_univ _⟩) (home8 c XA))) $$ Hh
  icases Hh1 with ⟨Hn, Hh⟩
  have h5 := fun Q' => part5_mid1 c XA arg3 harg3 arg4 harg4 arg5 harg5 arg6 harg6 arg7 harg7 t h1 h3 W Q'
  iapply (body_of c XA arg3 harg3 arg4 harg4 arg5 harg5 arg6 harg6 arg7 harg7 t
    iprop(flight8 c XA (par (pt t)) (pt t) ∗ m8P c (nmIn c XA N0 (pt t)) ∗ (home8 c XA (nx (pt t)) ∗ idle8 (F := F) c (par (nx (pt t)))))
    (flight8 c XA (par (nx (pt t))) (nx (pt t))) (nmIn c XA N0 (pt t)) W Q (fun Q' => ?h5))
  case h5 =>
    iintro ⟨⟨Hfl, H8, HP⟩, HW, Hk⟩
    iapply (h5 Q')
    isplitl [HP]; · iexact HP
    isplitl [HW]; · iexact HW
    iintro ⟨Hg, HW⟩
    iapply Hk
    isplitr [HW]
    · isplitl [Hfl]; · iexact Hfl
      isplitl [H8]; · iexact H8
      iexact Hg
    iexact HW
  isplitl [Hfl Hn Hid H8]
  · isplitl [Hfl]; · iexact Hfl
    isplitl [H8]; · iexact H8
    isplitl [Hn]; · iexact Hn
    iexact Hid
  isplitl [H9]; · iexact H9
  isplitl [HO]; · iexact HO
  isplitl [HW]; · iexact HW
  iintro ⟨Hp, Hi, H8, Hf, H9, HO, HW⟩
  iapply Hk
  isplitr [H3 HO HW]
  · rw [hnx, invN_mid c XA N0 (nx (pt t)) (by rw [← hnx]; omega)]
    unfold inv
    isplitl [Hf]; · iexact Hf
    isplitl [Hi]; · rw [par_nx]; iexact Hi
    isplitl [Hp Hh]
    · iapply (entails_of_eq (homes_take (F := F) (pt t) (S := Finset.univ.erase (nx (pt t))) (Finset.mem_erase.mpr ⟨(nx_ne _).symm, Finset.mem_univ _⟩) (home8 c XA)).symm)
      isplitl [Hp]; · iexact Hp
      rw [Finset.erase_right_comm]
      iexact Hh
    rw [if_pos hn1]
    isplitl [H8]; · iexists _; iexact H8
    iexact H9
  isplitl [H3]; · iexact H3
  isplitl [HO]; · iexact HO
  iexact HW

theorem point_last (h3 : t.val = 15) (W : Waits sig Unit) (Q : PUnit → sProp 𝕄) :
    iprop(invN c XA N0 t.val ∗ a3P c arg3 (N0 (pt t)) ∗ outsAny (F := F) c arg4 arg5 arg6 arg7 ∗ owes (c : Thread nD τ) 0 W
        ∗ (postAt c XA arg3 arg4 arg5 arg6 arg7 t N0 -∗ Q ⟨⟩))
      ⊢ WPr c (b0 arg3 harg3 arg4 harg4 arg5 harg5 arg6 harg6 arg7 harg7 t) Q := by
  have hpe : ¬ (pt t).val % 2 = 0 := by show ¬ t.val % 2 = 0; omega
  have e0 : pt t = 15 := Fin.ext h3
  have ep : par (pt t) = 1 := by rw [e0]; rfl
  have en : par (nx (pt t)) = 0 := by rw [e0]; rfl
  iintro ⟨HI, H3, HO, HW, Hk⟩
  ihave HI' := (entails_of_eq (show invN c XA N0 t.val = inv c XA N0 (pt t) from invN_mid c XA N0 (pt t) (by show 0 < t.val; omega))) $$ HI
  unfold inv
  rw [if_neg hpe]
  icases HI' with ⟨Hfl, Hid, Hh, H8, H9⟩
  have h5 := fun Q' => part5_last (F := F) c arg3 harg3 arg4 harg4 arg5 harg5 arg6 harg6 arg7 harg7 t h3 W Q'
  iapply (body_of c XA arg3 harg3 arg4 harg4 arg5 harg5 arg6 harg6 arg7 harg7 t
    iprop(flight8 c XA (par (pt t)) (pt t) ∗ m8P c (nmIn c XA N0 (pt t)))
    iprop(emp) (nmIn c XA N0 (pt t)) W Q (fun Q' => ?h5))
  case h5 =>
    iintro ⟨⟨Hfl, H8⟩, HW, Hk⟩
    iapply (h5 Q')
    isplitr; · iempintro
    isplitl [HW]; · iexact HW
    iintro ⟨-, HW⟩
    iapply Hk
    isplitr [HW]
    · isplitl [Hfl]; · iexact Hfl
      isplitl [H8]; · iexact H8
      iempintro
    iexact HW
  isplitl [Hfl H8]
  · isplitl [Hfl]; · iexact Hfl
    iexact H8
  isplitl [H9]; · iexact H9
  isplitl [HO]; · iexact HO
  isplitl [HW]; · iexact HW
  iintro ⟨Hp, Hi, H8, -, H9, HO, HW⟩
  iapply Hk
  isplitr [H3 HO HW]
  · iapply (entails_of_eq ((congrArg (invN c XA N0) (show t.val + 1 = 16 by omega)).trans (invN_last c XA N0)).symm)
    unfold invE
    rw [ep, en]
    isplitl [Hp Hh]
    · iapply (entails_of_eq (homes_take (F := F) (pt t) (S := Finset.univ) (Finset.mem_univ _) (home8 c XA)).symm)
      isplitl [Hp]; · iexact Hp
      iexact Hh
    isplitl [Hi Hid]
    · isplitl [Hid]; · iexact Hid
      iexact Hi
    isplitl [H8]; · iexists _; iexact H8
    iexact H9
  isplitl [H3]; · iexact H3
  isplitl [HO]; · iexact HO
  iexact HW

/-- A point's body, from the invariant before it to the one after it. -/
theorem point_run (W : Waits sig Unit) (Q : PUnit → sProp 𝕄) :
    iprop(invN c XA N0 t.val ∗ a3P c arg3 (N0 (pt t)) ∗ outsAny (F := F) c arg4 arg5 arg6 arg7 ∗ owes (c : Thread nD τ) 0 W
        ∗ (postAt c XA arg3 arg4 arg5 arg6 arg7 t N0 -∗ Q ⟨⟩))
      ⊢ WPr c (b0 arg3 harg3 arg4 harg4 arg5 harg5 arg6 harg6 arg7 harg7 t) Q := by
  have hlt : t.val < 16 := (pt t).isLt
  rcases Nat.eq_zero_or_pos t.val with h0 | h0
  · exact point_zero c XA arg3 harg3 arg4 harg4 arg5 harg5 arg6 harg6 arg7 harg7 t N0 h0 W Q
  rcases Nat.mod_two_eq_zero_or_one t.val with h1 | h1
  · exact point_even c XA arg3 harg3 arg4 harg4 arg5 harg5 arg6 harg6 arg7 harg7 t N0 h1 h0 W Q
  rcases Nat.lt_or_ge t.val 15 with h3 | h3
  · exact point_odd c XA arg3 harg3 arg4 harg4 arg5 harg5 arg6 harg6 arg7 harg7 t N0 h1 h3 W Q
  · exact point_last c XA arg3 harg3 arg4 harg4 arg5 harg5 arg6 harg6 arg7 harg7 t N0 (by omega) W Q

end Points

end Cert.Proof.Ideal

end
-- ==== Proof.S1Res.lean ====
/-
  Stage 1 of the kernel, its resources: the spike array as its blocks, the double buffer as its slots, the kernel's own
  semaphores, and the invariant at the launch and at the end.
-/
module

public import proofs.«01_k».proof.Proof.S1Point

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Res
variable (c : Dev nD)

/-! ## The spike array as its blocks -/

abbrev GrpSet (p : Fin 16) (q : Fin 8) : Finset S1024x32768.Idx := (Rect.unit (s := S1024x32768) (grpOff p q) S512x512.size (grpOff_inb p q)).set
theorem grp_set (p : Fin 16) (q : Fin 8) : (grp p q).view.set = GrpSet p q := View.set_slice_whole main_arg0 _
theorem mem_GrpSet (p : Fin 16) (q : Fin 8) (y : S1024x32768.Idx) :
    y ∈ GrpSet p q ↔ (y 0).val / 512 = p.val % 2 ∧ (y 1).val / 512 = p.val / 2 * 8 + q.val := by
  rw [Rect.mem_set_unit]
  have hp := p.isLt
  have hq := q.isLt
  have h0 : (y 0).val < 1024 := (y 0).isLt
  have h1 : (y 1).val < 32768 := (y 1).isLt
  constructor
  · intro H
    have a0 : p.val % 2 * 512 ≤ (y 0).val ∧ (y 0).val < p.val % 2 * 512 + 512 := H 0
    have a1 : p.val / 2 * 4096 + q.val * 512 ≤ (y 1).val ∧ (y 1).val < p.val / 2 * 4096 + q.val * 512 + 512 := H 1
    omega
  · intro H i; fin_cases i
    · show p.val % 2 * 512 ≤ (y 0).val ∧ (y 0).val < p.val % 2 * 512 + 512; omega
    · show p.val / 2 * 4096 + q.val * 512 ≤ (y 1).val ∧ (y 1).val < p.val / 2 * 4096 + q.val * 512 + 512; omega
/-- The elements of point `p`'s tile. -/
abbrev TileSet (p : Fin 16) : Finset S1024x32768.Idx := (Finset.univ : Finset (Fin 8)).biUnion (GrpSet p)
theorem mem_TileSet (p : Fin 16) (y : S1024x32768.Idx) :
    y ∈ TileSet p ↔ (y 0).val / 512 = p.val % 2 ∧ (y 1).val / 4096 = p.val / 2 := by
  simp only [Finset.mem_biUnion, Finset.mem_univ, true_and, mem_GrpSet]
  constructor
  · rintro ⟨q, h0, h1⟩
    have := q.isLt
    omega
  · intro h
    refine ⟨⟨(y 1).val / 512 % 8, Nat.mod_lt _ (by decide)⟩, h.1, ?_⟩
    show (y 1).val / 512 = p.val / 2 * 8 + (y 1).val / 512 % 8
    omega
theorem Grp_disjoint (p : Fin 16) : ∀ q q' : Fin 8, q ≠ q' → Disjoint (GrpSet p q) (GrpSet p q') := by
  intro q q' hne; rw [Finset.disjoint_left]; intro y hy hy'
  rw [mem_GrpSet] at hy hy'; exact hne (Fin.ext (by omega))
theorem Tile_disjoint : ∀ p p' : Fin 16, p ≠ p' → Disjoint (TileSet p) (TileSet p') := by
  intro p p' hne; rw [Finset.disjoint_left]; intro y hy hy'
  rw [mem_TileSet] at hy hy'; exact hne (Fin.ext (by omega))
theorem Tile_cover : (Finset.univ : Finset (Fin 16)).biUnion TileSet = Finset.univ := by
  ext y
  have h0 : (y 0).val < 1024 := (y 0).isLt
  have h1 : (y 1).val < 32768 := (y 1).isLt
  refine ⟨fun _ => Finset.mem_univ _, fun _ => Finset.mem_biUnion.mpr ⟨⟨(y 1).val / 4096 * 2 + (y 0).val / 512, by omega⟩, Finset.mem_univ _, (mem_TileSet _ _).mpr ⟨?_, ?_⟩⟩⟩
  · show (y 0).val / 512 = ((y 1).val / 4096 * 2 + (y 0).val / 512) % 2; omega
  · show (y 1).val / 4096 = ((y 1).val / 4096 * 2 + (y 0).val / 512) / 2; omega

/-- The spike array whole is all points' blocks. -/
theorem arg0_eq (f : Buf (Elt F) (aM.view.loc (c : Thread nD τ))) :
    (((c : Thread nD τ).loc main_arg0) ↦{fullShare} f : sProp 𝕄) = homes c f Finset.univ := by
  rw [Ring.pointsTo_blocks (ℓ := (c : Thread nD τ).loc main_arg0) TileSet Tile_disjoint Tile_cover]
  refine bigSep_congr fun p _ => ?_
  rw [Ring.pointsTo_sub_blocks (Ix := Unit) (Name := ℕ) (U := UU nD τ) (Lvl := ℕ) (q := fullShare) (ℓ := (c : Thread nD τ).loc main_arg0) (GrpSet p) (Grp_disjoint p) (TileSet p) rfl f, bigSep_fin8]
  have hs : ∀ q, (homeP c f p q : sProp 𝕄) = (((c : Thread nD τ).loc main_arg0) ↦[GrpSet p q]{fullShare} f : sProp 𝕄) :=
    fun q => congrArg (fun S => (_ ↦[S]{fullShare} f : sProp 𝕄)) (grp_set p q)
  unfold home8
  rw [hs, hs, hs, hs, hs, hs, hs, hs]

/-! ## The double buffer as its slots -/

abbrev SlotSet2 (x : Fin 2 × Fin 8) : Finset S2x512x8x512.Idx := SlotSet x.1 x.2
theorem Slot2_disjoint : ∀ x x' : Fin 2 × Fin 8, x ≠ x' → Disjoint (SlotSet2 x) (SlotSet2 x') := by
  intro x x' hne; rw [Finset.disjoint_left]; intro y hy hy'
  rw [mem_SlotSet] at hy hy'
  exact hne (Prod.ext (Fin.ext (hy.1.symm.trans hy'.1)) (Fin.ext (hy.2.symm.trans hy'.2)))
theorem Slot2_cover : (Finset.univ : Finset (Fin 2 × Fin 8)).biUnion SlotSet2 = Finset.univ := by
  ext y; simp only [Finset.mem_biUnion, Finset.mem_univ, true_and, iff_true]
  exact ⟨(⟨(y 0).val, (y 0).isLt⟩, ⟨(y 2).val, (y 2).isLt⟩), (mem_SlotSet _ _ _).mpr ⟨rfl, rfl⟩⟩

omit [FloatOps F] in
theorem bigSep_slots (Φ : Fin 2 × Fin 8 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7)) :=
  bigSep_univ_eq_bigSepL [((0 : Fin 2), (0 : Fin 8)), (0, 1), (0, 2), (0, 3), (0, 4), (0, 5), (0, 6), (0, 7), (1, 0), (1, 1), (1, 2), (1, 3), (1, 4), (1, 5), (1, 6), (1, 7)] (by decide) (by decide) Φ

theorem slot_eq (b : Fin 2) (q : Fin 8) (f : Buf (Elt F) (bufM.view.loc (c : Thread nD τ))) :
    (slotP c b q f : sProp 𝕄) = (((c : Thread nD τ).loc cc0_scratch2) ↦[SlotSet2 (b, q)]{fullShare} f : sProp 𝕄) :=
  congrArg (fun S => (_ ↦[S]{fullShare} f : sProp 𝕄)) (rslot_set b q)

/-- The kernel's own semaphores. -/
abbrev osem : Fin 2 × Fin 8 → SemLoc sig := fun x => .dma (csm x.1 x.2).sem
theorem ownSemFacts : Pipeline.OwnSemFacts spec0 osem := by decide
theorem ownSems0_eq : (Pipeline.ownSems0 (Ix := Unit) (Name := ℕ) (U := UU nD τ) (Lvl := ℕ) (Val := Elt F) (τ := τ) osem c : sProp 𝕄)
    = iprop(cellP (F := F) c 0 0 ∗ cellP (F := F) c 0 1 ∗ cellP (F := F) c 0 2 ∗ cellP (F := F) c 0 3 ∗ cellP (F := F) c 0 4 ∗ cellP (F := F) c 0 5 ∗ cellP (F := F) c 0 6 ∗ cellP (F := F) c 0 7 ∗ cellP (F := F) c 1 0 ∗ cellP (F := F) c 1 1 ∗ cellP (F := F) c 1 2 ∗ cellP (F := F) c 1 3 ∗ cellP (F := F) c 1 4 ∗ cellP (F := F) c 1 5 ∗ cellP (F := F) c 1 6 ∗ cellP (F := F) c 1 7) := by
  unfold Pipeline.ownSems0; rw [bigSep_slots]

/-- The double buffer whole and the semaphores at zero are its two halves idle, -/
theorem buf_split :
    iprop((∃ f : Buf (Elt F) ((c : Thread nD τ).loc cc0_scratch2), ((c : Thread nD τ).loc cc0_scratch2) ↦{fullShare} f)
        ∗ Pipeline.ownSems0 (Ix := Unit) (Name := ℕ) (U := UU nD τ) (Lvl := ℕ) (Val := Elt F) (τ := τ) osem c)
      ⊢ (iprop(idle8 (F := F) c 0 ∗ idle8 (F := F) c 1) : sProp 𝕄) := by
  rw [ownSems0_eq]
  unfold idle8
  iintro ⟨⟨%f, H⟩, K00, K01, K02, K03, K04, K05, K06, K07, K10, K11, K12, K13, K14, K15, K16, K17⟩
  ihave H2 := (entails_of_eq ((Ring.pointsTo_blocks (Ix := Unit) (Name := ℕ) (U := UU nD τ) (Lvl := ℕ) (q := fullShare) (ℓ := (c : Thread nD τ).loc cc0_scratch2) SlotSet2 Slot2_disjoint Slot2_cover f).trans (bigSep_slots _))) $$ H
  icases H2 with ⟨H00, H01, H02, H03, H04, H05, H06, H07, H10, H11, H12, H13, H14, H15, H16, H17⟩
  isplitl [H00 H01 H02 H03 H04 H05 H06 H07 K00 K01 K02 K03 K04 K05 K06 K07]
  · isplitl [H00]; · iexists f; iapply (entails_of_eq (slot_eq c 0 0 f).symm); iexact H00
    isplitl [H01]; · iexists f; iapply (entails_of_eq (slot_eq c 0 1 f).symm); iexact H01
    isplitl [H02]; · iexists f; iapply (entails_of_eq (slot_eq c 0 2 f).symm); iexact H02
    isplitl [H03]; · iexists f; iapply (entails_of_eq (slot_eq c 0 3 f).symm); iexact H03
    isplitl [H04]; · iexists f; iapply (entails_of_eq (slot_eq c 0 4 f).symm); iexact H04
    isplitl [H05]; · iexists f; iapply (entails_of_eq (slot_eq c 0 5 f).symm); iexact H05
    isplitl [H06]; · iexists f; iapply (entails_of_eq (slot_eq c 0 6 f).symm); iexact H06
    isplitl [H07]; · iexists f; iapply (entails_of_eq (slot_eq c 0 7 f).symm); iexact H07
    isplitl [K00]; · iexact K00
    isplitl [K01]; · iexact K01
    isplitl [K02]; · iexact K02
    isplitl [K03]; · iexact K03
    isplitl [K04]; · iexact K04
    isplitl [K05]; · iexact K05
    isplitl [K06]; · iexact K06
    iexact K07
  isplitl [H10]; · iexists f; iapply (entails_of_eq (slot_eq c 1 0 f).symm); iexact H10
  isplitl [H11]; · iexists f; iapply (entails_of_eq (slot_eq c 1 1 f).symm); iexact H11
  isplitl [H12]; · iexists f; iapply (entails_of_eq (slot_eq c 1 2 f).symm); iexact H12
  isplitl [H13]; · iexists f; iapply (entails_of_eq (slot_eq c 1 3 f).symm); iexact H13
  isplitl [H14]; · iexists f; iapply (entails_of_eq (slot_eq c 1 4 f).symm); iexact H14
  isplitl [H15]; · iexists f; iapply (entails_of_eq (slot_eq c 1 5 f).symm); iexact H15
  isplitl [H16]; · iexists f; iapply (entails_of_eq (slot_eq c 1 6 f).symm); iexact H16
  isplitl [H17]; · iexists f; iapply (entails_of_eq (slot_eq c 1 7 f).symm); iexact H17
  isplitl [K10]; · iexact K10
  isplitl [K11]; · iexact K11
  isplitl [K12]; · iexact K12
  isplitl [K13]; · iexact K13
  isplitl [K14]; · iexact K14
  isplitl [K15]; · iexact K15
  isplitl [K16]; · iexact K16
  iexact K17
/-- and back. -/
theorem buf_join :
    iprop(idle8 (F := F) c 0 ∗ idle8 (F := F) c 1)
      ⊢ (iprop((∃ f : Buf (Elt F) ((c : Thread nD τ).loc cc0_scratch2), ((c : Thread nD τ).loc cc0_scratch2) ↦{fullShare} f)
        ∗ Pipeline.ownSems0 (Ix := Unit) (Name := ℕ) (U := UU nD τ) (Lvl := ℕ) (Val := Elt F) (τ := τ) osem c) : sProp 𝕄) := by
  rw [ownSems0_eq]
  unfold idle8
  iintro ⟨⟨⟨%f00, H00⟩, ⟨%f01, H01⟩, ⟨%f02, H02⟩, ⟨%f03, H03⟩, ⟨%f04, H04⟩, ⟨%f05, H05⟩, ⟨%f06, H06⟩, ⟨%f07, H07⟩, K00, K01, K02, K03, K04, K05, K06, K07⟩, ⟨⟨%f10, H10⟩, ⟨%f11, H11⟩, ⟨%f12, H12⟩, ⟨%f13, H13⟩, ⟨%f14, H14⟩, ⟨%f15, H15⟩, ⟨%f16, H16⟩, ⟨%f17, H17⟩, K10, K11, K12, K13, K14, K15, K16, K17⟩⟩
  isplitl [H00 H01 H02 H03 H04 H05 H06 H07 H10 H11 H12 H13 H14 H15 H16 H17]
  · iapply (Ring.pointsTo_blocks_join_exists (ℓ := (c : Thread nD τ).loc cc0_scratch2) SlotSet2 Slot2_disjoint Slot2_cover f00)
    irw [bigSep_slots]
    isplitl [H00]; · iexists f00; iapply (entails_of_eq (slot_eq c 0 0 f00)); iexact H00
    isplitl [H01]; · iexists f01; iapply (entails_of_eq (slot_eq c 0 1 f01)); iexact H01
    isplitl [H02]; · iexists f02; iapply (entails_of_eq (slot_eq c 0 2 f02)); iexact H02
    isplitl [H03]; · iexists f03; iapply (entails_of_eq (slot_eq c 0 3 f03)); iexact H03
    isplitl [H04]; · iexists f04; iapply (entails_of_eq (slot_eq c 0 4 f04)); iexact H04
    isplitl [H05]; · iexists f05; iapply (entails_of_eq (slot_eq c 0 5 f05)); iexact H05
    isplitl [H06]; · iexists f06; iapply (entails_of_eq (slot_eq c 0 6 f06)); iexact H06
    isplitl [H07]; · iexists f07; iapply (entails_of_eq (slot_eq c 0 7 f07)); iexact H07
    isplitl [H10]; · iexists f10; iapply (entails_of_eq (slot_eq c 1 0 f10)); iexact H10
    isplitl [H11]; · iexists f11; iapply (entails_of_eq (slot_eq c 1 1 f11)); iexact H11
    isplitl [H12]; · iexists f12; iapply (entails_of_eq (slot_eq c 1 2 f12)); iexact H12
    isplitl [H13]; · iexists f13; iapply (entails_of_eq (slot_eq c 1 3 f13)); iexact H13
    isplitl [H14]; · iexists f14; iapply (entails_of_eq (slot_eq c 1 4 f14)); iexact H14
    isplitl [H15]; · iexists f15; iapply (entails_of_eq (slot_eq c 1 5 f15)); iexact H15
    isplitl [H16]; · iexists f16; iapply (entails_of_eq (slot_eq c 1 6 f16)); iexact H16
    iexists f17; iapply (entails_of_eq (slot_eq c 1 7 f17)); iexact H17
  isplitl [K00]; · iexact K00
  isplitl [K01]; · iexact K01
  isplitl [K02]; · iexact K02
  isplitl [K03]; · iexact K03
  isplitl [K04]; · iexact K04
  isplitl [K05]; · iexact K05
  isplitl [K06]; · iexact K06
  isplitl [K07]; · iexact K07
  isplitl [K10]; · iexact K10
  isplitl [K11]; · iexact K11
  isplitl [K12]; · iexact K12
  isplitl [K13]; · iexact K13
  isplitl [K14]; · iexact K14
  isplitl [K15]; · iexact K15
  isplitl [K16]; · iexact K16
  iexact K17

theorem m8_set : m8.view.set = Finset.univ := View.set_whole cc0_scratch0
theorem m9_set : m9.view.set = Finset.univ := View.set_whole cc0_scratch1
/-- A scratch buffer whole at some contents, held as the body states it, and back. -/
theorem m8_in : (iprop(∃ f : Buf (Elt F) ((c : Thread nD τ).loc cc0_scratch0), ((c : Thread nD τ).loc cc0_scratch0) ↦{fullShare} f) : sProp 𝕄)
    ⊢ iprop(∃ f, m8P (F := F) c f) := by
  iintro ⟨%f, H⟩
  iexists (m8.view.read (Elt F) f)
  iapply (pointsTo_rep_entails (c : Thread nD τ) m8 f fullShare)
  iapply (entails_of_eq (congrArg (fun S => ((m8.view.loc (c : Thread nD τ)) ↦[S]{fullShare} f : sProp 𝕄)) (m8_set)).symm)
  iexact H
theorem m8_out : iprop(∃ f, m8P (F := F) c f)
    ⊢ (iprop(∃ f : Buf (Elt F) ((c : Thread nD τ).loc cc0_scratch0), ((c : Thread nD τ).loc cc0_scratch0) ↦{fullShare} f) : sProp 𝕄) := by
  iintro ⟨%f, H⟩
  iexists (m8.view.rep f)
  iapply (entails_of_eq (congrArg (fun S => ((m8.view.loc (c : Thread nD τ)) ↦[S]{fullShare} m8.view.rep f : sProp 𝕄)) (m8_set)))
  iexact H
theorem m9_in : (iprop(∃ f : Buf (Elt F) ((c : Thread nD τ).loc cc0_scratch1), ((c : Thread nD τ).loc cc0_scratch1) ↦{fullShare} f) : sProp 𝕄)
    ⊢ iprop(∃ f, m9P (F := F) c f) := by
  iintro ⟨%f, H⟩
  iexists (m9.view.read (Elt F) f)
  iapply (pointsTo_rep_entails (c : Thread nD τ) m9 f fullShare)
  iapply (entails_of_eq (congrArg (fun S => ((m9.view.loc (c : Thread nD τ)) ↦[S]{fullShare} f : sProp 𝕄)) (m9_set)).symm)
  iexact H
theorem m9_out : iprop(∃ f, m9P (F := F) c f)
    ⊢ (iprop(∃ f : Buf (Elt F) ((c : Thread nD τ).loc cc0_scratch1), ((c : Thread nD τ).loc cc0_scratch1) ↦{fullShare} f) : sProp 𝕄) := by
  iintro ⟨%f, H⟩
  iexists (m9.view.rep f)
  iapply (entails_of_eq (congrArg (fun S => ((m9.view.loc (c : Thread nD τ)) ↦[S]{fullShare} m9.view.rep f : sProp 𝕄)) (m9_set)))
  iexact H

end Res

end Cert.Proof.Ideal

end
-- ==== Proof.S1Dat.lean ====
/-
  Stage 1 of the kernel: the pipeline's proof data and the body's obligation at every grid point.
-/
module

public import proofs.«01_k».proof.Proof.S1Res
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Dat
variable (V : (c : Dev nD) → (b : Ref sig .tc) → Buf (Elt F) ((c : Thread nD τ).loc b)) (c : Dev nD)

/-- Window `w`'s block at point `t`, read off its array at the region's entry. -/
abbrev iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The start states' block at each point. -/
def n0 : Fin 16 → S1x8x512.Idx → Elt F .f32 := fun p => iblk0 V c 0 (p.cast N_0.symm)
/-- The states after the rows of point `t`. -/
def rows0 (t : Fin cfg0.N) : Vec F S4096x512 .f32 := rowsV (V c main_arg0) (pt t) (nmIn c (V c main_arg0) (n0 V c) (pt t))
/-- The second stage's staging buffers, untouched by the first. -/
def stg1 : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))
/-- The invariant before point `n`. -/
def Φ0 (n : ℕ) : sProp 𝕄 := iprop(invN c (V c main_arg0) (n0 V c) n ∗ stg1 (F := F) c)

/-- The proof data of stage 1, entered from the valuation `V`. -/
def dat0 : Dat τ (Elt F) Unit ℕ (UU nD τ) ℕ cfg0 c where
  A w := V c (Pipeline.arrRef spec0 w)
  after w t := match w with
    | ⟨0, _⟩ => n0 V c (pt t)
    | ⟨1, _⟩ => out4 (rows0 V c t)
    | ⟨2, _⟩ => out5 (rows0 V c t)
    | ⟨3, _⟩ => out6 t (rows0 V c t)
    | ⟨4, _⟩ => out7 t (rows0 V c t)
  Φ n := Φ0 V c n.val
  q _ := fullShare
  owed _ := 0

theorem after0_0 (t : Fin cfg0.N) : (dat0 V c).after 0 t = n0 V c (pt t) := by dsimp only [dat0]
theorem after0_1 (t : Fin cfg0.N) : (dat0 V c).after 1 t = out4 (rows0 V c t) := by dsimp only [dat0]
theorem after0_2 (t : Fin cfg0.N) : (dat0 V c).after 2 t = out5 (rows0 V c t) := by dsimp only [dat0]
theorem after0_3 (t : Fin cfg0.N) : (dat0 V c).after 3 t = out6 t (rows0 V c t) := by dsimp only [dat0]
theorem after0_4 (t : Fin cfg0.N) : (dat0 V c).after 4 t = out7 t (rows0 V c t) := by dsimp only [dat0]
theorem before0_0 (t : Fin cfg0.N) (d) : (dat0 V c).before 0 t d = n0 V c (pt t) :=
  (Dat.before_in_eq_fetched (dat0 V c) 0 rfl (fun _ => rfl) (fun _ _ _ => rfl) (fun _ => rfl) t d).trans rfl

theorem defs_tc0 : (defs₀ (F := F)) .tc cfg0.body = fun a => cc0__stage1_body (F := F) (grid0.coords a.1) aM (Memref.isWhole_whole _)
    (win0_0.stage (a.2 0)) (hstage0_0 ((a.2 0).cast nbuf0_0)) (win0_1.stage (a.2 1)) (hstage0_1 ((a.2 1).cast nbuf0_1))
    (win0_2.stage (a.2 2)) (hstage0_2 ((a.2 2).cast nbuf0_2)) (win0_3.stage (a.2 3)) (hstage0_3 ((a.2 3).cast nbuf0_3))
    (win0_4.stage (a.2 4)) (hstage0_4 ((a.2 4).cast nbuf0_4)) m8 (Memref.isWhole_whole _) m9 (Memref.isWhole_whole _) bufM (Memref.isWhole_whole _) cc0_scratch3 := rfl
/-- The body at point `t`, on the memrefs the pipeline hands it. -/
abbrev prog0 (t : Fin cfg0.N) := b0 (F := F) (st0_0 t) (hstage0_0 ((cfg0.slots t 0).cast nbuf0_0)) (st0_1 t) (hstage0_1 ((cfg0.slots t 1).cast nbuf0_1))
  (st0_2 t) (hstage0_2 ((cfg0.slots t 2).cast nbuf0_2)) (st0_3 t) (hstage0_3 ((cfg0.slots t 3).cast nbuf0_3)) (st0_4 t) (hstage0_4 ((cfg0.slots t 4).cast nbuf0_4)) t
theorem prog0_eq (t : Fin cfg0.N) : (defs₀ (F := F)) .tc cfg0.body (cfg0.bodyArgs t (cfg0.slots t)) = prog0 t :=
  (congrFun defs_tc0 _).trans rfl

set_option backward.isDefEq.respectTransparency.types false in
theorem obligation0 : BodyObligation (dat0 (F := F) V c) (defs₀ (F := F)) 𝒱₀ () Set.univ := fun t => by
  rw [bigSep_W0, bigSep_W0]
  dsimp only
  simp only [before0_0, after0_0, after0_1, after0_2, after0_3, after0_4]
  rw [show (dat0 V c).Φ t.castSucc = Φ0 V c t.val from rfl, show (dat0 V c).Φ t.succ = Φ0 V c (t.val + 1) from rfl]
  unfold Dat.owesAt Pipeline.owesWithin
  rw [show (dat0 V c).owed t.castSucc = 0 from rfl, show (dat0 V c).owed t.succ = 0 from rfl]
  unfold owns Φ0
  iintro ⟨⟨HI, HS⟩, ⟨%W, -, HW⟩, ⟨%d0, %g0, %hg0, H0⟩, ⟨%d1, %g1, -, H1⟩, ⟨%d2, %g2, -, H2⟩, ⟨%d3, %g3, -, H3⟩, ⟨%d4, %g4, -, H4⟩⟩
  ihave H0' := (pointsTo_rep_entails (c : Thread nD τ) (st0_0 t) g0 fullShare) $$ H0
  rw [hg0]
  sl_rw [prog0_eq t]
  iapply (point_run c (V c main_arg0) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4)) t (n0 V c) W _)
  isplitl [HI]; · iexact HI
  isplitl [H0']; · iexact H0'
  isplitl [H1 H2 H3 H4]
  · isplitl [H1]; · iexists g1; iexact H1
    isplitl [H2]; · iexists g2; iexact H2
    isplitl [H3]; · iexists g3; iexact H3
    iexists g4; iexact H4
  isplitl [HW]; · iexact HW
  iintro ⟨HI, H0, ⟨H1, H2, H3, H4⟩, ⟨%W', HW⟩⟩
  isplitl [HI HS]
  · isplitl [HI]; · iexact HI
    iexact HS
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  iexists _; isplitr; · ipureintro; exact View.read_rep _ _
  iexact H4

end Dat

end Cert.Proof.Ideal

end
-- ==== Proof.S2Body.lean ====
/-
  Stage 2 of the kernel, a grid point's body: what it leaves in the mask's and the coverage's staging buffers.
-/
module

public import proofs.«01_k».proof.Proof.S1Names
public import proofs.«01_k».proof.Proof.S1Run
public import Idealize.ShloMosaic.Lib.ValueLayout

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section S2
variable (c : Dev nD)

/-- The mask block a point of stage 2 stores, from its four input blocks. -/
def mask (i : grid1.Coords) (x0 x1 : S512x64.Idx → Elt F .f32) (y0 y1 : S512x64.Idx → Elt F .i32) : S512x4096.Idx → Elt F .f32 :=
  k1_pay1 (F := F) (BitVec.ofNat 32 (i 1).val) (k1_pay6 y1) (k1_pay8 x0) (k1_pay10 x0 y0) (k1_pay13 x0 x1 y0) (k1_pay14 x0 x1 y0)
/-- The coverage block a first point of stage 2 stores. -/
def cover (x0 : S512x64.Idx → Elt F .f32) : S512x1.Idx → Elt F .f32 := k1_pay2 (F := F) (k1_pay8 x0)

/-- A memref's elements held at contents `f`. -/
abbrev oP {s : Shape} {e : EltTy} (a : Memref sig .tc .vmem s e) (f : s.Idx → Elt F e) : sProp 𝕄 :=
  a.view.loc (c : Thread nD τ) ↦[a.view.set]{fullShare} a.view.rep f

variable (arg2 : Memref sig .tc .vmem S512x64 .f32) (harg2 : arg2.IsWhole) (arg3 : Memref sig .tc .vmem S512x64 .f32) (harg3 : arg3.IsWhole)
  (arg4 : Memref sig .tc .vmem S512x64 .i32) (harg4 : arg4.IsWhole) (arg5 : Memref sig .tc .vmem S512x64 .i32) (harg5 : arg5.IsWhole)
  (arg6 : Memref sig .tc .vmem S512x4096 .f32) (harg6 : arg6.IsWhole) (arg7 : Memref sig .tc .vmem S512x1 .f32) (harg7 : arg7.IsWhole)
  (i : grid1.Coords)
  (x0 x1 : S512x64.Idx → Elt F .f32) (y0 y1 : S512x64.Idx → Elt F .i32)

theorem cond_iff : k1_cond1 i = 1#1 ↔ (i 1).val = 0 := by
  have h : ∀ j : Fin 8, (Scalar.cmpi .ne (Scalar.extui (Scalar.cmpi .eq (BitVec.ofNat 32 j.val) 0#32) : BitVec 32) 0#32 = 1#1) ↔ j.val = 0 := by decide
  exact h (i 1)

theorem store6 (w : S512x4096.Idx → Elt F .f32) (f : Buf (Elt F) (arg6.view.loc (c : Thread nD τ))) (hh) :
    (arg6.view.loc (c : Thread nD τ) ↦[arg6.view.set]{fullShare} arg6.view.writes (Elt F) f [⟨Rect.unit (s := S512x4096) ![0, 0] ![512, 4096] hh, w⟩] : sProp 𝕄)
      ⊢ oP c arg6 w :=
  pointsTo_rep_of_read (c : Thread nD τ) arg6 _ fullShare w (View.read_writes_full arg6.view f (off := ![0, 0]) hh w [])
theorem store7 (w : S512x1.Idx → Elt F .f32) (f : Buf (Elt F) (arg7.view.loc (c : Thread nD τ))) (hh) :
    (arg7.view.loc (c : Thread nD τ) ↦[arg7.view.set]{fullShare} arg7.view.writes (Elt F) f [⟨Rect.unit (s := S512x1) ![0, 0] ![512, 1] hh, w⟩] : sProp 𝕄)
      ⊢ oP c arg7 w :=
  pointsTo_rep_of_read (c : Thread nD τ) arg7 _ fullShare w (View.read_writes_full arg7.view f (off := ![0, 0]) hh w [])

/-- The body at a first point of a row block: both outputs are stored. -/
theorem run_first (hi : (i 1).val = 0) (f6 f7) (Q : PUnit → sProp 𝕄) :
    iprop((oP c arg2 x0 ∗ oP c arg3 x1 ∗ oP c arg4 y0 ∗ oP c arg5 y1 ∗ (arg6.view.loc (c : Thread nD τ) ↦[arg6.view.set]{fullShare} f6) ∗ (arg7.view.loc (c : Thread nD τ) ↦[arg7.view.set]{fullShare} f7))
        ∗ ((oP c arg2 x0 ∗ oP c arg3 x1 ∗ oP c arg4 y0 ∗ oP c arg5 y1 ∗ oP c arg6 (mask i x0 x1 y0 y1) ∗ oP c arg7 (cover x0)) -∗ Q ⟨⟩))
      ⊢ WPr c (cc1__stage2_body (F := F) i arg2 harg2 arg3 harg3 arg4 harg4 arg5 harg5 arg6 harg6 arg7 harg7) Q := by
  have hC : k1_cond1 i = 1#1 := (cond_iff i).mpr hi
  iintro ⟨⟨H2, H3, H4, H5, H6, H7⟩, Hk⟩
  dsimp only [WPr]
  rw [cc1__stage2_body_eq_skeleton]
  unfold cc1__stage2_body_skel
  rw [k1_part1_eq_skeleton]
  unfold k1_part1_skel
  sl_exec
  sl_step
  sl_unfold_run_names
  rw [View.readAt_rep_full arg2.view x0, View.readAt_rep_full arg3.view x1, View.readAt_rep_full arg4.view y0, View.readAt_rep_full arg5.view y1]
  ihave H6' := (store6 c arg6 _ f6 _) $$ H6
  ihave H7' := (store7 c arg7 _ f7 _) $$ H7
  iapply Hk
  isplitl [H2]; · iexact H2
  isplitl [H3]; · iexact H3
  isplitl [H4]; · iexact H4
  isplitl [H5]; · iexact H5
  isplitl [H6']
  · unfold mask
    iexact H6'
  unfold cover
  iexact H7'

/-- The body at another point: only the mask is stored. -/
theorem run_rest (hi : (i 1).val ≠ 0) (f6) (Q : PUnit → sProp 𝕄) :
    iprop((oP c arg2 x0 ∗ oP c arg3 x1 ∗ oP c arg4 y0 ∗ oP c arg5 y1 ∗ (arg6.view.loc (c : Thread nD τ) ↦[arg6.view.set]{fullShare} f6))
        ∗ ((oP c arg2 x0 ∗ oP c arg3 x1 ∗ oP c arg4 y0 ∗ oP c arg5 y1 ∗ oP c arg6 (mask i x0 x1 y0 y1)) -∗ Q ⟨⟩))
      ⊢ WPr c (cc1__stage2_body (F := F) i arg2 harg2 arg3 harg3 arg4 harg4 arg5 harg5 arg6 harg6 arg7 harg7) Q := by
  have hC : ¬(k1_cond1 i = 1#1) := (cond_iff i).not.mpr hi
  iintro ⟨⟨H2, H3, H4, H5, H6⟩, Hk⟩
  dsimp only [WPr]
  rw [cc1__stage2_body_eq_skeleton]
  unfold cc1__stage2_body_skel
  rw [k1_part1_eq_skeleton]
  unfold k1_part1_skel
  sl_exec
  sl_step
  sl_unfold_run_names
  rw [View.readAt_rep_full arg2.view x0, View.readAt_rep_full arg3.view x1, View.readAt_rep_full arg4.view y0, View.readAt_rep_full arg5.view y1]
  ihave H6' := (store6 c arg6 _ f6 _) $$ H6
  iapply Hk
  isplitl [H2]; · iexact H2
  isplitl [H3]; · iexact H3
  isplitl [H4]; · iexact H4
  isplitl [H5]; · iexact H5
  unfold mask
  iexact H6'

end S2

end Cert.Proof.Ideal

end
-- ==== Proof.S2Dat.lean ====
/-
  Stage 2 of the kernel: the pipeline's proof data and the body's obligation at every grid point.
-/
module

public import proofs.«01_k».proof.Proof.S2Body
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Dat
variable (V : (c : Dev nD) → (b : Ref sig .tc) → Buf (Elt F) ((c : Thread nD τ).loc b)) (c : Dev nD)

/-- Window `w`'s block at point `t`, read off its array at the region's entry. -/
abbrev iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The first point of `t`'s row block. -/
def base1 (t : Fin cfg1.N) : Fin cfg1.N := ⟨t.val / 8 * 8, Nat.lt_of_le_of_lt (Nat.div_mul_le_self _ _) t.isLt⟩
/-- The mask block of point `t`. -/
def maskAt (t : Fin cfg1.N) : S512x4096.Idx → Elt F .f32 := mask (grid1.coords t) (iblk1 V c 0 t) (iblk1 V c 1 t) (iblk1 V c 2 t) (iblk1 V c 3 t)
/-- The coverage block of `t`'s row block. -/
def coverAt (t : Fin cfg1.N) : S512x1.Idx → Elt F .f32 := cover (iblk1 V c 0 (base1 t))
/-- The buffers stage 2 does not stage. -/
abbrev Φ1 : sProp 𝕄 := Pipeline.scopedRest (Ix := Unit) (Name := ℕ) (U := UU nD τ) (Lvl := ℕ) (Val := Elt F) spec1 c

/-- The proof data of stage 2, entered from the valuation `V`. -/
def dat1 : Dat τ (Elt F) Unit ℕ (UU nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => maskAt V c t
    | ⟨5, _⟩ => coverAt V c t
  Φ _ := Φ1 c
  q _ := fullShare
  owed _ := 0

theorem after1_0 (t : Fin cfg1.N) : (dat1 V c).after 0 t = iblk1 V c 0 t := by dsimp only [dat1]
theorem after1_1 (t : Fin cfg1.N) : (dat1 V c).after 1 t = iblk1 V c 1 t := by dsimp only [dat1]
theorem after1_2 (t : Fin cfg1.N) : (dat1 V c).after 2 t = iblk1 V c 2 t := by dsimp only [dat1]
theorem after1_3 (t : Fin cfg1.N) : (dat1 V c).after 3 t = iblk1 V c 3 t := by dsimp only [dat1]
theorem after1_4 (t : Fin cfg1.N) : (dat1 V c).after 4 t = maskAt V c t := by dsimp only [dat1]
theorem after1_5 (t : Fin cfg1.N) : (dat1 V c).after 5 t = coverAt V c t := by dsimp only [dat1]
theorem before1_0 (t : Fin cfg1.N) (d) : (dat1 V c).before 0 t d = iblk1 V c 0 t :=
  (Dat.before_in_eq_fetched (dat1 V c) 0 rfl (fun _ => rfl) (fun _ _ _ => rfl) (fun _ => rfl) t d).trans rfl
theorem before1_1 (t : Fin cfg1.N) (d) : (dat1 V c).before 1 t d = iblk1 V c 1 t :=
  (Dat.before_in_eq_fetched (dat1 V c) 1 rfl (fun _ => rfl) (fun _ _ _ => rfl) (fun _ => rfl) t d).trans rfl
theorem before1_2 (t : Fin cfg1.N) (d) : (dat1 V c).before 2 t d = iblk1 V c 2 t :=
  (Dat.before_in_eq_fetched (dat1 V c) 2 rfl (fun _ => rfl) (fun _ _ _ => rfl) (fun _ => rfl) t d).trans rfl
theorem before1_3 (t : Fin cfg1.N) (d) : (dat1 V c).before 3 t d = iblk1 V c 3 t :=
  (Dat.before_in_eq_fetched (dat1 V c) 3 rfl (fun _ => rfl) (fun _ _ _ => rfl) (fun _ => rfl) t d).trans rfl

theorem coord1_1 : ∀ t : Fin cfg1.N, ((grid1.coords t) 1).val = t.val % 8 := by decide
theorem base1_of (t : Fin cfg1.N) (h : t.val % 8 = 0) : base1 t = t := Fin.ext (by show t.val / 8 * 8 = t.val; omega)
theorem idle5_iff (t : Fin cfg1.N) : cfg1.idle 5 (cfg1.grid.coords t) = !decide (t.val % 8 = 0) := by
  revert t; decide
theorem idle5_true (t : Fin cfg1.N) (h : t.val % 8 ≠ 0) : cfg1.idle 5 (cfg1.grid.coords t) = true := by rw [idle5_iff]; simp [h]
theorem idle5_false (t : Fin cfg1.N) (h : t.val % 8 = 0) : cfg1.idle 5 (cfg1.grid.coords t) = false := by rw [idle5_iff]; simp [h]
/-- After a row block's first point, the coverage's staging buffer holds what that point stored. -/
theorem before1_5 (n : ℕ) : ∀ (t : Fin cfg1.N), t.val = n → t.val % 8 ≠ 0 → ∀ d, (dat1 V c).before 5 t d = coverAt V c t := by
  induction n with
  | zero => intro t ht h; omega
  | succ n ih =>
    intro t ht h d
    have hf : (cfg1.win 5).fetch t = false := rfl
    have hfl : (cfg1.win 5).flush ⟨t.val - 1, Nat.lt_of_le_of_lt (Nat.sub_le _ _) t.isLt⟩ = false := by
      rw [Bool.eq_false_iff]; intro hh
      have := (flush1_5 _).mp hh
      have h2 : (t.val - 1) % 8 = 7 := this
      omega
    rw [Dat.before_of_pos (dat1 V c) 5 t (by omega) hf d, hfl, if_neg Bool.false_ne_true]
    have hb : coverAt V c ⟨t.val - 1, Nat.lt_of_le_of_lt (Nat.sub_le _ _) t.isLt⟩ = coverAt V c t := by
      unfold coverAt
      have e : base1 ⟨t.val - 1, Nat.lt_of_le_of_lt (Nat.sub_le _ _) t.isLt⟩ = base1 t := Fin.ext (by show (t.val - 1) / 8 * 8 = t.val / 8 * 8; omega)
      rw [e]
    unfold Dat.left
    by_cases h0 : (t.val - 1) % 8 = 0
    · rw [idle5_false _ h0]
      refine Eq.trans ?_ hb
      exact (rfl : _ = (dat1 V c).after 5 _).trans (after1_5 V c _)
    · rw [idle5_true _ h0]
      exact (ih _ (by show t.val - 1 = n; omega) h0 d).trans hb

theorem defs_tc1 : (defs₀ (F := F)) .tc cfg1.body = fun a => cc1__stage2_body (F := F) (grid1.coords a.1)
    (win1_0.stage (a.2 0)) (hstage1_0 ((a.2 0).cast nbuf1_0)) (win1_1.stage (a.2 1)) (hstage1_1 ((a.2 1).cast nbuf1_1)) (win1_2.stage (a.2 2)) (hstage1_2 ((a.2 2).cast nbuf1_2)) (win1_3.stage (a.2 3)) (hstage1_3 ((a.2 3).cast nbuf1_3)) (win1_4.stage (a.2 4)) (hstage1_4 ((a.2 4).cast nbuf1_4)) (win1_5.stage (a.2 5)) (hstage1_5 ((a.2 5).cast nbuf1_5)) := rfl
theorem prog1_eq (t : Fin cfg1.N) : (defs₀ (F := F)) .tc cfg1.body (cfg1.bodyArgs t (cfg1.slots t)) = cc1__stage2_body (F := F) (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) :=
  (congrFun defs_tc1 _).trans rfl

set_option backward.isDefEq.respectTransparency.types false in
theorem obligation1 : BodyObligation (dat1 (F := F) V c) (defs₀ (F := F)) 𝒱₀ () Set.univ := fun t => by
  rw [bigSep_W1, bigSep_W1]
  dsimp only
  simp only [before1_0, before1_1, before1_2, before1_3, after1_0, after1_1, after1_2, after1_3, after1_4, after1_5]
  rw [show (dat1 V c).Φ t.castSucc = Φ1 (F := F) c from rfl, show (dat1 V c).Φ t.succ = Φ1 (F := F) c from rfl]
  unfold Dat.owesAt Pipeline.owesWithin
  rw [show (dat1 V c).owed t.castSucc = 0 from rfl, show (dat1 V c).owed t.succ = 0 from rfl]
  by_cases h : t.val % 8 = 0
  · rw [show idle1 5 (grid1.coords t) = false from idle5_false t h]
    dsimp only
    have hc : coverAt V c t = cover (iblk1 V c 0 t) := by unfold coverAt; rw [base1_of t h]
    rw [hc]
    unfold owns
    iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, -, H4⟩, ⟨%d5, %g5, -, H5⟩⟩
    ihave H0' := (pointsTo_rep_entails (c : Thread nD τ) (st1_0 t) g0 fullShare) $$ H0
    rw [hg0]
    ihave H1' := (pointsTo_rep_entails (c : Thread nD τ) (st1_1 t) g1 fullShare) $$ H1
    rw [hg1]
    ihave H2' := (pointsTo_rep_entails (c : Thread nD τ) (st1_2 t) g2 fullShare) $$ H2
    rw [hg2]
    ihave H3' := (pointsTo_rep_entails (c : Thread nD τ) (st1_3 t) g3 fullShare) $$ H3
    rw [hg3]
    sl_rw [prog1_eq t]
    iapply (run_first c (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (grid1.coords t) (iblk1 V c 0 t) (iblk1 V c 1 t) (iblk1 V c 2 t) (iblk1 V c 3 t) ((coord1_1 t).trans h) g4 g5 _)
    isplitl [H0' H1' H2' H3' H4 H5]
    · isplitl [H0']; · iexact H0'
      isplitl [H1']; · iexact H1'
      isplitl [H2']; · iexact H2'
      isplitl [H3']; · iexact H3'
      isplitl [H4]; · iexact H4
      iexact H5
    iintro ⟨H0, H1, H2, H3, H4, H5⟩
    isplitl [HΦ]; · iexact HΦ
    isplitl [HW]
    · iexists W; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    iexists _; isplitr; · ipureintro; exact View.read_rep _ _
    iexact H5
  · rw [show idle1 5 (grid1.coords t) = true from idle5_true t h]
    dsimp only
    simp only [before1_5 V c t.val t rfl h]
    unfold owns
    iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, -, H4⟩, ⟨%d5, %g5, %hg5, H5⟩⟩
    ihave H0' := (pointsTo_rep_entails (c : Thread nD τ) (st1_0 t) g0 fullShare) $$ H0
    rw [hg0]
    ihave H1' := (pointsTo_rep_entails (c : Thread nD τ) (st1_1 t) g1 fullShare) $$ H1
    rw [hg1]
    ihave H2' := (pointsTo_rep_entails (c : Thread nD τ) (st1_2 t) g2 fullShare) $$ H2
    rw [hg2]
    ihave H3' := (pointsTo_rep_entails (c : Thread nD τ) (st1_3 t) g3 fullShare) $$ H3
    rw [hg3]
    sl_rw [prog1_eq t]
    iapply (run_rest c (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (grid1.coords t) (iblk1 V c 0 t) (iblk1 V c 1 t) (iblk1 V c 2 t) (iblk1 V c 3 t) (by rw [coord1_1 t]; exact h) g4 _)
    isplitl [H0' H1' H2' H3' H4]
    · isplitl [H0']; · iexact H0'
      isplitl [H1']; · iexact H1'
      isplitl [H2']; · iexact H2'
      isplitl [H3']; · iexact H3'
      iexact H4
    iintro ⟨H0, H1, H2, H3, H4⟩
    isplitl [HΦ]; · iexact HΦ
    isplitl [HW]
    · iexists W; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    cases hfl : (win1 5).flush t
    · dsimp only
      iexists d5; iexists g5; isplitr; · ipureintro; exact hg5
      iexact H5
    · dsimp only
      iexists g5; isplitr; · ipureintro; exact hg5
      iexact H5

end Dat

end Cert.Proof.Ideal

end
-- ==== Proof.Dats.lean ====
/-
  The two stages' proof data, side by side.
-/
module

public import proofs.«01_k».proof.Proof.S1Dat
public import proofs.«01_k».proof.Proof.S2Dat
public import proofs.«01_k».proof.Proof.Gen.KernelIdeal.Regions
public import Idealize.ShloMosaic.Lib.Pipeline.RegionsLoop

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Regs
variable (VA VB : (c : Dev nD) → (b : Ref sig .tc) → Buf (Elt F) ((c : Thread nD τ).loc b))

/-- No core owes another anything: no level is assigned. -/
abbrev lvL : GSem nD τ sig → Finset Unit := fun _ => ∅
abbrev lv : GSem nD τ sig → Unit → ℕ := fun _ _ => 0

/-- The two stages' proof data. -/
def pdats : (p : Fin 2) → (c : Dev nD) → Dat τ (Elt F) Unit ℕ (UU nD τ) ℕ (cfgs p) c
  | ⟨0, _⟩ => dat0 VA
  | ⟨1, _⟩ => dat1 VB

/-- A core's other buffers, untouched by stage 1. -/
def rest0 (V : (c : Dev nD) → (b : Ref sig .tc) → Buf (Elt F) ((c : Thread nD τ).loc b)) (c : Dev nD) : sProp 𝕄 :=
  iprop((((c : Thread nD τ).loc main_arg1) ↦{fullShare} V c main_arg1) ∗ (((c : Thread nD τ).loc main_v2) ↦{fullShare} V c main_v2) ∗ (((c : Thread nD τ).loc main_v3) ↦{fullShare} V c main_v3) ∗ (((c : Thread nD τ).loc main_v4) ↦{fullShare} V c main_v4) ∗ (((c : Thread nD τ).loc main_v5) ↦{fullShare} V c main_v5) ∗ (((c : Thread nD τ).loc main_v6) ↦{fullShare} V c main_v6) ∗ (((c : Thread nD τ).loc main_v7) ↦{fullShare} V c main_v7) ∗ (((c : Thread nD τ).loc main_v8) ↦{fullShare} V c main_v8) ∗ (((c : Thread nD τ).loc main_v9) ↦{fullShare} V c main_v9) ∗ (((c : Thread nD τ).loc main_v10) ↦{fullShare} V c main_v10) ∗ (((c : Thread nD τ).loc main_v11) ↦{fullShare} V c main_v11) ∗ (((c : Thread nD τ).loc main_v12) ↦{fullShare} V c main_v12) ∗ (((c : Thread nD τ).loc main_v13) ↦{fullShare} V c main_v13) ∗ (((c : Thread nD τ).loc main_v14_0) ↦{fullShare} V c main_v14_0) ∗ (((c : Thread nD τ).loc main_v14_1) ↦{fullShare} V c main_v14_1) ∗ (((c : Thread nD τ).loc main_v15) ↦{fullShare} V c main_v15))
/-- A core owes nothing. -/
abbrev owesNone (c : Dev nD) : sProp 𝕄 := iprop(∃ W, owes (c : Thread nD τ) (0 : CellTallies nD τ sig Unit) W)

end Regs

end Cert.Proof.Ideal

end
-- ==== Proof.Reg0.lean ====
/-
  Stage 1 as a region over the program's buffers.
-/
module

public import proofs.«01_k».proof.Proof.Dats

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Regs
variable (VA VB : (c : Dev nD) → (b : Ref sig .tc) → Buf (Elt F) ((c : Thread nD τ).loc b))
variable (VA' VB' : (c : Dev nD) → (b : Ref sig .tc) → Buf (Elt F) ((c : Thread nD τ).loc b))

set_option backward.isDefEq.respectTransparency.types false in
/-- Stage 1 as a region: from every unscoped buffer at `VA` to every one at `VA'`, which is `VA` but for the four results. -/
def reg0 (hout : ∀ c (w : Fin cfg0.W), (cfg0.win w).isOut = true → VA' c (Pipeline.arrRef spec0 w) = (dat0 VA c).arrAt w cfg0.N)
    (hne : ∀ c (b : Ref sig .tc), b ∉ ([main_v1_0, main_v1_1, main_v1_2, main_v1_3] : List (Ref sig .tc)) → VA' c b = VA c b) :
    Pipeline.RegionSeg (pcfgs (F := F)) adm (pdats VA VB) () defs₀ 𝒱₀ lvL lv 0 where
  win := launch0.win.to₀
  block_pos := launch0.block_pos
  stage_whole := launch0.stage_whole
  K := Fin 2 × Fin 8
  osem := osem
  ho := ownSemFacts
  hbody c := (obligation0 VA c).loose
  hwaits := Pipeline.hwaits_of_owed_zero _ _ _ _ lvL lv 0 fun _ _ => rfl
  pre c := iprop(unscopedBufs c (VA c) ∗ owesNone c)
  post c := iprop(unscopedBufs c (VA' c) ∗ owesNone c)
  X c := iprop((((c : Thread nD τ).loc main_arg0) ↦{fullShare} VA c main_arg0) ∗ Pipeline.ownSems0 osem c)
  Y c := ((c : Thread nD τ).loc main_arg0) ↦{fullShare} VA c main_arg0
  Z c := rest0 VA c
  hentry c := by
    have hsplit := Pipeline.arrays_of_unscopedBufs (p := 0) (pcfgs (F := F)) adm (pdats VA VB) launch0.win launch0.arr_whole c
      ((pdats VA VB 0 c).share_full fun _ => rfl) (VA c) fun _ => rfl
    iintro ⟨⟨Hub, HO⟩, HS, -⟩
    ihave H := hsplit $$ Hub
    icases H with ⟨Ha, Hrest⟩
    ihave Hr := (entails_of_eq (unscopedRest0_eq c (VA c))) $$ Hrest
    icases Hr with ⟨H0, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H0 HS]
    · isplitl [H0]; · iexact H0
      iexact HS
    unfold rest0
    iexact Hr
  hin c := by
    rw [show (pdats VA VB 0 c).Φ 0 = Φ0 VA c 0 from rfl]
    iintro ⟨⟨H0, HS⟩, -, Hr⟩
    ihave Hr := (entails_of_eq (scopedRest0_eq c)) $$ Hr
    icases Hr with ⟨H8, H9, Hb, Hst⟩
    unfold Φ0
    isplitr [Hst]
    · rw [invN_zero]
      unfold invE
      isplitl [H0]; · iapply (entails_of_eq (arg0_eq c (VA c main_arg0))); iexact H0
      isplitl [Hb HS]
      · iapply (buf_split c)
        isplitl [Hb]; · iexact Hb
        iexact HS
      isplitl [H8]; · iapply (m8_in c); iexact H8
      iapply (m9_in c); iexact H9
    unfold stg1
    iexact Hst
  hout c := by
    rw [show (pdats VA VB 0 c).Φ (Fin.last _) = Φ0 VA c 16 from rfl]
    unfold Φ0
    rw [invN_last]
    unfold invE
    iintro ⟨⟨H0, Hi, H8, H9⟩, Hst⟩
    ihave Hb := (buf_join c) $$ Hi
    icases Hb with ⟨Hb, HS⟩
    isplitl [H0]; · iapply (entails_of_eq (arg0_eq c (VA c main_arg0)).symm); iexact H0
    isplitl [HS]; · iexact HS
    iapply (entails_of_eq (scopedRest0_eq c).symm)
    isplitl [H8]; · iapply (m8_out c); iexact H8
    isplitl [H9]; · iapply (m9_out c); iexact H9
    isplitl [Hb]; · iexact Hb
    unfold stg1
    iexact Hst
  hexit c := by
    have hjoin := Pipeline.unscopedBufs_of_arrays (p := 0) (pcfgs (F := F)) adm (Ix := Unit) (Name := ℕ) (U := UU nD τ) (Lvl := ℕ) launch0.win launch0.arr_whole c
      (pdats VA VB) ((pdats VA VB 0 c).share_full fun _ => rfl) (VA c) (VA' c) ((pdats VA VB 0 c).arrAt · cfg0.N)
      (fun w => by
        fin_cases w
        · exact ((pdats VA VB 0 c).arrAt_in 0 rfl _).trans (hne c main_v0 (by decide)).symm
        · exact (hout c 1 rfl).symm
        · exact (hout c 2 rfl).symm
        · exact (hout c 3 rfl).symm
        · exact (hout c 4 rfl).symm)
      (fun b hb => hne c b fun h => hb (by
        simp only [List.mem_cons, List.not_mem_nil, or_false] at h
        rcases h with h | h | h | h
        · exact h ▸ Finset.mem_image.mpr ⟨1, Finset.mem_univ _, rfl⟩
        · exact h ▸ Finset.mem_image.mpr ⟨2, Finset.mem_univ _, rfl⟩
        · exact h ▸ Finset.mem_image.mpr ⟨3, Finset.mem_univ _, rfl⟩
        · exact h ▸ Finset.mem_image.mpr ⟨4, Finset.mem_univ _, rfl⟩))
    iintro ⟨Ha, HO, H0, Hr⟩
    imodintro
    isplitl [Ha H0 Hr]
    · iapply hjoin
      isplitl [Ha]; · iexact Ha
      iapply (entails_of_eq (unscopedRest0_eq c (VA c)).symm)
      isplitl [H0]; · iexact H0
      unfold rest0
      iexact Hr
    unfold Pipeline.Dat.owesAt Pipeline.owesWithin
    icases HO with ⟨%W, -, HO⟩; iexists W; iexact HO

end Regs

end Cert.Proof.Ideal

end
-- ==== Proof.Reg1.lean ====
/-
  Stage 2 as a region over the program's buffers.
-/
module

public import proofs.«01_k».proof.Proof.Dats

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Regs
variable (VA VB : (c : Dev nD) → (b : Ref sig .tc) → Buf (Elt F) ((c : Thread nD τ).loc b))
variable (VA' VB' : (c : Dev nD) → (b : Ref sig .tc) → Buf (Elt F) ((c : Thread nD τ).loc b))

set_option backward.isDefEq.respectTransparency.types false in
/-- Stage 2 as a region: from every unscoped buffer at `VB` to every one at `VB'`, which is `VB` but for the two results. -/
def reg1 (hout : ∀ c (w : Fin cfg1.W), (cfg1.win w).isOut = true → VB' c (Pipeline.arrRef spec1 w) = (dat1 VB c).arrAt w cfg1.N)
    (hne : ∀ c (b : Ref sig .tc), b ∉ ([main_v14_0, main_v14_1] : List (Ref sig .tc)) → VB' c b = VB c b) :
    Pipeline.RegionSeg (pcfgs (F := F)) adm (pdats VA VB) () defs₀ 𝒱₀ lvL lv 1 where
  win := launch1.win.to₀
  block_pos := launch1.block_pos
  stage_whole := launch1.stage_whole
  K := PEmpty
  osem k := k.elim
  ho := Pipeline.OwnSemFacts.none _
  hbody c := (obligation1 VB c).loose
  hwaits := Pipeline.hwaits_of_owed_zero _ _ _ _ lvL lv 1 fun _ _ => rfl
  pre c := iprop(unscopedBufs c (VB c) ∗ owesNone c)
  post c := iprop(unscopedBufs c (VB' c) ∗ owesNone c)
  X _ := BI.emp
  Y _ := BI.emp
  Z c := Pipeline.unscopedRest (Ix := Unit) (Name := ℕ) (U := UU nD τ) (Lvl := ℕ) spec1 c (VB c)
  hentry c := by
    rw [Pipeline.ownSems0_none]
    have hsplit := Pipeline.arrays_of_unscopedBufs (p := 1) (pcfgs (F := F)) adm (pdats VA VB) launch1.win launch1.arr_whole c
      ((pdats VA VB 1 c).share_full fun _ => rfl) (VB c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 1 c).Φ 0 = Φ1 (F := F) c from rfl]
    iintro ⟨-, -, Hr⟩; iexact Hr
  hout c := by
    rw [Pipeline.ownSems0_none, show (pdats VA VB 1 c).Φ (Fin.last _) = Φ1 (F := F) c from rfl]
    iintro Hr
    isplitr; · iempintro
    isplitr; · iempintro
    iexact Hr
  hexit c := by
    have hjoin := Pipeline.unscopedBufs_of_arrays (p := 1) (pcfgs (F := F)) adm (Ix := Unit) (Name := ℕ) (U := UU nD τ) (Lvl := ℕ) launch1.win launch1.arr_whole c
      (pdats VA VB) ((pdats VA VB 1 c).share_full fun _ => rfl) (VB c) (VB' c) ((pdats VA VB 1 c).arrAt · cfg1.N)
      (fun w => by
        fin_cases w
        · exact ((pdats VA VB 1 c).arrAt_in 0 rfl _).trans (hne c main_v4 (by decide)).symm
        · exact ((pdats VA VB 1 c).arrAt_in 1 rfl _).trans (hne c main_v7 (by decide)).symm
        · exact ((pdats VA VB 1 c).arrAt_in 2 rfl _).trans (hne c main_v10 (by decide)).symm
        · exact ((pdats VA VB 1 c).arrAt_in 3 rfl _).trans (hne c main_v13 (by decide)).symm
        · exact (hout c 4 rfl).symm
        · exact (hout c 5 rfl).symm)
      (fun b hb => hne c b fun h => hb (by
        simp only [List.mem_cons, List.not_mem_nil, or_false] at h
        rcases h with h | h
        · exact h ▸ Finset.mem_image.mpr ⟨4, Finset.mem_univ _, rfl⟩
        · exact h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Regs

end Cert.Proof.Ideal

end
-- ==== Proof.Vals.lean ====
/-
  The contents of the program's buffers around the two stages.
-/
module

public import proofs.«01_k».proof.Proof.Dats

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Run
variable (m : (ℓ : Loc nD τ sig) → Buf (Elt F) ℓ)

/-- The buffers stage 1 finds. -/
abbrev VA : (c : Dev nD) → (b : Ref sig .tc) → Buf (Elt F) ((c : Thread nD τ).loc b) := fun c b => V1 m c b
/-- The buffers after stage 1. -/
def W2 (c : Dev nD) : Valuation τ sig (Elt F) :=
  Function.update (Function.update (Function.update (Function.update (V1 m c) main_v1_0 ((dat0 (VA m) c).arrAt 1 cfg0.N)) main_v1_1 ((dat0 (VA m) c).arrAt 2 cfg0.N)) main_v1_2 ((dat0 (VA m) c).arrAt 3 cfg0.N)) main_v1_3 ((dat0 (VA m) c).arrAt 4 cfg0.N)
def outsA : Outs (F := F) := fun _ r c => W2 m c r
/-- The buffers stage 2 finds. -/
abbrev VB : (c : Dev nD) → (b : Ref sig .tc) → Buf (Elt F) ((c : Thread nD τ).loc b) := fun c b => V3 m (outsA m) c b
/-- The buffers after stage 2. -/
def W4 (c : Dev nD) : Valuation τ sig (Elt F) :=
  Function.update (Function.update (V3 m (outsA m) c) main_v14_0 ((dat1 (VB m) c).arrAt 4 cfg1.N)) main_v14_1 ((dat1 (VB m) c).arrAt 5 cfg1.N)
/-- What the two stages leave in their results. -/
def outsB : Outs (F := F) := fun n r c => match n with
  | 4 => W4 m c r
  | _ => W2 m c r

theorem outsB_two (r : Ref sig .tc) (c : Dev nD) : outsB m 2 r c = outsA m 2 r c := by unfold outsB outsA; rfl
theorem outsA_two (r : Ref sig .tc) (c : Dev nD) : outsA m 2 r c = W2 m c r := by unfold outsA; rfl
theorem outsB_four (r : Ref sig .tc) (c : Dev nD) : outsB m 4 r c = W4 m c r := by unfold outsB; rfl

theorem upd_ne (V : Valuation τ sig (Elt F)) (r r' : Ref sig .tc) (x) (h : r ≠ r') : Function.update V (Proc.devRef .tc r') x (Proc.devRef .tc r : DevRef τ sig) = V r :=
  Function.update_of_ne (StableHlo.devRef_ne_of_ne h) _ _
theorem upd_self (V : Valuation τ sig (Elt F)) (r : Ref sig .tc) (x) : Function.update V (Proc.devRef .tc r) x (Proc.devRef .tc r : DevRef τ sig) = x :=
  Function.update_self _ _ _

/-- Stage 1's four results, read after it. -/
theorem V2_all (outs : Outs (F := F)) (c : Dev nD) :
    V2 m outs c main_v1_0 = outs 2 main_v1_0 c ∧ V2 m outs c main_v1_1 = outs 2 main_v1_1 c
      ∧ V2 m outs c main_v1_2 = outs 2 main_v1_2 c ∧ V2 m outs c main_v1_3 = outs 2 main_v1_3 c := by
  refine ⟨?_, ?_, ?_, ?_⟩
  · exact (upd_ne _ main_v1_0 main_v1_3 _ (by decide)).trans ((upd_ne _ main_v1_0 main_v1_2 _ (by decide)).trans ((upd_ne _ main_v1_0 main_v1_1 _ (by decide)).trans (upd_self _ _ _)))
  · exact (upd_ne _ main_v1_1 main_v1_3 _ (by decide)).trans ((upd_ne _ main_v1_1 main_v1_2 _ (by decide)).trans (upd_self _ _ _))
  · exact (upd_ne _ main_v1_2 main_v1_3 _ (by decide)).trans (upd_self _ _ _)
  · exact upd_self _ _ _
/-- Stage 2's two results, read after it. -/
theorem V4_all (outs : Outs (F := F)) (c : Dev nD) :
    V4 m outs c main_v14_0 = outs 4 main_v14_0 c ∧ V4 m outs c main_v14_1 = outs 4 main_v14_1 c := by
  refine ⟨?_, ?_⟩
  · exact (upd_ne _ main_v14_0 main_v14_1 _ (by decide)).trans (upd_self _ _ _)
  · exact upd_self _ _ _

/-- The two readings of the first stage's results agree. -/
theorem V2_AB (c : Dev nD) : V2 m (outsB m) c = V2 m (outsA m) c := by
  unfold V2
  rw [outsB_two, outsB_two, outsB_two, outsB_two]
theorem V3_AB (c : Dev nD) : V3 m (outsB m) c = V3 m (outsA m) c := by
  unfold V3
  rw [V2_AB]

/-- Each of stage 1's results is what its windows wrote back. -/
theorem W2_all (c : Dev nD) :
    W2 m c main_v1_0 = (dat0 (VA m) c).arrAt 1 cfg0.N ∧ W2 m c main_v1_1 = (dat0 (VA m) c).arrAt 2 cfg0.N
      ∧ W2 m c main_v1_2 = (dat0 (VA m) c).arrAt 3 cfg0.N ∧ W2 m c main_v1_3 = (dat0 (VA m) c).arrAt 4 cfg0.N := by
  unfold W2
  refine ⟨?_, ?_, ?_, ?_⟩
  · exact (upd_ne _ main_v1_0 main_v1_3 _ (by decide)).trans ((upd_ne _ main_v1_0 main_v1_2 _ (by decide)).trans ((upd_ne _ main_v1_0 main_v1_1 _ (by decide)).trans (upd_self _ _ _)))
  · exact (upd_ne _ main_v1_1 main_v1_3 _ (by decide)).trans ((upd_ne _ main_v1_1 main_v1_2 _ (by decide)).trans (upd_self _ _ _))
  · exact (upd_ne _ main_v1_2 main_v1_3 _ (by decide)).trans (upd_self _ _ _)
  · exact upd_self _ _ _
/-- Each of stage 2's results is what its windows wrote back. -/
theorem W4_all (c : Dev nD) : W4 m c main_v14_0 = (dat1 (VB m) c).arrAt 4 cfg1.N ∧ W4 m c main_v14_1 = (dat1 (VB m) c).arrAt 5 cfg1.N := by
  unfold W4
  refine ⟨?_, ?_⟩
  · exact (upd_ne _ main_v14_0 main_v14_1 _ (by decide)).trans (upd_self _ _ _)
  · exact upd_self _ _ _

theorem V2_out (c : Dev nD) (r : Ref sig .tc) (h : V2 m (outsB m) c r = outsB m 2 r c) : V2 m (outsB m) c r = W2 m c r :=
  h.trans ((outsB_two m r c).trans (outsA_two m r c))
theorem V4_out (c : Dev nD) (r : Ref sig .tc) (h : V4 m (outsB m) c r = outsB m 4 r c) : V4 m (outsB m) c r = W4 m c r :=
  h.trans (outsB_four m r c)
theorem V2_0 (c : Dev nD) : V2 m (outsB m) c main_v1_0 = (dat0 (VA m) c).arrAt 1 cfg0.N := (V2_out m c _ (V2_all m (outsB m) c).1).trans (W2_all m c).1
theorem V2_1 (c : Dev nD) : V2 m (outsB m) c main_v1_1 = (dat0 (VA m) c).arrAt 2 cfg0.N := (V2_out m c _ (V2_all m (outsB m) c).2.1).trans (W2_all m c).2.1
theorem V2_2 (c : Dev nD) : V2 m (outsB m) c main_v1_2 = (dat0 (VA m) c).arrAt 3 cfg0.N := (V2_out m c _ (V2_all m (outsB m) c).2.2.1).trans (W2_all m c).2.2.1
theorem V2_3 (c : Dev nD) : V2 m (outsB m) c main_v1_3 = (dat0 (VA m) c).arrAt 4 cfg0.N := (V2_out m c _ (V2_all m (outsB m) c).2.2.2).trans (W2_all m c).2.2.2
theorem V4_0 (c : Dev nD) : V4 m (outsB m) c main_v14_0 = (dat1 (VB m) c).arrAt 4 cfg1.N := (V4_out m c _ (V4_all m (outsB m) c).1).trans (W4_all m c).1
theorem V4_1 (c : Dev nD) : V4 m (outsB m) c main_v14_1 = (dat1 (VB m) c).arrAt 5 cfg1.N := (V4_out m c _ (V4_all m (outsB m) c).2).trans (W4_all m c).2

end Run

end Cert.Proof.Ideal

end
-- ==== Proof.Whole.lean ====
/-
  The kernel's whole run: from any memory with zero counters it terminates with the arguments as launched, every counter at
  zero, and the results at what the two stages compute.
-/
module

public import proofs.«01_k».proof.Proof.Reg0
public import proofs.«01_k».proof.Proof.Reg1
public import proofs.«01_k».proof.Proof.Vals

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Run
variable (m : (ℓ : Loc nD τ sig) → Buf (Elt F) ℓ)

/-- The two regions of the run. -/
def R0 : Pipeline.RegionSeg (pcfgs (F := F)) adm (pdats (VA m) (VB m)) () defs₀ 𝒱₀ lvL lv 0 :=
  reg0 (VA m) (VB m) (fun c b => V2 m (outsB m) c b)
    (fun c w hw => by
      fin_cases w
      · exact absurd hw (by decide)
      · exact V2_0 m c
      · exact V2_1 m c
      · exact V2_2 m c
      · exact V2_3 m c)
    (fun c b hb => V2_of m (outsB m) c b hb)
def R1 : Pipeline.RegionSeg (pcfgs (F := F)) adm (pdats (VA m) (VB m)) () defs₀ 𝒱₀ lvL lv 1 :=
  reg1 (VA m) (VB m) (fun c b => V4 m (outsB m) c b)
    (fun c w hw => by
      fin_cases w
      · exact absurd hw (by decide)
      · exact absurd hw (by decide)
      · exact absurd hw (by decide)
      · exact absurd hw (by decide)
      · exact V4_0 m c
      · exact V4_1 m c)
    (fun c b hb => (V4_of m (outsB m) c b hb).trans (congrFun (V3_AB m c) _))

/-- The launch's ghost resource. -/
def u₀ : UU nD τ := (initOf (Pipeline.cells cfgs cellOf_inj) (Pipeline.launchToks cfgs cellOf_inj), 1)

/-- What the run leaves: the arguments as launched, the results at what the stages compute. -/
def Ends (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v14_0) = V5 m (outsB m) c main_v14_0
    ∧ s.mem ((c.tc : Thread nD τ).loc main_v15) = V5 m (outsB m) c main_v15

set_option backward.isDefEq.respectTransparency.types false in
/-- The whole run: it terminates, every counter is zero at the end, and the memory is `Ends`. -/
theorem run_main (ρ : Dev nD → PrngReg) :
    θ_run defs (onTc (τ := τ) (main (F := F))) ⟨m, fun _ => 0, ρ⟩ (fun r => (∀ c : Dev nD, Ends m r.2 c) ∧ r.2.sem = fun _ => 0) := by
  refine Pipeline.θ_run_regions_kit_dev_sems (pcfgs (F := F)) adm (pdats (VA m) (VB m)) () cellOf_inj EP defs₀ 𝒱₀ lvL lv m ρ main
    (segs m (outsB m) 𝒱₀ lvL lv (fun _ c => owesNone c) () (pdats (VA m) (VB m)) (R0 m) (R1 m))
    (fun c Q => by
      rewrite [main_chain c, Pipeline.Seg.run_eq_chain,
        show (segs m (outsB m) 𝒱₀ lvL lv (fun _ c => owesNone c) () (pdats (VA m) (VB m)) (R0 m) (R1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (fun _ => 0) (fun _ _ => rfl) (fun _ => iprop(emp)) u₀ ?hu
    (T₀ := fun c => iprop(StableHlo.held (c : Thread nD τ) (Pipeline.ucRefs τ sig) (V0 m c) ∗ owesNone c))
    (Tₙ := fun c => StableHlo.held (c : Thread nD τ) (Pipeline.ucRefs τ sig) (V5 m (outsB m) c))
    (hch := fun c => ⟨.rfl, ?_, ?_, ?_, ?_, .rfl⟩)
    (hinit := ?_) (QY := fun c s => Ends m s c)
    (hfin := fun c s' => ?_) (hQ := fun _ h hz => ⟨h, funext fun g => hz g (.inr (regions_no_unscoped g.2))⟩)
  case hu =>
    unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · exact sep_mono (entails_of_eq (Pipeline.unscopedBufs_held c (V1 m c)).symm) .rfl
  · exact sep_mono (entails_of_eq (Pipeline.unscopedBufs_held c (V2 m (outsB m) c))) .rfl
  · refine (show iprop(StableHlo.held (c : Thread nD τ) (Pipeline.ucRefs τ sig) (V3 m (outsB m) c) ∗ owesNone c) ⊢ (iprop(unscopedBufs c (VB m c) ∗ owesNone c) : sProp 𝕄) from ?_)
    rw [V3_AB]
    exact sep_mono (entails_of_eq (Pipeline.unscopedBufs_held c (V3 m (outsA m) c)).symm) .rfl
  · exact sep_mono (entails_of_eq (Pipeline.unscopedBufs_held c (V4 m (outsB m) c))) .rfl
  · have hcore : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp)
        ⊢ (iprop(StableHlo.held (c : Thread nD τ) (Pipeline.ucRefs τ sig) (V0 m c) ∗ owesNone c) : sProp 𝕄) := by
      intro c
      iintro ⟨Hb, -, HO, -⟩
      isplitl [Hb]
      · iapply (entails_of_eq (Pipeline.unscopedBufs_held c (V0 m c))); iexact Hb
      iexists ∅; iexact HO
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp))
        ⊢ (bigSep Finset.univ fun c : Dev nD => iprop(StableHlo.held (c : Thread nD τ) (Pipeline.ucRefs τ sig) (V0 m c) ∗ owesNone c) : sProp 𝕄) :=
      bigSep_mono fun c _ => hcore c
    iintro ⟨H, -⟩
    imodintro
    iapply hall
    iexact H
  · unfold StableHlo.held
    iintro ⟨Hh, HSI⟩
    ihave Hr := (pointsTo_read_all (Pipeline.ucRefs τ sig) (fun b => ((c : Thread nD τ).1, b)) (V5 m (outsB m) c) s') $$ [Hh HSI]
    · isplitl [Hh] <;> iassumption
    icases Hr with ⟨%h, HSI⟩
    imodintro
    isplitr
    · ipureintro
      have hr : ∀ r : Ref sig .tc, r.isScoped = false → s'.mem.mem ((c.tc : Thread nD τ).loc r) = V5 m (outsB m) c r := fun r hr =>
        h (Proc.devRef .tc r) (Finset.mem_filter.mpr ⟨StableHlo.devRef_mem_tcRefs r, by rw [show (Proc.devRef .tc r : DevRef τ sig).isScoped = r.isScoped from rfl, hr]; decide⟩)
      exact ⟨(hr main_arg0 (by decide)).trans (V5_main_arg0 m (outsB m) c), (hr main_arg1 (by decide)).trans (V5_main_arg1 m (outsB m) c),
        hr main_v14_0 (by decide), hr main_v15 (by decide)⟩
    · iexact HSI

end Run

end Cert.Proof.Ideal

end
-- ==== Proof.Bits.Dats.lean ====
/-
  The two stages' proof data, side by side.
-/
module

public import proofs.«01_k».proof.Proof.Bits.S1Dat
public import proofs.«01_k».proof.Proof.Bits.S2Dat
public import proofs.«01_k».proof.Proof.Gen.Kernel.Regions
public import Idealize.ShloMosaic.Lib.Pipeline.RegionsLoop

@[expose] public section

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UU nD τ) ℕ

section Regs
variable (VA VB : (c : Dev nD) → (b : Ref sig .tc) → Buf (Elt F) ((c : Thread nD τ).loc b))

/-- No core owes another anything: no level is assigned. -/
abbrev lvL : GSem nD τ sig → Finset Unit := fun _ => ∅
abbrev lv : GSem nD τ sig → Unit → ℕ := fun _ _ => 0

/-- The two stages' proof data. -/
def pdats : (p : Fin 2) → (c : Dev nD) → Dat τ (Elt F) Unit ℕ (UU nD τ) ℕ (cfgs p) c
  | ⟨0, _⟩ => dat0 VA
  | ⟨1, _⟩ => dat1 VB

/-- A core's other buffers, untouched by stage 1. -/
def rest0 (V : (c : Dev nD) → (b : Ref sig .tc) → Buf (Elt F) ((c : Thread nD τ).loc b)) (c : Dev nD) : sProp 𝕄 :=
  iprop((((c : Thread nD τ).loc main_arg1) ↦{fullShare} V c main_arg1) ∗ (((c : Thread nD τ).loc main_v2) ↦{fullShare} V c main_v2) ∗ (((c : Thread nD τ).loc main_v3) ↦{fullShare} V c main_v3) ∗ (((c : Thread nD τ).loc main_v4) ↦{fullShare} V c main_v4) ∗ (((c : Thread nD τ).loc main_v5) ↦{fullShare} V c main_v5) ∗ (((c : Thread nD τ).loc main_v6) ↦{fullShare} V c main_v6) ∗ (((c : Thread nD τ).loc main_v7) ↦{fullShare} V c main_v7) ∗ (((c : Thread nD τ).loc main_v8) ↦{fullShare} V c main_v8) ∗ (((c : Thread nD τ).loc main_v9) ↦{fullShare} V c main_v9) ∗ (((c : Thread nD τ).loc main_v10) ↦{fullShare} V c main_v10) ∗ (((c : Thread nD τ).loc main_v11) ↦{fullShare} V c main_v11) ∗ (((c : Thread nD τ).loc main_v12) ↦{fullShare} V c main_v12) ∗ (((c : Thread nD τ).loc main_v13) ↦{fullShare} V c main_v13) ∗ (((c : Thread nD τ).loc main_v14_0) ↦{fullShare} V c main_v14_0) ∗ (((c : Thread nD τ).loc main_v14_1) ↦{fullShare} V c main_v14_1) ∗ (((c : Thread nD τ).loc main_v15) ↦{fullShare} V c main_v15))
/-- A core owes nothing. -/
abbrev owesNone (c : Dev nD) : sProp 𝕄 := iprop(∃ W, owes (c : Thread nD τ) (0 : CellTallies nD τ sig Unit) W)

end Regs

end Cert.Proof.Bits

end
-- ==== Proof.RefRun.lean ====
/-
  The reference's run: its trip's values window by window, the step, and the results as the step iterated.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 10 host operations of @main, in order. -/
abbrev hostOps0 : List (HloOp τ sig (Elt F)) :=
  [ StableHlo.nullary main_cst (constant S_ .f32 0x00000000#32),
    StableHlo.unary main_cst main_v0 (broadcastInDim S1024x32768 ![] bcast_S_S1024x32768 : (⟨S_, .f32⟩ : BufTy).Contents (Elt F) → (⟨S1024x32768, .f32⟩ : BufTy).Contents (Elt F)),
    StableHlo.nullary main_cst_0 (constant S_ .f32 0x00000000#32),
    StableHlo.unary main_cst_0 main_v1 (broadcastInDim S1024 ![] bcast_S_S1024 : (⟨S_, .f32⟩ : BufTy).Contents (Elt F) → (⟨S1024, .f32⟩ : BufTy).Contents (Elt F)),
    StableHlo.nullary main_c (constantI S_ 32 0#32),
    StableHlo.unary main_arg0 main_v2_0 id,
    StableHlo.unary main_c main_v2_1 id,
    StableHlo.unary main_arg1 main_v2_2 id,
    StableHlo.unary main_v0 main_v2_3 id,
    StableHlo.unary main_v1 main_v2_4 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    HostLoop.enter 0 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons]
  chain_rfl

-- no `main_segs` (the loop-free kit's `Seg.run` equation) for this @main: it has a host loop; a certificate takes `main_chain` (Lib/Pipeline/RegionsLoop.lean)

/-- 3 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.unaryIndexed (.of main_v2_0 : StableHlo.TRef sig ⟨S1024x32768, .f32⟩) ![(.of main_v2_1 : StableHlo.TRef sig ⟨S_, .i32⟩), (.of main_while0b_call0_c : StableHlo.TRef sig ⟨S_, .i32⟩)] (.of main_while0b_call0_v0 : StableHlo.TRef sig ⟨S1x32768, .f32⟩) (fun x i => Host.dynamicSlice S1x32768 x (fun k => (i k (Shape.Idx.first h_S_)).toInt) sliceFits_S1024x32768_S1x32768),
    StableHlo.TRef.reshape (.of main_while0b_call0_v0 : StableHlo.TRef sig ⟨S1x32768, .f32⟩) (.of main_while0b_v3 : StableHlo.TRef sig ⟨S32768, .f32⟩) (rfl : (.f32 : EltTy) = .f32) shapeCasts_S1x32768_S32768 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 31 host operations of host loop 0's body region, in order. -/
abbrev while0Ops0_1 : List (HloOp τ sig (Elt F)) :=
  [ StableHlo.nullary main_while0b_cst_5 (constant S_ .f32 0x3F7D70A4#32),
    StableHlo.unary main_while0b_cst_5 main_while0b_v4 (broadcastInDim S32768 ![] bcast_S_S32768 : (⟨S_, .f32⟩ : BufTy).Contents (Elt F) → (⟨S32768, .f32⟩ : BufTy).Contents (Elt F)),
    StableHlo.binary main_while0b_v4 main_v2_2 main_while0b_v5 (mulf : (⟨S32768, .f32⟩ : BufTy).Contents (Elt F) → (⟨S32768, .f32⟩ : BufTy).Contents (Elt F) → (⟨S32768, .f32⟩ : BufTy).Contents (Elt F)),
    StableHlo.nullary main_while0b_cst_6 (constant S_ .f32 0x3C23D70A#32),
    StableHlo.unary main_while0b_cst_6 main_while0b_v6 (broadcastInDim S32768 ![] bcast_S_S32768 : (⟨S_, .f32⟩ : BufTy).Contents (Elt F) → (⟨S32768, .f32⟩ : BufTy).Contents (Elt F)),
    StableHlo.binary main_while0b_v6 main_while0b_v3 main_while0b_v7 (mulf : (⟨S32768, .f32⟩ : BufTy).Contents (Elt F) → (⟨S32768, .f32⟩ : BufTy).Contents (Elt F) → (⟨S32768, .f32⟩ : BufTy).Contents (Elt F)),
    StableHlo.binary main_while0b_v5 main_while0b_v7 main_while0b_v8 (addf : (⟨S32768, .f32⟩ : BufTy).Contents (Elt F) → (⟨S32768, .f32⟩ : BufTy).Contents (Elt F) → (⟨S32768, .f32⟩ : BufTy).Contents (Elt F)),
    StableHlo.nullary main_while0b_cst_7 (constant S_ .f32 0xFF800000#32),
    StableHlo.binary main_while0b_v8 main_while0b_cst_7 main_while0b_v9 ((fun x v => Host.reduce FloatOps.maximumf x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_while0b_cst_8 (constant S_ .f32 0x3F147AE1#32),
    StableHlo.binary main_while0b_v9 main_while0b_cst_8 main_while0b_v10 (cmpf .oge : (⟨S_, .f32⟩ : BufTy).Contents (Elt F) → (⟨S_, .f32⟩ : BufTy).Contents (Elt F) → (⟨S_, .i1⟩ : BufTy).Contents (Elt F)),
    StableHlo.nullary main_while0b_cst_9 (constant S_ .f32 0x3F59999A#32),
    StableHlo.unary main_while0b_cst_9 main_while0b_v11 (broadcastInDim S32768 ![] bcast_S_S32768 : (⟨S_, .f32⟩ : BufTy).Contents (Elt F) → (⟨S32768, .f32⟩ : BufTy).Contents (Elt F)),
    StableHlo.binary main_while0b_v8 main_while0b_v11 main_while0b_v12 (mulf : (⟨S32768, .f32⟩ : BufTy).Contents (Elt F) → (⟨S32768, .f32⟩ : BufTy).Contents (Elt F) → (⟨S32768, .f32⟩ : BufTy).Contents (Elt F)),
    StableHlo.unary main_while0b_v12 main_while0b_values ((fun x => (Host.topK S2 0 (FloatOps.cmpfTotal .gt) x sliceFits_S32768_S2).1) : (⟨S32768, .f32⟩ : BufTy).Contents (Elt F) → (⟨S2, .f32⟩ : BufTy).Contents (Elt F)),
    StableHlo.unary main_while0b_v12 main_while0b_indices ((fun x => (Host.topK S2 0 (FloatOps.cmpfTotal .gt) x sliceFits_S32768_S2).2) : (⟨S32768, .f32⟩ : BufTy).Contents (Elt F) → (⟨S2, .i32⟩ : BufTy).Contents (Elt F)),
    StableHlo.nullary main_while0b_cst_10 (constant S_ .f32 0x00000000#32),
    StableHlo.unary main_while0b_cst_10 main_while0b_v13 (broadcastInDim S32768 ![] bcast_S_S32768 : (⟨S_, .f32⟩ : BufTy).Contents (Elt F) → (⟨S32768, .f32⟩ : BufTy).Contents (Elt F)),
    StableHlo.nullary main_while0b_c_11 (constantI S_ 32 0#32),
    StableHlo.unary main_while0b_c_11 main_while0b_v14 (broadcastInDim S2 ![] bcast_S_S2 : (⟨S_, .i32⟩ : BufTy).Contents (Elt F) → (⟨S2, .i32⟩ : BufTy).Contents (Elt F)),
    StableHlo.binary main_while0b_indices main_while0b_v14 main_while0b_v15 (cmpi .slt : (⟨S2, .i32⟩ : BufTy).Contents (Elt F) → (⟨S2, .i32⟩ : BufTy).Contents (Elt F) → (⟨S2, .i1⟩ : BufTy).Contents (Elt F)),
    StableHlo.nullary main_while0b_c_12 (constantI S_ 32 32768#32),
    StableHlo.unary main_while0b_c_12 main_while0b_v16 (broadcastInDim S2 ![] bcast_S_S2 : (⟨S_, .i32⟩ : BufTy).Contents (Elt F) → (⟨S2, .i32⟩ : BufTy).Contents (Elt F)),
    StableHlo.binary main_while0b_indices main_while0b_v16 main_while0b_v17 (addi : (⟨S2, .i32⟩ : BufTy).Contents (Elt F) → (⟨S2, .i32⟩ : BufTy).Contents (Elt F) → (⟨S2, .i32⟩ : BufTy).Contents (Elt F)),
    StableHlo.ternary main_while0b_v15 main_while0b_v17 main_while0b_indices main_while0b_v18 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_while0b_v18 main_while0b_v19 (broadcastInDim S2x1 ![0] bcast_S2_S2x1_0 : (⟨S2, .i32⟩ : BufTy).Contents (Elt F) → (⟨S2x1, .i32⟩ : BufTy).Contents (Elt F)),
    StableHlo.nullary main_while0b_cst_13 (constant S_ .f32 0x3F800000#32),
    StableHlo.unary main_while0b_cst_13 main_while0b_v20 (broadcastInDim S2 ![] bcast_S_S2 : (⟨S_, .f32⟩ : BufTy).Contents (Elt F) → (⟨S2, .f32⟩ : BufTy).Contents (Elt F)),
    StableHlo.ternary main_while0b_v13 main_while0b_v19 main_while0b_v20 main_while0b_v21 ((fun x i u => Host.scatter scatter_S32768_S2x1_S2_n_0_0_1 (fun _ b => b) x i u) : (⟨S32768, .f32⟩ : BufTy).Contents (Elt F) → (⟨S2x1, .i32⟩ : BufTy).Contents (Elt F) → (⟨S2, .f32⟩ : BufTy).Contents (Elt F) → (⟨S32768, .f32⟩ : BufTy).Contents (Elt F)),
    StableHlo.nullary main_while0b_cst_14 (constant S_ .f32 0x00000000#32),
    StableHlo.unary main_while0b_cst_14 main_while0b_v22 (broadcastInDim S32768 ![] bcast_S_S32768 : (⟨S_, .f32⟩ : BufTy).Contents (Elt F) → (⟨S32768, .f32⟩ : BufTy).Contents (Elt F)) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub ..⟩
/-- 1 host operation of @_where (main_while0b_call1), in order. -/
abbrev while0Ops0_2 : List (HloOp τ sig (Elt F)) :=
  [ StableHlo.TRef.ternary (.of main_while0b_v10 : StableHlo.TRef sig ⟨S_, .i1⟩) (.of main_while0b_v21 : StableHlo.TRef sig ⟨S32768, .f32⟩) (.of main_while0b_v22 : StableHlo.TRef sig ⟨S32768, .f32⟩) (.of main_while0b_v23 : StableHlo.TRef sig ⟨S32768, .f32⟩) (fun p a b => select (broadcastInDim S32768 ![] bcast_S_S32768 p) a b) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  StableHlo.ternary_bufs_sub ..
/-- 5 host operations of host loop 0's body region, in order. -/
abbrev while0Ops0_3 : List (HloOp τ sig (Elt F)) :=
  [ StableHlo.nullary main_while0b_cst_15 (constant S_ .f32 0x00000000#32),
    StableHlo.binary main_while0b_v23 main_while0b_cst_15 main_while0b_v24 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_while0b_cst_16 (constant S_ .f32 0x47000000#32),
    StableHlo.binary main_while0b_v24 main_while0b_cst_16 main_while0b_v25 (Host.divf : (⟨S_, .f32⟩ : BufTy).Contents (Elt F) → (⟨S_, .f32⟩ : BufTy).Contents (Elt F) → (⟨S_, .f32⟩ : BufTy).Contents (Elt F)),
    StableHlo.nullary main_while0b_cst_17 (constant S_ .f32 0x00000000#32) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub ..⟩
/-- 1 host operation of @_where_0 (main_while0b_call2), in order. -/
abbrev while0Ops0_4 : List (HloOp τ sig (Elt F)) :=
  [ StableHlo.TRef.ternary (.of main_while0b_v10 : StableHlo.TRef sig ⟨S_, .i1⟩) (.of main_while0b_v25 : StableHlo.TRef sig ⟨S_, .f32⟩) (.of main_while0b_cst_17 : StableHlo.TRef sig ⟨S_, .f32⟩) (.of main_while0b_v26 : StableHlo.TRef sig ⟨S_, .f32⟩) select ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  StableHlo.ternary_bufs_sub ..
/-- 3 host operations of @dynamic_update_index_in_dim (main_while0b_call3), in order. -/
abbrev while0Ops0_5 : List (HloOp τ sig (Elt F)) :=
  [ StableHlo.TRef.unary (.of main_while0b_v23 : StableHlo.TRef sig ⟨S32768, .f32⟩) (.of main_while0b_call3_v0 : StableHlo.TRef sig ⟨S1x32768, .f32⟩) (broadcastInDim S1x32768 ![1] bcast_S32768_S1x32768_1),
    StableHlo.TRef.nullary (.of main_while0b_call3_c : StableHlo.TRef sig ⟨S_, .i32⟩) (constantI S_ 32 0#32),
    StableHlo.TRef.binaryIndexed (.of main_v2_3 : StableHlo.TRef sig ⟨S1024x32768, .f32⟩) (.of main_while0b_call3_v0 : StableHlo.TRef sig ⟨S1x32768, .f32⟩) ![(.of main_v2_1 : StableHlo.TRef sig ⟨S_, .i32⟩), (.of main_while0b_call3_c : StableHlo.TRef sig ⟨S_, .i32⟩)] (.of main_while0b_v27 : StableHlo.TRef sig ⟨S1024x32768, .f32⟩) (fun x u i => Host.dynamicUpdateSlice x u (fun k => (i k (Shape.Idx.first h_S_)).toInt) updateFits_S1024x32768_S1x32768) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.binaryIndexed_bufs_sub ..⟩
/-- 2 host operations of @dynamic_update_index_in_dim_1 (main_while0b_call4), in order. -/
abbrev while0Ops0_6 : List (HloOp τ sig (Elt F)) :=
  [ StableHlo.TRef.unary (.of main_while0b_v26 : StableHlo.TRef sig ⟨S_, .f32⟩) (.of main_while0b_call4_v0 : StableHlo.TRef sig ⟨S1, .f32⟩) (broadcastInDim S1 ![] bcast_S_S1),
    StableHlo.TRef.binaryIndexed (.of main_v2_4 : StableHlo.TRef sig ⟨S1024, .f32⟩) (.of main_while0b_call4_v0 : StableHlo.TRef sig ⟨S1, .f32⟩) ![(.of main_v2_1 : StableHlo.TRef sig ⟨S_, .i32⟩)] (.of main_while0b_v28 : StableHlo.TRef sig ⟨S1024, .f32⟩) (fun x u i => Host.dynamicUpdateSlice x u (fun k => (i k (Shape.Idx.first h_S_)).toInt) updateFits_S1024_S1) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.binaryIndexed_bufs_sub ..⟩
/-- 6 host operations of host loop 0's body region, in order. -/
abbrev while0Ops0_7 : List (HloOp τ sig (Elt F)) :=
  [ StableHlo.nullary main_while0b_c_18 (constantI S_ 32 1#32),
    StableHlo.binary main_v2_1 main_while0b_c_18 main_while0b_v29 (addi : (⟨S_, .i32⟩ : BufTy).Contents (Elt F) → (⟨S_, .i32⟩ : BufTy).Contents (Elt F) → (⟨S_, .i32⟩ : BufTy).Contents (Elt F)),
    StableHlo.unary main_while0b_v29 main_v2_1 id,
    StableHlo.unary main_while0b_v8 main_v2_2 id,
    StableHlo.unary main_while0b_v27 main_v2_3 id,
    StableHlo.unary main_while0b_v28 main_v2_4 id ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, Pipeline.chain_cons, Pipeline.chain_cons, StableHlo.chain_seq_cons]
  chain_rfl

end Cert.ReferenceIdeal.Gen

namespace Cert.Proof.RefValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_cst, main_v0, main_cst_0, main_v1, main_c, main_v2_0, main_v2_1, main_v2_2, main_v2_3, main_v2_4]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_v0, main_while0b_v3]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_cst_5, main_while0b_v4, main_while0b_v5, main_while0b_cst_6, main_while0b_v6, main_while0b_v7, main_while0b_v8, main_while0b_cst_7, main_while0b_v9, main_while0b_cst_8, main_while0b_v10, main_while0b_cst_9, main_while0b_v11, main_while0b_v12, main_while0b_values, main_while0b_indices, main_while0b_cst_10, main_while0b_v13, main_while0b_c_11, main_while0b_v14, main_while0b_v15, main_while0b_c_12, main_while0b_v16, main_while0b_v17, main_while0b_v18, main_while0b_v19, main_while0b_cst_13, main_while0b_v20, main_while0b_v21, main_while0b_cst_14, main_while0b_v22]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v23]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_cst_15, main_while0b_v24, main_while0b_cst_16, main_while0b_v25, main_while0b_cst_17]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_v26]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call3_v0, main_while0b_call3_c, main_while0b_v27]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call4_v0, main_while0b_v28]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_c_18, main_while0b_v29, main_v2_1, main_v2_2, main_v2_3, main_v2_4]
theorem while0Ops0_7_writes : (while0Ops0_7 : List (HloOp τ sig (Elt F))).Forall fun op => op.writes ⊆ (while0Ops0_7_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_5 (constantI S_ 32 1024#32),
    StableHlo.binary main_v2_1 main_while0c_c_5 main_while0c_v3 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7]
abbrev postI : List (List (HloOp τ sig (Elt F))) := []

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.nil))))))))
theorem hpost : Plain (postI (F := F)) := .nil

/-- The reference each operation of `condOps` writes, in order. -/
abbrev condOps_W : List (Ref sig .tc) := [main_while0c_c_5, main_while0c_v3]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v2_1`) is written by one stretch of the body, `while0Ops0_7`: not by the condition, nor by the
    body's other stretches. -/
theorem ctr_cond (V : Valuation τ sig (Elt F)) : after condOps V (Proc.devRef .tc main_v2_1) = V (Proc.devRef .tc main_v2_1) :=
  after_of_writes_sub condOps V condOps_writes (by decide +kernel)
theorem ctr_while0Ops0 (V : Valuation τ sig (Elt F)) : after while0Ops0 V (Proc.devRef .tc main_v2_1) = V (Proc.devRef .tc main_v2_1) :=
  after_of_writes_sub while0Ops0 V while0Ops0_writes (by decide +kernel)
theorem ctr_while0Ops0_1 (V : Valuation τ sig (Elt F)) : after while0Ops0_1 V (Proc.devRef .tc main_v2_1) = V (Proc.devRef .tc main_v2_1) :=
  after_of_writes_sub while0Ops0_1 V while0Ops0_1_writes (by decide +kernel)
theorem ctr_while0Ops0_2 (V : Valuation τ sig (Elt F)) : after while0Ops0_2 V (Proc.devRef .tc main_v2_1) = V (Proc.devRef .tc main_v2_1) :=
  after_of_writes_sub while0Ops0_2 V while0Ops0_2_writes (by decide +kernel)
theorem ctr_while0Ops0_3 (V : Valuation τ sig (Elt F)) : after while0Ops0_3 V (Proc.devRef .tc main_v2_1) = V (Proc.devRef .tc main_v2_1) :=
  after_of_writes_sub while0Ops0_3 V while0Ops0_3_writes (by decide +kernel)
theorem ctr_while0Ops0_4 (V : Valuation τ sig (Elt F)) : after while0Ops0_4 V (Proc.devRef .tc main_v2_1) = V (Proc.devRef .tc main_v2_1) :=
  after_of_writes_sub while0Ops0_4 V while0Ops0_4_writes (by decide +kernel)
theorem ctr_while0Ops0_5 (V : Valuation τ sig (Elt F)) : after while0Ops0_5 V (Proc.devRef .tc main_v2_1) = V (Proc.devRef .tc main_v2_1) :=
  after_of_writes_sub while0Ops0_5 V while0Ops0_5_writes (by decide +kernel)
theorem ctr_while0Ops0_6 (V : Valuation τ sig (Elt F)) : after while0Ops0_6 V (Proc.devRef .tc main_v2_1) = V (Proc.devRef .tc main_v2_1) :=
  after_of_writes_sub while0Ops0_6 V while0Ops0_6_writes (by decide +kernel)

set_option maxRecDepth 100000 in
/-- `while0Ops0_7` leaves the counter one step on. -/
theorem ctr_step (X : Valuation τ sig (Elt F)) :
    after while0Ops0_7 X (Proc.devRef .tc main_v2_1) = addi (X (Proc.devRef .tc main_v2_1)) (constantI S_ 32 1#32) := by
  after_results
  rfl

/-- The counter is the loop's lower bound at the loop's entry: its last writer before the loop read back. -/
theorem ctr_entry (c : Dev nD) : entryContents preI m c (Proc.devRef .tc main_v2_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v2_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v2_1 HostLoop.idx0)
        (HloOp.result _ (atK m k c) main_while0c_c_5 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1024 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1024 m ρ (cond_spec m)

/-! ## One trip's values -/

/-- The body's operations 1 … 2 of 52. -/
abbrev trip_w0 : List (HloOp τ sig (Elt F)) :=
  [ StableHlo.TRef.nullary (.of main_while0b_call0_c : StableHlo.TRef sig ⟨S_, .i32⟩) (constantI S_ 32 0#32),
    StableHlo.TRef.unaryIndexed (.of main_v2_0 : StableHlo.TRef sig ⟨S1024x32768, .f32⟩) ![(.of main_v2_1 : StableHlo.TRef sig ⟨S_, .i32⟩), (.of main_while0b_call0_c : StableHlo.TRef sig ⟨S_, .i32⟩)] (.of main_while0b_call0_v0 : StableHlo.TRef sig ⟨S1x32768, .f32⟩) (fun x i => Host.dynamicSlice S1x32768 x (fun k => (i k (Shape.Idx.first h_S_)).toInt) sliceFits_S1024x32768_S1x32768) ]

/-- The body's operations 3 … 3 of 52. -/
abbrev trip_w1 : List (HloOp τ sig (Elt F)) :=
  [ StableHlo.TRef.reshape (.of main_while0b_call0_v0 : StableHlo.TRef sig ⟨S1x32768, .f32⟩) (.of main_while0b_v3 : StableHlo.TRef sig ⟨S32768, .f32⟩) (rfl : (.f32 : EltTy) = .f32) shapeCasts_S1x32768_S32768 ]

/-- The body's operations 4 … 27 of 52. -/
abbrev trip_w2 : List (HloOp τ sig (Elt F)) :=
  [ StableHlo.nullary main_while0b_cst_5 (constant S_ .f32 0x3F7D70A4#32),
    StableHlo.unary main_while0b_cst_5 main_while0b_v4 (broadcastInDim S32768 ![] bcast_S_S32768 : (⟨S_, .f32⟩ : BufTy).Contents (Elt F) → (⟨S32768, .f32⟩ : BufTy).Contents (Elt F)),
    StableHlo.binary main_while0b_v4 main_v2_2 main_while0b_v5 (mulf : (⟨S32768, .f32⟩ : BufTy).Contents (Elt F) → (⟨S32768, .f32⟩ : BufTy).Contents (Elt F) → (⟨S32768, .f32⟩ : BufTy).Contents (Elt F)),
    StableHlo.nullary main_while0b_cst_6 (constant S_ .f32 0x3C23D70A#32),
    StableHlo.unary main_while0b_cst_6 main_while0b_v6 (broadcastInDim S32768 ![] bcast_S_S32768 : (⟨S_, .f32⟩ : BufTy).Contents (Elt F) → (⟨S32768, .f32⟩ : BufTy).Contents (Elt F)),
    StableHlo.binary main_while0b_v6 main_while0b_v3 main_while0b_v7 (mulf : (⟨S32768, .f32⟩ : BufTy).Contents (Elt F) → (⟨S32768, .f32⟩ : BufTy).Contents (Elt F) → (⟨S32768, .f32⟩ : BufTy).Contents (Elt F)),
    StableHlo.binary main_while0b_v5 main_while0b_v7 main_while0b_v8 (addf : (⟨S32768, .f32⟩ : BufTy).Contents (Elt F) → (⟨S32768, .f32⟩ : BufTy).Contents (Elt F) → (⟨S32768, .f32⟩ : BufTy).Contents (Elt F)),
    StableHlo.nullary main_while0b_cst_7 (constant S_ .f32 0xFF800000#32),
    StableHlo.binary main_while0b_v8 main_while0b_cst_7 main_while0b_v9 ((fun x v => Host.reduce FloatOps.maximumf x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_while0b_cst_8 (constant S_ .f32 0x3F147AE1#32),
    StableHlo.binary main_while0b_v9 main_while0b_cst_8 main_while0b_v10 (cmpf .oge : (⟨S_, .f32⟩ : BufTy).Contents (Elt F) → (⟨S_, .f32⟩ : BufTy).Contents (Elt F) → (⟨S_, .i1⟩ : BufTy).Contents (Elt F)),
    StableHlo.nullary main_while0b_cst_9 (constant S_ .f32 0x3F59999A#32),
    StableHlo.unary main_while0b_cst_9 main_while0b_v11 (broadcastInDim S32768 ![] bcast_S_S32768 : (⟨S_, .f32⟩ : BufTy).Contents (Elt F) → (⟨S32768, .f32⟩ : BufTy).Contents (Elt F)),
    StableHlo.binary main_while0b_v8 main_while0b_v11 main_while0b_v12 (mulf : (⟨S32768, .f32⟩ : BufTy).Contents (Elt F) → (⟨S32768, .f32⟩ : BufTy).Contents (Elt F) → (⟨S32768, .f32⟩ : BufTy).Contents (Elt F)),
    StableHlo.unary main_while0b_v12 main_while0b_values ((fun x => (Host.topK S2 0 (FloatOps.cmpfTotal .gt) x sliceFits_S32768_S2).1) : (⟨S32768, .f32⟩ : BufTy).Contents (Elt F) → (⟨S2, .f32⟩ : BufTy).Contents (Elt F)),
    StableHlo.unary main_while0b_v12 main_while0b_indices ((fun x => (Host.topK S2 0 (FloatOps.cmpfTotal .gt) x sliceFits_S32768_S2).2) : (⟨S32768, .f32⟩ : BufTy).Contents (Elt F) → (⟨S2, .i32⟩ : BufTy).Contents (Elt F)),
    StableHlo.nullary main_while0b_cst_10 (constant S_ .f32 0x00000000#32),
    StableHlo.unary main_while0b_cst_10 main_while0b_v13 (broadcastInDim S32768 ![] bcast_S_S32768 : (⟨S_, .f32⟩ : BufTy).Contents (Elt F) → (⟨S32768, .f32⟩ : BufTy).Contents (Elt F)),
    StableHlo.nullary main_while0b_c_11 (constantI S_ 32 0#32),
    StableHlo.unary main_while0b_c_11 main_while0b_v14 (broadcastInDim S2 ![] bcast_S_S2 : (⟨S_, .i32⟩ : BufTy).Contents (Elt F) → (⟨S2, .i32⟩ : BufTy).Contents (Elt F)),
    StableHlo.binary main_while0b_indices main_while0b_v14 main_while0b_v15 (cmpi .slt : (⟨S2, .i32⟩ : BufTy).Contents (Elt F) → (⟨S2, .i32⟩ : BufTy).Contents (Elt F) → (⟨S2, .i1⟩ : BufTy).Contents (Elt F)),
    StableHlo.nullary main_while0b_c_12 (constantI S_ 32 32768#32),
    StableHlo.unary main_while0b_c_12 main_while0b_v16 (broadcastInDim S2 ![] bcast_S_S2 : (⟨S_, .i32⟩ : BufTy).Contents (Elt F) → (⟨S2, .i32⟩ : BufTy).Contents (Elt F)),
    StableHlo.binary main_while0b_indices main_while0b_v16 main_while0b_v17 (addi : (⟨S2, .i32⟩ : BufTy).Contents (Elt F) → (⟨S2, .i32⟩ : BufTy).Contents (Elt F) → (⟨S2, .i32⟩ : BufTy).Contents (Elt F)) ]

/-- The body's operations 28 … 34 of 52. -/
abbrev trip_w3 : List (HloOp τ sig (Elt F)) :=
  [ StableHlo.ternary main_while0b_v15 main_while0b_v17 main_while0b_indices main_while0b_v18 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_while0b_v18 main_while0b_v19 (broadcastInDim S2x1 ![0] bcast_S2_S2x1_0 : (⟨S2, .i32⟩ : BufTy).Contents (Elt F) → (⟨S2x1, .i32⟩ : BufTy).Contents (Elt F)),
    StableHlo.nullary main_while0b_cst_13 (constant S_ .f32 0x3F800000#32),
    StableHlo.unary main_while0b_cst_13 main_while0b_v20 (broadcastInDim S2 ![] bcast_S_S2 : (⟨S_, .f32⟩ : BufTy).Contents (Elt F) → (⟨S2, .f32⟩ : BufTy).Contents (Elt F)),
    StableHlo.ternary main_while0b_v13 main_while0b_v19 main_while0b_v20 main_while0b_v21 ((fun x i u => Host.scatter scatter_S32768_S2x1_S2_n_0_0_1 (fun _ b => b) x i u) : (⟨S32768, .f32⟩ : BufTy).Contents (Elt F) → (⟨S2x1, .i32⟩ : BufTy).Contents (Elt F) → (⟨S2, .f32⟩ : BufTy).Contents (Elt F) → (⟨S32768, .f32⟩ : BufTy).Contents (Elt F)),
    StableHlo.nullary main_while0b_cst_14 (constant S_ .f32 0x00000000#32),
    StableHlo.unary main_while0b_cst_14 main_while0b_v22 (broadcastInDim S32768 ![] bcast_S_S32768 : (⟨S_, .f32⟩ : BufTy).Contents (Elt F) → (⟨S32768, .f32⟩ : BufTy).Contents (Elt F)) ]

/-- The body's operations 35 … 35 of 52. -/
abbrev trip_w4 : List (HloOp τ sig (Elt F)) :=
  [ StableHlo.TRef.ternary (.of main_while0b_v10 : StableHlo.TRef sig ⟨S_, .i1⟩) (.of main_while0b_v21 : StableHlo.TRef sig ⟨S32768, .f32⟩) (.of main_while0b_v22 : StableHlo.TRef sig ⟨S32768, .f32⟩) (.of main_while0b_v23 : StableHlo.TRef sig ⟨S32768, .f32⟩) (fun p a b => select (broadcastInDim S32768 ![] bcast_S_S32768 p) a b) ]

/-- The body's operations 36 … 40 of 52. -/
abbrev trip_w5 : List (HloOp τ sig (Elt F)) :=
  [ StableHlo.nullary main_while0b_cst_15 (constant S_ .f32 0x00000000#32),
    StableHlo.binary main_while0b_v23 main_while0b_cst_15 main_while0b_v24 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)),
    StableHlo.nullary main_while0b_cst_16 (constant S_ .f32 0x47000000#32),
    StableHlo.binary main_while0b_v24 main_while0b_cst_16 main_while0b_v25 (Host.divf : (⟨S_, .f32⟩ : BufTy).Contents (Elt F) → (⟨S_, .f32⟩ : BufTy).Contents (Elt F) → (⟨S_, .f32⟩ : BufTy).Contents (Elt F)),
    StableHlo.nullary main_while0b_cst_17 (constant S_ .f32 0x00000000#32) ]

/-- The body's operations 41 … 41 of 52. -/
abbrev trip_w6 : List (HloOp τ sig (Elt F)) :=
  [ StableHlo.TRef.ternary (.of main_while0b_v10 : StableHlo.TRef sig ⟨S_, .i1⟩) (.of main_while0b_v25 : StableHlo.TRef sig ⟨S_, .f32⟩) (.of main_while0b_cst_17 : StableHlo.TRef sig ⟨S_, .f32⟩) (.of main_while0b_v26 : StableHlo.TRef sig ⟨S_, .f32⟩) select ]

/-- The body's operations 42 … 44 of 52. -/
abbrev trip_w7 : List (HloOp τ sig (Elt F)) :=
  [ StableHlo.TRef.unary (.of main_while0b_v23 : StableHlo.TRef sig ⟨S32768, .f32⟩) (.of main_while0b_call3_v0 : StableHlo.TRef sig ⟨S1x32768, .f32⟩) (broadcastInDim S1x32768 ![1] bcast_S32768_S1x32768_1),
    StableHlo.TRef.nullary (.of main_while0b_call3_c : StableHlo.TRef sig ⟨S_, .i32⟩) (constantI S_ 32 0#32),
    StableHlo.TRef.binaryIndexed (.of main_v2_3 : StableHlo.TRef sig ⟨S1024x32768, .f32⟩) (.of main_while0b_call3_v0 : StableHlo.TRef sig ⟨S1x32768, .f32⟩) ![(.of main_v2_1 : StableHlo.TRef sig ⟨S_, .i32⟩), (.of main_while0b_call3_c : StableHlo.TRef sig ⟨S_, .i32⟩)] (.of main_while0b_v27 : StableHlo.TRef sig ⟨S1024x32768, .f32⟩) (fun x u i => Host.dynamicUpdateSlice x u (fun k => (i k (Shape.Idx.first h_S_)).toInt) updateFits_S1024x32768_S1x32768) ]

/-- The body's operations 45 … 46 of 52. -/
abbrev trip_w8 : List (HloOp τ sig (Elt F)) :=
  [ StableHlo.TRef.unary (.of main_while0b_v26 : StableHlo.TRef sig ⟨S_, .f32⟩) (.of main_while0b_call4_v0 : StableHlo.TRef sig ⟨S1, .f32⟩) (broadcastInDim S1 ![] bcast_S_S1),
    StableHlo.TRef.binaryIndexed (.of main_v2_4 : StableHlo.TRef sig ⟨S1024, .f32⟩) (.of main_while0b_call4_v0 : StableHlo.TRef sig ⟨S1, .f32⟩) ![(.of main_v2_1 : StableHlo.TRef sig ⟨S_, .i32⟩)] (.of main_while0b_v28 : StableHlo.TRef sig ⟨S1024, .f32⟩) (fun x u i => Host.dynamicUpdateSlice x u (fun k => (i k (Shape.Idx.first h_S_)).toInt) updateFits_S1024_S1) ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 := rfl
set_option maxRecDepth 5000 in
/-- `while0Ops0_5` is its windows in order. -/
theorem while0Ops0_5_cut : (while0Ops0_5 : List (HloOp τ sig (Elt F))) = trip_w7 := rfl
set_option maxRecDepth 5000 in
/-- `while0Ops0_6` is its windows in order. -/
theorem while0Ops0_6_cut : (while0Ops0_6 : List (HloOp τ sig (Elt F))) = trip_w8 := rfl

set_option maxRecDepth 8192 in
/-- `main_while0b_v8`'s composed term of the carried buffers (named: it is used 3 times). -/
def res_main_while0b_v8 (V0 : Valuation τ sig (Elt F)) : (Proc.devRef .tc main_while0b_v8 : DevRef τ sig).ty.Contents (Elt F) :=
  addf (mulf (broadcastInDim S32768 ![] bcast_S_S32768 (constant S_ .f32 0x3F7D70A4#32)) (V0 (Proc.devRef .tc main_v2_2))) (mulf (broadcastInDim S32768 ![] bcast_S_S32768 (constant S_ .f32 0x3C23D70A#32)) (shapeCast S32768 (Host.dynamicSlice S1x32768 (V0 (Proc.devRef .tc main_v2_0)) (fun k => (((![V0 (Proc.devRef .tc main_v2_1), constantI S_ 32 0#32] : Fin 2 → (⟨S_, .i32⟩ : BufTy).Contents (Elt F))) k (Shape.Idx.first h_S_)).toInt) sliceFits_S1024x32768_S1x32768) shapeCasts_S1x32768_S32768))

set_option maxRecDepth 8192 in
/-- `main_while0b_v10`'s composed term of the carried buffers (named: it is used 2 times). -/
def res_main_while0b_v10 (V0 : Valuation τ sig (Elt F)) : (Proc.devRef .tc main_while0b_v10 : DevRef τ sig).ty.Contents (Elt F) :=
  cmpf .oge (Host.reduce FloatOps.maximumf (res_main_while0b_v8 V0) (constant S_ .f32 0xFF800000#32) reducesTo_S32768_S_d0 h_S_) (constant S_ .f32 0x3F147AE1#32)

set_option maxRecDepth 8192 in
/-- `main_while0b_v12`'s composed term of the carried buffers (named: it is used 2 times). -/
def res_main_while0b_v12 (V0 : Valuation τ sig (Elt F)) : (Proc.devRef .tc main_while0b_v12 : DevRef τ sig).ty.Contents (Elt F) :=
  mulf (res_main_while0b_v8 V0) (broadcastInDim S32768 ![] bcast_S_S32768 (constant S_ .f32 0x3F59999A#32))

set_option maxRecDepth 8192 in
/-- `main_while0b_indices`'s composed term of the carried buffers (named: it is used 3 times). -/
def res_main_while0b_indices (V0 : Valuation τ sig (Elt F)) : (Proc.devRef .tc main_while0b_indices : DevRef τ sig).ty.Contents (Elt F) :=
  (Host.topK S2 0 (FloatOps.cmpfTotal .gt) (res_main_while0b_v12 V0) sliceFits_S32768_S2).2

set_option maxRecDepth 8192 in
/-- `main_while0b_v23`'s composed term of the carried buffers (named: it is used 2 times). -/
def res_main_while0b_v23 (V0 : Valuation τ sig (Elt F)) : (Proc.devRef .tc main_while0b_v23 : DevRef τ sig).ty.Contents (Elt F) :=
  select (broadcastInDim S32768 ![] bcast_S_S32768 (res_main_while0b_v10 V0)) (Host.scatter scatter_S32768_S2x1_S2_n_0_0_1 (fun _ b => b) (broadcastInDim S32768 ![] bcast_S_S32768 (constant S_ .f32 0x00000000#32)) (broadcastInDim S2x1 ![0] bcast_S2_S2x1_0 (select (cmpi .slt (res_main_while0b_indices V0) (broadcastInDim S2 ![] bcast_S_S2 (constantI S_ 32 0#32))) (addi (res_main_while0b_indices V0) (broadcastInDim S2 ![] bcast_S_S2 (constantI S_ 32 32768#32))) (res_main_while0b_indices V0))) (broadcastInDim S2 ![] bcast_S_S2 (constant S_ .f32 0x3F800000#32))) (broadcastInDim S32768 ![] bcast_S_S32768 (constant S_ .f32 0x00000000#32))

/-- The device's buffer contents before the body's first window. -/
def val0 (V0 : Valuation τ sig (Elt F)) : Valuation τ sig (Elt F) := V0
theorem val0_main_v2_0 (V0 : Valuation τ sig (Elt F)) : val0 V0 (no_index (Proc.devRef .tc main_v2_0)) = V0 (Proc.devRef .tc main_v2_0) := rfl
theorem val0_main_v2_1 (V0 : Valuation τ sig (Elt F)) : val0 V0 (no_index (Proc.devRef .tc main_v2_1)) = V0 (Proc.devRef .tc main_v2_1) := rfl
theorem val0_main_v2_2 (V0 : Valuation τ sig (Elt F)) : val0 V0 (no_index (Proc.devRef .tc main_v2_2)) = V0 (Proc.devRef .tc main_v2_2) := rfl
theorem val0_main_v2_3 (V0 : Valuation τ sig (Elt F)) : val0 V0 (no_index (Proc.devRef .tc main_v2_3)) = V0 (Proc.devRef .tc main_v2_3) := rfl
theorem val0_main_v2_4 (V0 : Valuation τ sig (Elt F)) : val0 V0 (no_index (Proc.devRef .tc main_v2_4)) = V0 (Proc.devRef .tc main_v2_4) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call0_c, main_while0b_call0_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v2_0 (V0 : Valuation τ sig (Elt F)) : val1 V0 (no_index (Proc.devRef .tc main_v2_0)) = V0 (Proc.devRef .tc main_v2_0) :=
  (val1_keep V0 main_v2_0 (by decide)).trans (val0_main_v2_0 V0)
theorem val1_main_v2_1 (V0 : Valuation τ sig (Elt F)) : val1 V0 (no_index (Proc.devRef .tc main_v2_1)) = V0 (Proc.devRef .tc main_v2_1) :=
  (val1_keep V0 main_v2_1 (by decide)).trans (val0_main_v2_1 V0)
theorem val1_main_v2_2 (V0 : Valuation τ sig (Elt F)) : val1 V0 (no_index (Proc.devRef .tc main_v2_2)) = V0 (Proc.devRef .tc main_v2_2) :=
  (val1_keep V0 main_v2_2 (by decide)).trans (val0_main_v2_2 V0)
theorem val1_main_v2_3 (V0 : Valuation τ sig (Elt F)) : val1 V0 (no_index (Proc.devRef .tc main_v2_3)) = V0 (Proc.devRef .tc main_v2_3) :=
  (val1_keep V0 main_v2_3 (by decide)).trans (val0_main_v2_3 V0)
theorem val1_main_v2_4 (V0 : Valuation τ sig (Elt F)) : val1 V0 (no_index (Proc.devRef .tc main_v2_4)) = V0 (Proc.devRef .tc main_v2_4) :=
  (val1_keep V0 main_v2_4 (by decide)).trans (val0_main_v2_4 V0)
set_option maxRecDepth 8192 in
theorem val1_main_while0b_call0_v0 (V0 : Valuation τ sig (Elt F)) : val1 V0 (no_index (Proc.devRef .tc main_while0b_call0_v0)) = Host.dynamicSlice S1x32768 (V0 (Proc.devRef .tc main_v2_0)) (fun k => (((![V0 (Proc.devRef .tc main_v2_1), constantI S_ 32 0#32] : Fin 2 → (⟨S_, .i32⟩ : BufTy).Contents (Elt F))) k (Shape.Idx.first h_S_)).toInt) sliceFits_S1024x32768_S1x32768 := by
  unfold val1
  simp only [trip_w0]
  after_results_entrywise [val0_main_v2_1, val0_main_v2_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v3]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v2_0 (V0 : Valuation τ sig (Elt F)) : val2 V0 (no_index (Proc.devRef .tc main_v2_0)) = V0 (Proc.devRef .tc main_v2_0) :=
  (val2_keep V0 main_v2_0 (by decide)).trans (val1_main_v2_0 V0)
theorem val2_main_v2_1 (V0 : Valuation τ sig (Elt F)) : val2 V0 (no_index (Proc.devRef .tc main_v2_1)) = V0 (Proc.devRef .tc main_v2_1) :=
  (val2_keep V0 main_v2_1 (by decide)).trans (val1_main_v2_1 V0)
theorem val2_main_v2_2 (V0 : Valuation τ sig (Elt F)) : val2 V0 (no_index (Proc.devRef .tc main_v2_2)) = V0 (Proc.devRef .tc main_v2_2) :=
  (val2_keep V0 main_v2_2 (by decide)).trans (val1_main_v2_2 V0)
theorem val2_main_v2_3 (V0 : Valuation τ sig (Elt F)) : val2 V0 (no_index (Proc.devRef .tc main_v2_3)) = V0 (Proc.devRef .tc main_v2_3) :=
  (val2_keep V0 main_v2_3 (by decide)).trans (val1_main_v2_3 V0)
theorem val2_main_v2_4 (V0 : Valuation τ sig (Elt F)) : val2 V0 (no_index (Proc.devRef .tc main_v2_4)) = V0 (Proc.devRef .tc main_v2_4) :=
  (val2_keep V0 main_v2_4 (by decide)).trans (val1_main_v2_4 V0)
set_option maxRecDepth 8192 in
theorem val2_main_while0b_v3 (V0 : Valuation τ sig (Elt F)) : val2 V0 (no_index (Proc.devRef .tc main_while0b_v3)) = shapeCast S32768 (Host.dynamicSlice S1x32768 (V0 (Proc.devRef .tc main_v2_0)) (fun k => (((![V0 (Proc.devRef .tc main_v2_1), constantI S_ 32 0#32] : Fin 2 → (⟨S_, .i32⟩ : BufTy).Contents (Elt F))) k (Shape.Idx.first h_S_)).toInt) sliceFits_S1024x32768_S1x32768) shapeCasts_S1x32768_S32768 := by
  unfold val2
  simp only [trip_w1]
  after_results_entrywise [val1_main_while0b_call0_v0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_cst_5, main_while0b_v4, main_while0b_v5, main_while0b_cst_6, main_while0b_v6, main_while0b_v7, main_while0b_v8, main_while0b_cst_7, main_while0b_v9, main_while0b_cst_8, main_while0b_v10, main_while0b_cst_9, main_while0b_v11, main_while0b_v12, main_while0b_values, main_while0b_indices, main_while0b_cst_10, main_while0b_v13, main_while0b_c_11, main_while0b_v14, main_while0b_v15, main_while0b_c_12, main_while0b_v16, main_while0b_v17]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v2_0 (V0 : Valuation τ sig (Elt F)) : val3 V0 (no_index (Proc.devRef .tc main_v2_0)) = V0 (Proc.devRef .tc main_v2_0) :=
  (val3_keep V0 main_v2_0 (by decide)).trans (val2_main_v2_0 V0)
theorem val3_main_v2_1 (V0 : Valuation τ sig (Elt F)) : val3 V0 (no_index (Proc.devRef .tc main_v2_1)) = V0 (Proc.devRef .tc main_v2_1) :=
  (val3_keep V0 main_v2_1 (by decide)).trans (val2_main_v2_1 V0)
theorem val3_main_v2_2 (V0 : Valuation τ sig (Elt F)) : val3 V0 (no_index (Proc.devRef .tc main_v2_2)) = V0 (Proc.devRef .tc main_v2_2) :=
  (val3_keep V0 main_v2_2 (by decide)).trans (val2_main_v2_2 V0)
theorem val3_main_v2_3 (V0 : Valuation τ sig (Elt F)) : val3 V0 (no_index (Proc.devRef .tc main_v2_3)) = V0 (Proc.devRef .tc main_v2_3) :=
  (val3_keep V0 main_v2_3 (by decide)).trans (val2_main_v2_3 V0)
theorem val3_main_v2_4 (V0 : Valuation τ sig (Elt F)) : val3 V0 (no_index (Proc.devRef .tc main_v2_4)) = V0 (Proc.devRef .tc main_v2_4) :=
  (val3_keep V0 main_v2_4 (by decide)).trans (val2_main_v2_4 V0)
set_option maxRecDepth 8192 in
set_option maxHeartbeats 2000000 in
theorem val3_main_while0b_v8 (V0 : Valuation τ sig (Elt F)) : val3 V0 (no_index (Proc.devRef .tc main_while0b_v8)) = res_main_while0b_v8 V0 := by
  unfold val3
  simp only [trip_w2]
  after_results_entrywise [val2_main_while0b_v3, val2_main_v2_2, res_main_while0b_v8, cast_eq]
set_option maxRecDepth 8192 in
set_option maxHeartbeats 2000000 in
theorem val3_main_while0b_v10 (V0 : Valuation τ sig (Elt F)) : val3 V0 (no_index (Proc.devRef .tc main_while0b_v10)) = res_main_while0b_v10 V0 := by
  unfold val3
  simp only [trip_w2]
  after_results_entrywise [val2_main_while0b_v3, val2_main_v2_2, res_main_while0b_v8, res_main_while0b_v10, cast_eq]
set_option maxRecDepth 8192 in
set_option maxHeartbeats 2000000 in
theorem val3_main_while0b_indices (V0 : Valuation τ sig (Elt F)) : val3 V0 (no_index (Proc.devRef .tc main_while0b_indices)) = res_main_while0b_indices V0 := by
  unfold val3
  simp only [trip_w2]
  after_results_entrywise [val2_main_while0b_v3, val2_main_v2_2, res_main_while0b_v8, res_main_while0b_v12, res_main_while0b_indices, cast_eq]
set_option maxRecDepth 8192 in
set_option maxHeartbeats 2000000 in
theorem val3_main_while0b_v13 (V0 : Valuation τ sig (Elt F)) : val3 V0 (no_index (Proc.devRef .tc main_while0b_v13)) = broadcastInDim S32768 ![] bcast_S_S32768 (constant S_ .f32 0x00000000#32) := by
  unfold val3
  simp only [trip_w2]
  after_results_entrywise [cast_eq]
set_option maxRecDepth 8192 in
set_option maxHeartbeats 2000000 in
theorem val3_main_while0b_v15 (V0 : Valuation τ sig (Elt F)) : val3 V0 (no_index (Proc.devRef .tc main_while0b_v15)) = cmpi .slt (res_main_while0b_indices V0) (broadcastInDim S2 ![] bcast_S_S2 (constantI S_ 32 0#32)) := by
  unfold val3
  simp only [trip_w2]
  after_results_entrywise [val2_main_while0b_v3, val2_main_v2_2, res_main_while0b_v8, res_main_while0b_v12, res_main_while0b_indices, cast_eq]
set_option maxRecDepth 8192 in
set_option maxHeartbeats 2000000 in
theorem val3_main_while0b_v17 (V0 : Valuation τ sig (Elt F)) : val3 V0 (no_index (Proc.devRef .tc main_while0b_v17)) = addi (res_main_while0b_indices V0) (broadcastInDim S2 ![] bcast_S_S2 (constantI S_ 32 32768#32)) := by
  unfold val3
  simp only [trip_w2]
  after_results_entrywise [val2_main_while0b_v3, val2_main_v2_2, res_main_while0b_v8, res_main_while0b_v12, res_main_while0b_indices, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v18, main_while0b_v19, main_while0b_cst_13, main_while0b_v20, main_while0b_v21, main_while0b_cst_14, main_while0b_v22]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v2_0 (V0 : Valuation τ sig (Elt F)) : val4 V0 (no_index (Proc.devRef .tc main_v2_0)) = V0 (Proc.devRef .tc main_v2_0) :=
  (val4_keep V0 main_v2_0 (by decide)).trans (val3_main_v2_0 V0)
theorem val4_main_v2_1 (V0 : Valuation τ sig (Elt F)) : val4 V0 (no_index (Proc.devRef .tc main_v2_1)) = V0 (Proc.devRef .tc main_v2_1) :=
  (val4_keep V0 main_v2_1 (by decide)).trans (val3_main_v2_1 V0)
theorem val4_main_v2_2 (V0 : Valuation τ sig (Elt F)) : val4 V0 (no_index (Proc.devRef .tc main_v2_2)) = V0 (Proc.devRef .tc main_v2_2) :=
  (val4_keep V0 main_v2_2 (by decide)).trans (val3_main_v2_2 V0)
theorem val4_main_v2_3 (V0 : Valuation τ sig (Elt F)) : val4 V0 (no_index (Proc.devRef .tc main_v2_3)) = V0 (Proc.devRef .tc main_v2_3) :=
  (val4_keep V0 main_v2_3 (by decide)).trans (val3_main_v2_3 V0)
theorem val4_main_v2_4 (V0 : Valuation τ sig (Elt F)) : val4 V0 (no_index (Proc.devRef .tc main_v2_4)) = V0 (Proc.devRef .tc main_v2_4) :=
  (val4_keep V0 main_v2_4 (by decide)).trans (val3_main_v2_4 V0)
theorem val4_main_while0b_v8 (V0 : Valuation τ sig (Elt F)) : val4 V0 (no_index (Proc.devRef .tc main_while0b_v8)) = res_main_while0b_v8 V0 :=
  (val4_keep V0 main_while0b_v8 (by decide)).trans (val3_main_while0b_v8 V0)
theorem val4_main_while0b_v10 (V0 : Valuation τ sig (Elt F)) : val4 V0 (no_index (Proc.devRef .tc main_while0b_v10)) = res_main_while0b_v10 V0 :=
  (val4_keep V0 main_while0b_v10 (by decide)).trans (val3_main_while0b_v10 V0)
set_option maxRecDepth 8192 in
theorem val4_main_while0b_v21 (V0 : Valuation τ sig (Elt F)) : val4 V0 (no_index (Proc.devRef .tc main_while0b_v21)) = Host.scatter scatter_S32768_S2x1_S2_n_0_0_1 (fun _ b => b) (broadcastInDim S32768 ![] bcast_S_S32768 (constant S_ .f32 0x00000000#32)) (broadcastInDim S2x1 ![0] bcast_S2_S2x1_0 (select (cmpi .slt (res_main_while0b_indices V0) (broadcastInDim S2 ![] bcast_S_S2 (constantI S_ 32 0#32))) (addi (res_main_while0b_indices V0) (broadcastInDim S2 ![] bcast_S_S2 (constantI S_ 32 32768#32))) (res_main_while0b_indices V0))) (broadcastInDim S2 ![] bcast_S_S2 (constant S_ .f32 0x3F800000#32)) := by
  unfold val4
  simp only [trip_w3]
  after_results_entrywise [val3_main_while0b_indices, val3_main_while0b_v17, val3_main_while0b_v15, val3_main_while0b_v13, cast_eq]
set_option maxRecDepth 8192 in
theorem val4_main_while0b_v22 (V0 : Valuation τ sig (Elt F)) : val4 V0 (no_index (Proc.devRef .tc main_while0b_v22)) = broadcastInDim S32768 ![] bcast_S_S32768 (constant S_ .f32 0x00000000#32) := by
  unfold val4
  simp only [trip_w3]
  after_results_entrywise [cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v23]
set_option maxRecDepth 8192 in
theorem trip_w4_writes : (trip_w4 : List (HloOp τ sig (Elt F))).Forall fun op => op.writes ⊆ (trip_w4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v2_0 (V0 : Valuation τ sig (Elt F)) : val5 V0 (no_index (Proc.devRef .tc main_v2_0)) = V0 (Proc.devRef .tc main_v2_0) :=
  (val5_keep V0 main_v2_0 (by decide)).trans (val4_main_v2_0 V0)
theorem val5_main_v2_1 (V0 : Valuation τ sig (Elt F)) : val5 V0 (no_index (Proc.devRef .tc main_v2_1)) = V0 (Proc.devRef .tc main_v2_1) :=
  (val5_keep V0 main_v2_1 (by decide)).trans (val4_main_v2_1 V0)
theorem val5_main_v2_2 (V0 : Valuation τ sig (Elt F)) : val5 V0 (no_index (Proc.devRef .tc main_v2_2)) = V0 (Proc.devRef .tc main_v2_2) :=
  (val5_keep V0 main_v2_2 (by decide)).trans (val4_main_v2_2 V0)
theorem val5_main_v2_3 (V0 : Valuation τ sig (Elt F)) : val5 V0 (no_index (Proc.devRef .tc main_v2_3)) = V0 (Proc.devRef .tc main_v2_3) :=
  (val5_keep V0 main_v2_3 (by decide)).trans (val4_main_v2_3 V0)
theorem val5_main_v2_4 (V0 : Valuation τ sig (Elt F)) : val5 V0 (no_index (Proc.devRef .tc main_v2_4)) = V0 (Proc.devRef .tc main_v2_4) :=
  (val5_keep V0 main_v2_4 (by decide)).trans (val4_main_v2_4 V0)
theorem val5_main_while0b_v8 (V0 : Valuation τ sig (Elt F)) : val5 V0 (no_index (Proc.devRef .tc main_while0b_v8)) = res_main_while0b_v8 V0 :=
  (val5_keep V0 main_while0b_v8 (by decide)).trans (val4_main_while0b_v8 V0)
theorem val5_main_while0b_v10 (V0 : Valuation τ sig (Elt F)) : val5 V0 (no_index (Proc.devRef .tc main_while0b_v10)) = res_main_while0b_v10 V0 :=
  (val5_keep V0 main_while0b_v10 (by decide)).trans (val4_main_while0b_v10 V0)
/-- The selection of window `trip_w4`, from any contents. -/
theorem w4_read (W : Valuation τ sig (Elt F)) : after trip_w4 W (Proc.devRef .tc main_while0b_v23) = select (broadcastInDim S32768 ![] bcast_S_S32768 (W (Proc.devRef .tc main_while0b_v10))) (W (Proc.devRef .tc main_while0b_v21)) (W (Proc.devRef .tc main_while0b_v22)) := by
  simp only [trip_w4]
  after_results_entrywise [cast_eq]
theorem sel_congr {p p' : S_.Idx → Elt F .i1} {a a' b b' : S32768.Idx → Elt F .f32} (hp : p = p') (ha : a = a') (hb : b = b') :
    select (broadcastInDim S32768 ![] bcast_S_S32768 p) a b = select (broadcastInDim S32768 ![] bcast_S_S32768 p') a' b' := by
  subst hp ha hb; rfl
theorem val5_main_while0b_v23 (V0 : Valuation τ sig (Elt F)) : val5 V0 (no_index (Proc.devRef .tc main_while0b_v23)) = res_main_while0b_v23 V0 := by
  unfold val5 res_main_while0b_v23
  exact (w4_read (val4 V0)).trans (sel_congr (val4_main_while0b_v10 V0) (val4_main_while0b_v21 V0) (val4_main_while0b_v22 V0))

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_cst_15, main_while0b_v24, main_while0b_cst_16, main_while0b_v25, main_while0b_cst_17]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v2_0 (V0 : Valuation τ sig (Elt F)) : val6 V0 (no_index (Proc.devRef .tc main_v2_0)) = V0 (Proc.devRef .tc main_v2_0) :=
  (val6_keep V0 main_v2_0 (by decide)).trans (val5_main_v2_0 V0)
theorem val6_main_v2_1 (V0 : Valuation τ sig (Elt F)) : val6 V0 (no_index (Proc.devRef .tc main_v2_1)) = V0 (Proc.devRef .tc main_v2_1) :=
  (val6_keep V0 main_v2_1 (by decide)).trans (val5_main_v2_1 V0)
theorem val6_main_v2_2 (V0 : Valuation τ sig (Elt F)) : val6 V0 (no_index (Proc.devRef .tc main_v2_2)) = V0 (Proc.devRef .tc main_v2_2) :=
  (val6_keep V0 main_v2_2 (by decide)).trans (val5_main_v2_2 V0)
theorem val6_main_v2_3 (V0 : Valuation τ sig (Elt F)) : val6 V0 (no_index (Proc.devRef .tc main_v2_3)) = V0 (Proc.devRef .tc main_v2_3) :=
  (val6_keep V0 main_v2_3 (by decide)).trans (val5_main_v2_3 V0)
theorem val6_main_v2_4 (V0 : Valuation τ sig (Elt F)) : val6 V0 (no_index (Proc.devRef .tc main_v2_4)) = V0 (Proc.devRef .tc main_v2_4) :=
  (val6_keep V0 main_v2_4 (by decide)).trans (val5_main_v2_4 V0)
theorem val6_main_while0b_v8 (V0 : Valuation τ sig (Elt F)) : val6 V0 (no_index (Proc.devRef .tc main_while0b_v8)) = res_main_while0b_v8 V0 :=
  (val6_keep V0 main_while0b_v8 (by decide)).trans (val5_main_while0b_v8 V0)
theorem val6_main_while0b_v10 (V0 : Valuation τ sig (Elt F)) : val6 V0 (no_index (Proc.devRef .tc main_while0b_v10)) = res_main_while0b_v10 V0 :=
  (val6_keep V0 main_while0b_v10 (by decide)).trans (val5_main_while0b_v10 V0)
theorem val6_main_while0b_v23 (V0 : Valuation τ sig (Elt F)) : val6 V0 (no_index (Proc.devRef .tc main_while0b_v23)) = res_main_while0b_v23 V0 :=
  (val6_keep V0 main_while0b_v23 (by decide)).trans (val5_main_while0b_v23 V0)
set_option maxRecDepth 8192 in
theorem val6_main_while0b_v25 (V0 : Valuation τ sig (Elt F)) : val6 V0 (no_index (Proc.devRef .tc main_while0b_v25)) = Host.divf (Host.reduceAdd (res_main_while0b_v23 V0) (constant S_ .f32 0x00000000#32) reducesTo_S32768_S_d0 h_S_) (constant S_ .f32 0x47000000#32) := by
  unfold val6
  simp only [trip_w5]
  after_results_entrywise [val5_main_while0b_v23, cast_eq]
set_option maxRecDepth 8192 in
theorem val6_main_while0b_cst_17 (V0 : Valuation τ sig (Elt F)) : val6 V0 (no_index (Proc.devRef .tc main_while0b_cst_17)) = constant S_ .f32 0x00000000#32 := by
  unfold val6
  simp only [trip_w5]
  after_results_entrywise [cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_v26]
set_option maxRecDepth 8192 in
theorem trip_w6_writes : (trip_w6 : List (HloOp τ sig (Elt F))).Forall fun op => op.writes ⊆ (trip_w6_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v2_0 (V0 : Valuation τ sig (Elt F)) : val7 V0 (no_index (Proc.devRef .tc main_v2_0)) = V0 (Proc.devRef .tc main_v2_0) :=
  (val7_keep V0 main_v2_0 (by decide)).trans (val6_main_v2_0 V0)
theorem val7_main_v2_1 (V0 : Valuation τ sig (Elt F)) : val7 V0 (no_index (Proc.devRef .tc main_v2_1)) = V0 (Proc.devRef .tc main_v2_1) :=
  (val7_keep V0 main_v2_1 (by decide)).trans (val6_main_v2_1 V0)
theorem val7_main_v2_2 (V0 : Valuation τ sig (Elt F)) : val7 V0 (no_index (Proc.devRef .tc main_v2_2)) = V0 (Proc.devRef .tc main_v2_2) :=
  (val7_keep V0 main_v2_2 (by decide)).trans (val6_main_v2_2 V0)
theorem val7_main_v2_3 (V0 : Valuation τ sig (Elt F)) : val7 V0 (no_index (Proc.devRef .tc main_v2_3)) = V0 (Proc.devRef .tc main_v2_3) :=
  (val7_keep V0 main_v2_3 (by decide)).trans (val6_main_v2_3 V0)
theorem val7_main_v2_4 (V0 : Valuation τ sig (Elt F)) : val7 V0 (no_index (Proc.devRef .tc main_v2_4)) = V0 (Proc.devRef .tc main_v2_4) :=
  (val7_keep V0 main_v2_4 (by decide)).trans (val6_main_v2_4 V0)
theorem val7_main_while0b_v8 (V0 : Valuation τ sig (Elt F)) : val7 V0 (no_index (Proc.devRef .tc main_while0b_v8)) = res_main_while0b_v8 V0 :=
  (val7_keep V0 main_while0b_v8 (by decide)).trans (val6_main_while0b_v8 V0)
theorem val7_main_while0b_v23 (V0 : Valuation τ sig (Elt F)) : val7 V0 (no_index (Proc.devRef .tc main_while0b_v23)) = res_main_while0b_v23 V0 :=
  (val7_keep V0 main_while0b_v23 (by decide)).trans (val6_main_while0b_v23 V0)
set_option maxRecDepth 8192 in
theorem val7_main_while0b_v26 (V0 : Valuation τ sig (Elt F)) : val7 V0 (no_index (Proc.devRef .tc main_while0b_v26)) = select (res_main_while0b_v10 V0) (Host.divf (Host.reduceAdd (res_main_while0b_v23 V0) (constant S_ .f32 0x00000000#32) reducesTo_S32768_S_d0 h_S_) (constant S_ .f32 0x47000000#32)) (constant S_ .f32 0x00000000#32) := by
  unfold val7
  simp only [trip_w6]
  after_results_entrywise [val6_main_while0b_cst_17, val6_main_while0b_v25, val6_main_while0b_v10, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_call3_v0, main_while0b_call3_c, main_while0b_v27]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v2_0 (V0 : Valuation τ sig (Elt F)) : val8 V0 (no_index (Proc.devRef .tc main_v2_0)) = V0 (Proc.devRef .tc main_v2_0) :=
  (val8_keep V0 main_v2_0 (by decide)).trans (val7_main_v2_0 V0)
theorem val8_main_v2_1 (V0 : Valuation τ sig (Elt F)) : val8 V0 (no_index (Proc.devRef .tc main_v2_1)) = V0 (Proc.devRef .tc main_v2_1) :=
  (val8_keep V0 main_v2_1 (by decide)).trans (val7_main_v2_1 V0)
theorem val8_main_v2_2 (V0 : Valuation τ sig (Elt F)) : val8 V0 (no_index (Proc.devRef .tc main_v2_2)) = V0 (Proc.devRef .tc main_v2_2) :=
  (val8_keep V0 main_v2_2 (by decide)).trans (val7_main_v2_2 V0)
theorem val8_main_v2_3 (V0 : Valuation τ sig (Elt F)) : val8 V0 (no_index (Proc.devRef .tc main_v2_3)) = V0 (Proc.devRef .tc main_v2_3) :=
  (val8_keep V0 main_v2_3 (by decide)).trans (val7_main_v2_3 V0)
theorem val8_main_v2_4 (V0 : Valuation τ sig (Elt F)) : val8 V0 (no_index (Proc.devRef .tc main_v2_4)) = V0 (Proc.devRef .tc main_v2_4) :=
  (val8_keep V0 main_v2_4 (by decide)).trans (val7_main_v2_4 V0)
theorem val8_main_while0b_v8 (V0 : Valuation τ sig (Elt F)) : val8 V0 (no_index (Proc.devRef .tc main_while0b_v8)) = res_main_while0b_v8 V0 :=
  (val8_keep V0 main_while0b_v8 (by decide)).trans (val7_main_while0b_v8 V0)
theorem val8_main_while0b_v26 (V0 : Valuation τ sig (Elt F)) : val8 V0 (no_index (Proc.devRef .tc main_while0b_v26)) = select (res_main_while0b_v10 V0) (Host.divf (Host.reduceAdd (res_main_while0b_v23 V0) (constant S_ .f32 0x00000000#32) reducesTo_S32768_S_d0 h_S_) (constant S_ .f32 0x47000000#32)) (constant S_ .f32 0x00000000#32) :=
  (val8_keep V0 main_while0b_v26 (by decide)).trans (val7_main_while0b_v26 V0)
set_option maxRecDepth 8192 in
theorem val8_main_while0b_v27 (V0 : Valuation τ sig (Elt F)) : val8 V0 (no_index (Proc.devRef .tc main_while0b_v27)) = Host.dynamicUpdateSlice (V0 (Proc.devRef .tc main_v2_3)) (broadcastInDim S1x32768 ![1] bcast_S32768_S1x32768_1 (res_main_while0b_v23 V0)) (fun k => (((![V0 (Proc.devRef .tc main_v2_1), constantI S_ 32 0#32] : Fin 2 → (⟨S_, .i32⟩ : BufTy).Contents (Elt F))) k (Shape.Idx.first h_S_)).toInt) updateFits_S1024x32768_S1x32768 := by
  unfold val8
  simp only [trip_w7]
  after_results_entrywise [val7_main_v2_1, val7_main_while0b_v23, val7_main_v2_3, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_call4_v0, main_while0b_v28]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v2_0 (V0 : Valuation τ sig (Elt F)) : val9 V0 (no_index (Proc.devRef .tc main_v2_0)) = V0 (Proc.devRef .tc main_v2_0) :=
  (val9_keep V0 main_v2_0 (by decide)).trans (val8_main_v2_0 V0)
theorem val9_main_v2_1 (V0 : Valuation τ sig (Elt F)) : val9 V0 (no_index (Proc.devRef .tc main_v2_1)) = V0 (Proc.devRef .tc main_v2_1) :=
  (val9_keep V0 main_v2_1 (by decide)).trans (val8_main_v2_1 V0)
theorem val9_main_v2_2 (V0 : Valuation τ sig (Elt F)) : val9 V0 (no_index (Proc.devRef .tc main_v2_2)) = V0 (Proc.devRef .tc main_v2_2) :=
  (val9_keep V0 main_v2_2 (by decide)).trans (val8_main_v2_2 V0)
theorem val9_main_v2_3 (V0 : Valuation τ sig (Elt F)) : val9 V0 (no_index (Proc.devRef .tc main_v2_3)) = V0 (Proc.devRef .tc main_v2_3) :=
  (val9_keep V0 main_v2_3 (by decide)).trans (val8_main_v2_3 V0)
theorem val9_main_v2_4 (V0 : Valuation τ sig (Elt F)) : val9 V0 (no_index (Proc.devRef .tc main_v2_4)) = V0 (Proc.devRef .tc main_v2_4) :=
  (val9_keep V0 main_v2_4 (by decide)).trans (val8_main_v2_4 V0)
theorem val9_main_while0b_v8 (V0 : Valuation τ sig (Elt F)) : val9 V0 (no_index (Proc.devRef .tc main_while0b_v8)) = res_main_while0b_v8 V0 :=
  (val9_keep V0 main_while0b_v8 (by decide)).trans (val8_main_while0b_v8 V0)
theorem val9_main_while0b_v27 (V0 : Valuation τ sig (Elt F)) : val9 V0 (no_index (Proc.devRef .tc main_while0b_v27)) = Host.dynamicUpdateSlice (V0 (Proc.devRef .tc main_v2_3)) (broadcastInDim S1x32768 ![1] bcast_S32768_S1x32768_1 (res_main_while0b_v23 V0)) (fun k => (((![V0 (Proc.devRef .tc main_v2_1), constantI S_ 32 0#32] : Fin 2 → (⟨S_, .i32⟩ : BufTy).Contents (Elt F))) k (Shape.Idx.first h_S_)).toInt) updateFits_S1024x32768_S1x32768 :=
  (val9_keep V0 main_while0b_v27 (by decide)).trans (val8_main_while0b_v27 V0)
set_option maxRecDepth 8192 in
theorem val9_main_while0b_v28 (V0 : Valuation τ sig (Elt F)) : val9 V0 (no_index (Proc.devRef .tc main_while0b_v28)) = Host.dynamicUpdateSlice (V0 (Proc.devRef .tc main_v2_4)) (broadcastInDim S1 ![] bcast_S_S1 (select (res_main_while0b_v10 V0) (Host.divf (Host.reduceAdd (res_main_while0b_v23 V0) (constant S_ .f32 0x00000000#32) reducesTo_S32768_S_d0 h_S_) (constant S_ .f32 0x47000000#32)) (constant S_ .f32 0x00000000#32))) (fun k => (((![V0 (Proc.devRef .tc main_v2_1)] : Fin 1 → (⟨S_, .i32⟩ : BufTy).Contents (Elt F))) k (Shape.Idx.first h_S_)).toInt) updateFits_S1024_S1 := by
  unfold val9
  simp only [trip_w8]
  after_results_entrywise [val8_main_v2_1, val8_main_while0b_v26, val8_main_v2_4, cast_eq]

set_option maxRecDepth 8192 in
/-- The body's stretches before `while0Ops0_7`, from any contents: their windows in order. -/
theorem trip_windows (V0 : Valuation τ sig (Elt F)) : after while0Ops0_6 (after while0Ops0_5 (after while0Ops0_4 (after while0Ops0_3 (after while0Ops0_2 (after while0Ops0_1 (after while0Ops0 (V0))))))) = val9 V0 := by
  simp only [while0Ops0_cut, while0Ops0_1_cut, while0Ops0_2_cut, while0Ops0_3_cut, while0Ops0_4_cut, while0Ops0_5_cut, while0Ops0_6_cut, after_append]
  rfl

set_option maxRecDepth 8192 in
set_option maxHeartbeats 2000000 in
/-- `main_v2_0` after one trip's body, from any contents. -/
theorem trip_main_v2_0 (V0 : Valuation τ sig (Elt F)) : afterL bodyI V0 (no_index (Proc.devRef .tc main_v2_0)) = V0 (Proc.devRef .tc main_v2_0) := by
  simp only [bodyI, afterL_cons, afterL_nil, trip_windows]
  after_results
  all_goals (try simp only [val9_main_while0b_v8, val9_main_while0b_v27, val9_main_while0b_v28, val9_main_v2_0, val9_main_v2_1, val9_main_v2_2, val9_main_v2_3, val9_main_v2_4]) <;> rfl
set_option maxRecDepth 8192 in
set_option maxHeartbeats 2000000 in
/-- `main_v2_1` after one trip's body, from any contents. -/
theorem trip_main_v2_1 (V0 : Valuation τ sig (Elt F)) : afterL bodyI V0 (no_index (Proc.devRef .tc main_v2_1)) = id (addi (V0 (Proc.devRef .tc main_v2_1)) (constantI S_ 32 1#32)) := by
  simp only [bodyI, afterL_cons, afterL_nil, trip_windows]
  after_results
  all_goals (try simp only [val9_main_while0b_v8, val9_main_while0b_v27, val9_main_while0b_v28, val9_main_v2_0, val9_main_v2_1, val9_main_v2_2, val9_main_v2_3, val9_main_v2_4]) <;> rfl
set_option maxRecDepth 8192 in
set_option maxHeartbeats 2000000 in
/-- `main_v2_2` after one trip's body, from any contents. -/
theorem trip_main_v2_2 (V0 : Valuation τ sig (Elt F)) : afterL bodyI V0 (no_index (Proc.devRef .tc main_v2_2)) = id (res_main_while0b_v8 V0) := by
  simp only [bodyI, afterL_cons, afterL_nil, trip_windows]
  after_results
  all_goals (try simp only [val9_main_while0b_v8, val9_main_while0b_v27, val9_main_while0b_v28, val9_main_v2_0, val9_main_v2_1, val9_main_v2_2, val9_main_v2_3, val9_main_v2_4]) <;> rfl
set_option maxRecDepth 8192 in
set_option maxHeartbeats 2000000 in
/-- `main_v2_3` after one trip's body, from any contents. -/
theorem trip_main_v2_3 (V0 : Valuation τ sig (Elt F)) : afterL bodyI V0 (no_index (Proc.devRef .tc main_v2_3)) = id (Host.dynamicUpdateSlice (V0 (Proc.devRef .tc main_v2_3)) (broadcastInDim S1x32768 ![1] bcast_S32768_S1x32768_1 (res_main_while0b_v23 V0)) (fun k => (((![V0 (Proc.devRef .tc main_v2_1), constantI S_ 32 0#32] : Fin 2 → (⟨S_, .i32⟩ : BufTy).Contents (Elt F))) k (Shape.Idx.first h_S_)).toInt) updateFits_S1024x32768_S1x32768) := by
  simp only [bodyI, afterL_cons, afterL_nil, trip_windows]
  after_results
  all_goals (try simp only [val9_main_while0b_v8, val9_main_while0b_v27, val9_main_while0b_v28, val9_main_v2_0, val9_main_v2_1, val9_main_v2_2, val9_main_v2_3, val9_main_v2_4]) <;> rfl
set_option maxRecDepth 8192 in
set_option maxHeartbeats 2000000 in
/-- `main_v2_4` after one trip's body, from any contents. -/
theorem trip_main_v2_4 (V0 : Valuation τ sig (Elt F)) : afterL bodyI V0 (no_index (Proc.devRef .tc main_v2_4)) = id (Host.dynamicUpdateSlice (V0 (Proc.devRef .tc main_v2_4)) (broadcastInDim S1 ![] bcast_S_S1 (select (res_main_while0b_v10 V0) (Host.divf (Host.reduceAdd (res_main_while0b_v23 V0) (constant S_ .f32 0x00000000#32) reducesTo_S32768_S_d0 h_S_) (constant S_ .f32 0x47000000#32)) (constant S_ .f32 0x00000000#32))) (fun k => (((![V0 (Proc.devRef .tc main_v2_1)] : Fin 1 → (⟨S_, .i32⟩ : BufTy).Contents (Elt F))) k (Shape.Idx.first h_S_)).toInt) updateFits_S1024_S1) := by
  simp only [bodyI, afterL_cons, afterL_nil, trip_windows]
  after_results
  all_goals (try simp only [val9_main_while0b_v8, val9_main_while0b_v27, val9_main_while0b_v28, val9_main_v2_0, val9_main_v2_1, val9_main_v2_2, val9_main_v2_3, val9_main_v2_4]) <;> rfl

/-- The loop's carried buffers. -/
abbrev carriedRefs : List (Ref sig .tc) := [main_v2_0, main_v2_1, main_v2_2, main_v2_3, main_v2_4]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v8_congr {V0 V0' : Valuation τ sig (Elt F)} (h : Agree V0 V0') : res_main_while0b_v8 V0 = res_main_while0b_v8 V0' := by
  unfold res_main_while0b_v8
  rw [h main_v2_2 (by decide), h main_v2_0 (by decide), h main_v2_1 (by decide)]
set_option maxRecDepth 8192 in
theorem res_main_while0b_v10_congr {V0 V0' : Valuation τ sig (Elt F)} (h : Agree V0 V0') : res_main_while0b_v10 V0 = res_main_while0b_v10 V0' := by
  unfold res_main_while0b_v10
  rw [res_main_while0b_v8_congr h]
set_option maxRecDepth 8192 in
theorem res_main_while0b_v12_congr {V0 V0' : Valuation τ sig (Elt F)} (h : Agree V0 V0') : res_main_while0b_v12 V0 = res_main_while0b_v12 V0' := by
  unfold res_main_while0b_v12
  rw [res_main_while0b_v8_congr h]
set_option maxRecDepth 8192 in
theorem res_main_while0b_indices_congr {V0 V0' : Valuation τ sig (Elt F)} (h : Agree V0 V0') : res_main_while0b_indices V0 = res_main_while0b_indices V0' := by
  unfold res_main_while0b_indices
  rw [res_main_while0b_v12_congr h]
set_option maxRecDepth 8192 in
theorem res_main_while0b_v23_congr {V0 V0' : Valuation τ sig (Elt F)} (h : Agree V0 V0') : res_main_while0b_v23 V0 = res_main_while0b_v23 V0' := by
  unfold res_main_while0b_v23
  rw [res_main_while0b_v10_congr h, res_main_while0b_indices_congr h]

set_option maxRecDepth 8192 in
/-- `main_v2_1` after one trip, of the contents before it. -/
def step_main_v2_1 (V0 : Valuation τ sig (Elt F)) : (Proc.devRef .tc main_v2_1 : DevRef τ sig).ty.Contents (Elt F) :=
  id (addi (V0 (Proc.devRef .tc main_v2_1)) (constantI S_ 32 1#32))
set_option maxRecDepth 8192 in
theorem step_main_v2_1_congr {V0 V0' : Valuation τ sig (Elt F)} (h : Agree V0 V0') : step_main_v2_1 V0 = step_main_v2_1 V0' := by
  unfold step_main_v2_1
  rw [h main_v2_1 (by decide)]
set_option maxRecDepth 8192 in
/-- `main_v2_2` after one trip, of the contents before it. -/
def step_main_v2_2 (V0 : Valuation τ sig (Elt F)) : (Proc.devRef .tc main_v2_2 : DevRef τ sig).ty.Contents (Elt F) :=
  id (res_main_while0b_v8 V0)
set_option maxRecDepth 8192 in
theorem step_main_v2_2_congr {V0 V0' : Valuation τ sig (Elt F)} (h : Agree V0 V0') : step_main_v2_2 V0 = step_main_v2_2 V0' := by
  unfold step_main_v2_2
  rw [res_main_while0b_v8_congr h]
set_option maxRecDepth 8192 in
/-- `main_v2_3` after one trip, of the contents before it. -/
def step_main_v2_3 (V0 : Valuation τ sig (Elt F)) : (Proc.devRef .tc main_v2_3 : DevRef τ sig).ty.Contents (Elt F) :=
  id (Host.dynamicUpdateSlice (V0 (Proc.devRef .tc main_v2_3)) (broadcastInDim S1x32768 ![1] bcast_S32768_S1x32768_1 (res_main_while0b_v23 V0)) (fun k => (((![V0 (Proc.devRef .tc main_v2_1), constantI S_ 32 0#32] : Fin 2 → (⟨S_, .i32⟩ : BufTy).Contents (Elt F))) k (Shape.Idx.first h_S_)).toInt) updateFits_S1024x32768_S1x32768)
set_option maxRecDepth 8192 in
theorem step_main_v2_3_congr {V0 V0' : Valuation τ sig (Elt F)} (h : Agree V0 V0') : step_main_v2_3 V0 = step_main_v2_3 V0' := by
  unfold step_main_v2_3
  rw [res_main_while0b_v23_congr h, h main_v2_3 (by decide), h main_v2_1 (by decide)]
set_option maxRecDepth 8192 in
/-- `main_v2_4` after one trip, of the contents before it. -/
def step_main_v2_4 (V0 : Valuation τ sig (Elt F)) : (Proc.devRef .tc main_v2_4 : DevRef τ sig).ty.Contents (Elt F) :=
  id (Host.dynamicUpdateSlice (V0 (Proc.devRef .tc main_v2_4)) (broadcastInDim S1 ![] bcast_S_S1 (select (res_main_while0b_v10 V0) (Host.divf (Host.reduceAdd (res_main_while0b_v23 V0) (constant S_ .f32 0x00000000#32) reducesTo_S32768_S_d0 h_S_) (constant S_ .f32 0x47000000#32)) (constant S_ .f32 0x00000000#32))) (fun k => (((![V0 (Proc.devRef .tc main_v2_1)] : Fin 1 → (⟨S_, .i32⟩ : BufTy).Contents (Elt F))) k (Shape.Idx.first h_S_)).toInt) updateFits_S1024_S1)
set_option maxRecDepth 8192 in
theorem step_main_v2_4_congr {V0 V0' : Valuation τ sig (Elt F)} (h : Agree V0 V0') : step_main_v2_4 V0 = step_main_v2_4 V0' := by
  unfold step_main_v2_4
  rw [res_main_while0b_v10_congr h, res_main_while0b_v23_congr h, h main_v2_4 (by decide), h main_v2_1 (by decide)]

/-- ONE TRIP on the carried buffers: the buffers the body writes step, everything else is as it was. -/
def STEP (V0 : Valuation τ sig (Elt F)) : Valuation τ sig (Elt F) :=
  Function.update (Function.update (Function.update (Function.update (V0) (Proc.devRef .tc main_v2_1) (step_main_v2_1 V0)) (Proc.devRef .tc main_v2_2) (step_main_v2_2 V0)) (Proc.devRef .tc main_v2_3) (step_main_v2_3 V0)) (Proc.devRef .tc main_v2_4) (step_main_v2_4 V0)

theorem STEP_main_v2_0 (V0 : Valuation τ sig (Elt F)) : STEP V0 (Proc.devRef .tc main_v2_0) = V0 (Proc.devRef .tc main_v2_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v2_1 (V0 : Valuation τ sig (Elt F)) : STEP V0 (Proc.devRef .tc main_v2_1) = step_main_v2_1 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v2_2 (V0 : Valuation τ sig (Elt F)) : STEP V0 (Proc.devRef .tc main_v2_2) = step_main_v2_2 V0 := by
  unfold STEP; rw [Function.update_of_ne (devRef_ne_of_ne (by decide))]; rw [Function.update_of_ne (devRef_ne_of_ne (by decide))]; rw [Function.update_self]
theorem STEP_main_v2_3 (V0 : Valuation τ sig (Elt F)) : STEP V0 (Proc.devRef .tc main_v2_3) = step_main_v2_3 V0 := by
  unfold STEP; rw [Function.update_of_ne (devRef_ne_of_ne (by decide))]; rw [Function.update_self]
theorem STEP_main_v2_4 (V0 : Valuation τ sig (Elt F)) : STEP V0 (Proc.devRef .tc main_v2_4) = step_main_v2_4 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v2_0 (after condOps X)).trans ((hc main_v2_0 (by decide)).trans (STEP_main_v2_0 X).symm)
  · exact (trip_main_v2_1 (after condOps X)).trans ((step_main_v2_1_congr hc).trans (STEP_main_v2_1 X).symm)
  · exact (trip_main_v2_2 (after condOps X)).trans ((step_main_v2_2_congr hc).trans (STEP_main_v2_2 X).symm)
  · exact (trip_main_v2_3 (after condOps X)).trans ((step_main_v2_3_congr hc).trans (STEP_main_v2_3 X).symm)
  · exact (trip_main_v2_4 (after condOps X)).trans ((step_main_v2_4_congr hc).trans (STEP_main_v2_4 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v2_0, STEP_main_v2_0]; exact h main_v2_0 (by decide)
  · rw [STEP_main_v2_1, STEP_main_v2_1]; exact step_main_v2_1_congr h
  · rw [STEP_main_v2_2, STEP_main_v2_2]; exact step_main_v2_2_congr h
  · rw [STEP_main_v2_3, STEP_main_v2_3]; exact step_main_v2_3_congr h
  · rw [STEP_main_v2_4, STEP_main_v2_4]; exact step_main_v2_4_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_while0Ops0_7 (V : Valuation τ sig (Elt F)) : after while0Ops0_7 V (Proc.devRef .tc main_arg0) = V (Proc.devRef .tc main_arg0) :=
  after_of_writes_sub while0Ops0_7 V while0Ops0_7_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_7, keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_while0Ops0_7 (V : Valuation τ sig (Elt F)) : after while0Ops0_7 V (Proc.devRef .tc main_arg1) = V (Proc.devRef .tc main_arg1) :=
  after_of_writes_sub while0Ops0_7 V while0Ops0_7_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_7, keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

/-- THE RUN: on every device, for any float values, from any memory with zero counters, every weakly fair execution
    of @main terminates with each result at its component of `STEP` iterated 1024 times on the loop's entry (`step_‹buffer›`
    says what one trip makes of each carried buffer), and every argument unchanged. -/
theorem run : θ_run (defs (F := F)) (onTc (τ := τ) (main (F := F))) ⟨m, fun _ => 0, ρ⟩ fun r => ∀ c : Dev nD,
      r.2.mem ((c.tc : Thread nD τ).loc main_v2_3) = (STEP^[1024] (entryContents preI m c)) (Proc.devRef .tc main_v2_3)
      ∧ r.2.mem ((c.tc : Thread nD τ).loc main_v2_4) = (STEP^[1024] (entryContents preI m c)) (Proc.devRef .tc main_v2_4)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2_3 rfl).trans ((cond_keeps _ main_v2_3 (by decide)).trans (atK_agree m c 1024 main_v2_3 (by decide))),
      (h c main_v2_4 rfl).trans ((cond_keeps _ main_v2_4 (by decide)).trans (atK_agree m c 1024 main_v2_4 (by decide))),
      (h c main_arg0 rfl).trans ((keep_main_arg0_condOps _).trans (atK_main_arg0 m c 1024)),
      (h c main_arg1 rfl).trans ((keep_main_arg1_condOps _).trans (atK_main_arg1 m c 1024))⟩) (run_fold m ρ)

end Cert.Proof.RefValue

end
-- ==== Proof.RefStep.lean ====
/-
  The reference's run over its step on states: the results are the fields of the step iterated from the initial state.
-/
module

public import proofs.«01_k».proof.Proof.RefRun
public import proofs.«01_k».proof.Proof.Gen.ReferenceIdeal.Step

@[expose] public section

noncomputable section

namespace Cert.Proof.RefStep

open Idealize.ShloMosaic Idealize.ShloMosaic.TcCoe Idealize.SL.Sem Idealize.ShloMosaic.StableHlo
open Cert.ReferenceIdeal Cert.ReferenceIdeal.Gen Cert.Proof.RefValue
open Cert.ReferenceIdeal.Step (State step init)

variable {F : FTy → Type} [FloatOps F]

variable (V0 : Valuation τ sig (Elt F)) (s : State F) (j : ℕ)

/-- The valuation holds the state, the set-up values and the trip's number. -/
structure Holds : Prop where
  f_2 : V0 (Proc.devRef .tc main_v2_2) = s.main_v2_2
  f_3 : V0 (Proc.devRef .tc main_v2_3) = s.main_v2_3
  f_4 : V0 (Proc.devRef .tc main_v2_4) = s.main_v2_4
  f_0 : V0 (Proc.devRef .tc main_v2_0) = s.main_v2_0
  n_1 : V0 (Proc.devRef .tc main_v2_1) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (Host.dynamicSlice S1x32768 (V0 (Proc.devRef .tc main_v2_0)) (fun k => (((![V0 (Proc.devRef .tc main_v2_1), constantI S_ 32 0#32] : Fin 2 → (⟨S_, .i32⟩ : BufTy).Contents (Elt F))) k (Shape.Idx.first h_S_)).toInt) sliceFits_S1024x32768_S1x32768 : (Proc.devRef .tc main_while0b_call0_v0 : DevRef τ sig).ty.Contents (Elt F)) = Cert.ReferenceIdeal.Step.b1 j s := by
  unfold Cert.ReferenceIdeal.Step.b1
  rw [← al_0 h, h.f_0, h.n_1]
  try rfl
set_option maxRecDepth 8192 in
theorem al_2 (h : Holds V0 s j) : (shapeCast S32768 (Host.dynamicSlice S1x32768 (V0 (Proc.devRef .tc main_v2_0)) (fun k => (((![V0 (Proc.devRef .tc main_v2_1), constantI S_ 32 0#32] : Fin 2 → (⟨S_, .i32⟩ : BufTy).Contents (Elt F))) k (Shape.Idx.first h_S_)).toInt) sliceFits_S1024x32768_S1x32768) shapeCasts_S1x32768_S32768 : (Proc.devRef .tc main_while0b_v3 : DevRef τ sig).ty.Contents (Elt F)) = Cert.ReferenceIdeal.Step.b2 j s := by
  unfold Cert.ReferenceIdeal.Step.b2
  rw [← al_1 h]
  try rfl
set_option maxRecDepth 8192 in
theorem al_3 (h : Holds V0 s j) : (constant S_ .f32 0x3F7D70A4#32 : (Proc.devRef .tc main_while0b_cst_5 : DevRef τ sig).ty.Contents (Elt F)) = Cert.ReferenceIdeal.Step.b3 j s := by
  unfold Cert.ReferenceIdeal.Step.b3
  rfl
set_option maxRecDepth 8192 in
theorem al_4 (h : Holds V0 s j) : (broadcastInDim S32768 ![] bcast_S_S32768 (constant S_ .f32 0x3F7D70A4#32) : (Proc.devRef .tc main_while0b_v4 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (mulf (broadcastInDim S32768 ![] bcast_S_S32768 (constant S_ .f32 0x3F7D70A4#32)) (V0 (Proc.devRef .tc main_v2_2)) : (Proc.devRef .tc main_while0b_v5 : DevRef τ sig).ty.Contents (Elt F)) = Cert.ReferenceIdeal.Step.b5 j s := by
  unfold Cert.ReferenceIdeal.Step.b5
  rw [← al_4 h, h.f_2]
  try rfl
set_option maxRecDepth 8192 in
theorem al_6 (h : Holds V0 s j) : (constant S_ .f32 0x3C23D70A#32 : (Proc.devRef .tc main_while0b_cst_6 : DevRef τ sig).ty.Contents (Elt F)) = Cert.ReferenceIdeal.Step.b6 j s := by
  unfold Cert.ReferenceIdeal.Step.b6
  rfl
set_option maxRecDepth 8192 in
theorem al_7 (h : Holds V0 s j) : (broadcastInDim S32768 ![] bcast_S_S32768 (constant S_ .f32 0x3C23D70A#32) : (Proc.devRef .tc main_while0b_v6 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (mulf (broadcastInDim S32768 ![] bcast_S_S32768 (constant S_ .f32 0x3C23D70A#32)) (shapeCast S32768 (Host.dynamicSlice S1x32768 (V0 (Proc.devRef .tc main_v2_0)) (fun k => (((![V0 (Proc.devRef .tc main_v2_1), constantI S_ 32 0#32] : Fin 2 → (⟨S_, .i32⟩ : BufTy).Contents (Elt F))) k (Shape.Idx.first h_S_)).toInt) sliceFits_S1024x32768_S1x32768) shapeCasts_S1x32768_S32768) : (Proc.devRef .tc main_while0b_v7 : DevRef τ sig).ty.Contents (Elt F)) = Cert.ReferenceIdeal.Step.b8 j s := by
  unfold Cert.ReferenceIdeal.Step.b8
  rw [← al_7 h, ← al_2 h]
  try rfl
set_option maxRecDepth 8192 in
theorem al_9 (h : Holds V0 s j) : (res_main_while0b_v8 V0 : (Proc.devRef .tc main_while0b_v8 : DevRef τ sig).ty.Contents (Elt F)) = Cert.ReferenceIdeal.Step.b9 j s := by
  unfold res_main_while0b_v8 Cert.ReferenceIdeal.Step.b9
  rw [← al_5 h, ← al_8 h]
  try rfl
set_option maxRecDepth 8192 in
theorem al_10 (h : Holds V0 s j) : (constant S_ .f32 0xFF800000#32 : (Proc.devRef .tc main_while0b_cst_7 : DevRef τ sig).ty.Contents (Elt F)) = Cert.ReferenceIdeal.Step.b10 j s := by
  unfold Cert.ReferenceIdeal.Step.b10
  rfl
set_option maxRecDepth 8192 in
theorem al_11 (h : Holds V0 s j) : (Host.reduce FloatOps.maximumf (res_main_while0b_v8 V0) (constant S_ .f32 0xFF800000#32) reducesTo_S32768_S_d0 h_S_ : (Proc.devRef .tc main_while0b_v9 : DevRef τ sig).ty.Contents (Elt F)) = Cert.ReferenceIdeal.Step.b11 j s := by
  unfold Cert.ReferenceIdeal.Step.b11
  rw [← al_9 h, ← al_10 h]
  try rfl
set_option maxRecDepth 8192 in
theorem al_12 (h : Holds V0 s j) : (constant S_ .f32 0x3F147AE1#32 : (Proc.devRef .tc main_while0b_cst_8 : DevRef τ sig).ty.Contents (Elt F)) = Cert.ReferenceIdeal.Step.b12 j s := by
  unfold Cert.ReferenceIdeal.Step.b12
  rfl
set_option maxRecDepth 8192 in
theorem al_13 (h : Holds V0 s j) : (res_main_while0b_v10 V0 : (Proc.devRef .tc main_while0b_v10 : DevRef τ sig).ty.Contents (Elt F)) = Cert.ReferenceIdeal.Step.b13 j s := by
  unfold res_main_while0b_v10 Cert.ReferenceIdeal.Step.b13
  rw [← al_11 h, ← al_12 h]
  try rfl
set_option maxRecDepth 8192 in
theorem al_14 (h : Holds V0 s j) : (constant S_ .f32 0x3F59999A#32 : (Proc.devRef .tc main_while0b_cst_9 : DevRef τ sig).ty.Contents (Elt F)) = Cert.ReferenceIdeal.Step.b14 j s := by
  unfold Cert.ReferenceIdeal.Step.b14
  rfl
set_option maxRecDepth 8192 in
theorem al_15 (h : Holds V0 s j) : (broadcastInDim S32768 ![] bcast_S_S32768 (constant S_ .f32 0x3F59999A#32) : (Proc.devRef .tc main_while0b_v11 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (res_main_while0b_v12 V0 : (Proc.devRef .tc main_while0b_v12 : DevRef τ sig).ty.Contents (Elt F)) = Cert.ReferenceIdeal.Step.b16 j s := by
  unfold res_main_while0b_v12 Cert.ReferenceIdeal.Step.b16
  rw [← al_9 h, ← al_15 h]
  try rfl
set_option maxRecDepth 8192 in
theorem al_17 (h : Holds V0 s j) : ((Host.topK S2 0 (FloatOps.cmpfTotal .gt) (res_main_while0b_v12 V0) sliceFits_S32768_S2).1 : (Proc.devRef .tc main_while0b_values : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (res_main_while0b_indices V0 : (Proc.devRef .tc main_while0b_indices : DevRef τ sig).ty.Contents (Elt F)) = Cert.ReferenceIdeal.Step.b18 j s := by
  unfold res_main_while0b_indices Cert.ReferenceIdeal.Step.b18
  rw [← al_16 h]
  try rfl
set_option maxRecDepth 8192 in
theorem al_19 (h : Holds V0 s j) : (constant S_ .f32 0x00000000#32 : (Proc.devRef .tc main_while0b_cst_10 : DevRef τ sig).ty.Contents (Elt F)) = Cert.ReferenceIdeal.Step.b19 j s := by
  unfold Cert.ReferenceIdeal.Step.b19
  rfl
set_option maxRecDepth 8192 in
theorem al_20 (h : Holds V0 s j) : (broadcastInDim S32768 ![] bcast_S_S32768 (constant S_ .f32 0x00000000#32) : (Proc.devRef .tc main_while0b_v13 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (constantI S_ 32 0#32 : (Proc.devRef .tc main_while0b_c_11 : DevRef τ sig).ty.Contents (Elt F)) = Cert.ReferenceIdeal.Step.b21 j s := by
  unfold Cert.ReferenceIdeal.Step.b21
  rfl
set_option maxRecDepth 8192 in
theorem al_22 (h : Holds V0 s j) : (broadcastInDim S2 ![] bcast_S_S2 (constantI S_ 32 0#32) : (Proc.devRef .tc main_while0b_v14 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (cmpi .slt (res_main_while0b_indices V0) (broadcastInDim S2 ![] bcast_S_S2 (constantI S_ 32 0#32)) : (Proc.devRef .tc main_while0b_v15 : DevRef τ sig).ty.Contents (Elt F)) = Cert.ReferenceIdeal.Step.b23 j s := by
  unfold Cert.ReferenceIdeal.Step.b23
  rw [← al_18 h, ← al_22 h]
  try rfl
set_option maxRecDepth 8192 in
theorem al_24 (h : Holds V0 s j) : (constantI S_ 32 32768#32 : (Proc.devRef .tc main_while0b_c_12 : DevRef τ sig).ty.Contents (Elt F)) = Cert.ReferenceIdeal.Step.b24 j s := by
  unfold Cert.ReferenceIdeal.Step.b24
  rfl
set_option maxRecDepth 8192 in
theorem al_25 (h : Holds V0 s j) : (broadcastInDim S2 ![] bcast_S_S2 (constantI S_ 32 32768#32) : (Proc.devRef .tc main_while0b_v16 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (addi (res_main_while0b_indices V0) (broadcastInDim S2 ![] bcast_S_S2 (constantI S_ 32 32768#32)) : (Proc.devRef .tc main_while0b_v17 : DevRef τ sig).ty.Contents (Elt F)) = Cert.ReferenceIdeal.Step.b26 j s := by
  unfold Cert.ReferenceIdeal.Step.b26
  rw [← al_18 h, ← al_25 h]
  try rfl
set_option maxRecDepth 8192 in
theorem al_27 (h : Holds V0 s j) : (select (cmpi .slt (res_main_while0b_indices V0) (broadcastInDim S2 ![] bcast_S_S2 (constantI S_ 32 0#32))) (addi (res_main_while0b_indices V0) (broadcastInDim S2 ![] bcast_S_S2 (constantI S_ 32 32768#32))) (res_main_while0b_indices V0) : (Proc.devRef .tc main_while0b_v18 : DevRef τ sig).ty.Contents (Elt F)) = Cert.ReferenceIdeal.Step.b27 j s := by
  unfold Cert.ReferenceIdeal.Step.b27
  rw [← al_23 h, ← al_26 h, ← al_18 h]
  try rfl
set_option maxRecDepth 8192 in
theorem al_28 (h : Holds V0 s j) : (broadcastInDim S2x1 ![0] bcast_S2_S2x1_0 (select (cmpi .slt (res_main_while0b_indices V0) (broadcastInDim S2 ![] bcast_S_S2 (constantI S_ 32 0#32))) (addi (res_main_while0b_indices V0) (broadcastInDim S2 ![] bcast_S_S2 (constantI S_ 32 32768#32))) (res_main_while0b_indices V0)) : (Proc.devRef .tc main_while0b_v19 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (constant S_ .f32 0x3F800000#32 : (Proc.devRef .tc main_while0b_cst_13 : DevRef τ sig).ty.Contents (Elt F)) = Cert.ReferenceIdeal.Step.b29 j s := by
  unfold Cert.ReferenceIdeal.Step.b29
  rfl
set_option maxRecDepth 8192 in
theorem al_30 (h : Holds V0 s j) : (broadcastInDim S2 ![] bcast_S_S2 (constant S_ .f32 0x3F800000#32) : (Proc.devRef .tc main_while0b_v20 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (Host.scatter scatter_S32768_S2x1_S2_n_0_0_1 (fun _ b => b) (broadcastInDim S32768 ![] bcast_S_S32768 (constant S_ .f32 0x00000000#32)) (broadcastInDim S2x1 ![0] bcast_S2_S2x1_0 (select (cmpi .slt (res_main_while0b_indices V0) (broadcastInDim S2 ![] bcast_S_S2 (constantI S_ 32 0#32))) (addi (res_main_while0b_indices V0) (broadcastInDim S2 ![] bcast_S_S2 (constantI S_ 32 32768#32))) (res_main_while0b_indices V0))) (broadcastInDim S2 ![] bcast_S_S2 (constant S_ .f32 0x3F800000#32)) : (Proc.devRef .tc main_while0b_v21 : DevRef τ sig).ty.Contents (Elt F)) = Cert.ReferenceIdeal.Step.b31 j s := by
  unfold Cert.ReferenceIdeal.Step.b31
  rw [← al_20 h, ← al_28 h, ← al_30 h]
  try rfl
set_option maxRecDepth 8192 in
theorem al_32 (h : Holds V0 s j) : (constant S_ .f32 0x00000000#32 : (Proc.devRef .tc main_while0b_cst_14 : DevRef τ sig).ty.Contents (Elt F)) = Cert.ReferenceIdeal.Step.b32 j s := by
  unfold Cert.ReferenceIdeal.Step.b32
  rfl
set_option maxRecDepth 8192 in
theorem al_33 (h : Holds V0 s j) : (broadcastInDim S32768 ![] bcast_S_S32768 (constant S_ .f32 0x00000000#32) : (Proc.devRef .tc main_while0b_v22 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (res_main_while0b_v23 V0 : (Proc.devRef .tc main_while0b_v23 : DevRef τ sig).ty.Contents (Elt F)) = Cert.ReferenceIdeal.Step.b34 j s := by
  unfold res_main_while0b_v23 Cert.ReferenceIdeal.Step.b34
  rw [← al_13 h, ← al_31 h, ← al_33 h]
  try rfl
set_option maxRecDepth 8192 in
theorem al_35 (h : Holds V0 s j) : (constant S_ .f32 0x00000000#32 : (Proc.devRef .tc main_while0b_cst_15 : DevRef τ sig).ty.Contents (Elt F)) = Cert.ReferenceIdeal.Step.b35 j s := by
  unfold Cert.ReferenceIdeal.Step.b35
  rfl
set_option maxRecDepth 8192 in
theorem al_36 (h : Holds V0 s j) : (Host.reduceAdd (res_main_while0b_v23 V0) (constant S_ .f32 0x00000000#32) reducesTo_S32768_S_d0 h_S_ : (Proc.devRef .tc main_while0b_v24 : DevRef τ sig).ty.Contents (Elt F)) = Cert.ReferenceIdeal.Step.b36 j s := by
  unfold Cert.ReferenceIdeal.Step.b36
  rw [← al_34 h, ← al_35 h]
  try rfl
set_option maxRecDepth 8192 in
theorem al_37 (h : Holds V0 s j) : (constant S_ .f32 0x47000000#32 : (Proc.devRef .tc main_while0b_cst_16 : DevRef τ sig).ty.Contents (Elt F)) = Cert.ReferenceIdeal.Step.b37 j s := by
  unfold Cert.ReferenceIdeal.Step.b37
  rfl
set_option maxRecDepth 8192 in
theorem al_38 (h : Holds V0 s j) : (Host.divf (Host.reduceAdd (res_main_while0b_v23 V0) (constant S_ .f32 0x00000000#32) reducesTo_S32768_S_d0 h_S_) (constant S_ .f32 0x47000000#32) : (Proc.devRef .tc main_while0b_v25 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (constant S_ .f32 0x00000000#32 : (Proc.devRef .tc main_while0b_cst_17 : DevRef τ sig).ty.Contents (Elt F)) = Cert.ReferenceIdeal.Step.b39 j s := by
  unfold Cert.ReferenceIdeal.Step.b39
  rfl
set_option maxRecDepth 8192 in
theorem al_40 (h : Holds V0 s j) : (select (res_main_while0b_v10 V0) (Host.divf (Host.reduceAdd (res_main_while0b_v23 V0) (constant S_ .f32 0x00000000#32) reducesTo_S32768_S_d0 h_S_) (constant S_ .f32 0x47000000#32)) (constant S_ .f32 0x00000000#32) : (Proc.devRef .tc main_while0b_v26 : DevRef τ sig).ty.Contents (Elt F)) = Cert.ReferenceIdeal.Step.b40 j s := by
  unfold Cert.ReferenceIdeal.Step.b40
  rw [← al_13 h, ← al_38 h, ← al_39 h]
  try rfl
set_option maxRecDepth 8192 in
theorem al_41 (h : Holds V0 s j) : (broadcastInDim S1x32768 ![1] bcast_S32768_S1x32768_1 (res_main_while0b_v23 V0) : (Proc.devRef .tc main_while0b_call3_v0 : DevRef τ sig).ty.Contents (Elt F)) = Cert.ReferenceIdeal.Step.b41 j s := by
  unfold Cert.ReferenceIdeal.Step.b41
  rw [← al_34 h]
  try rfl
set_option maxRecDepth 8192 in
theorem al_42 (h : Holds V0 s j) : (constantI S_ 32 0#32 : (Proc.devRef .tc main_while0b_call3_c : DevRef τ sig).ty.Contents (Elt F)) = Cert.ReferenceIdeal.Step.b42 j s := by
  unfold Cert.ReferenceIdeal.Step.b42
  rfl
set_option maxRecDepth 8192 in
theorem al_43 (h : Holds V0 s j) : (Host.dynamicUpdateSlice (V0 (Proc.devRef .tc main_v2_3)) (broadcastInDim S1x32768 ![1] bcast_S32768_S1x32768_1 (res_main_while0b_v23 V0)) (fun k => (((![V0 (Proc.devRef .tc main_v2_1), constantI S_ 32 0#32] : Fin 2 → (⟨S_, .i32⟩ : BufTy).Contents (Elt F))) k (Shape.Idx.first h_S_)).toInt) updateFits_S1024x32768_S1x32768 : (Proc.devRef .tc main_while0b_v27 : DevRef τ sig).ty.Contents (Elt F)) = Cert.ReferenceIdeal.Step.b43 j s := by
  unfold Cert.ReferenceIdeal.Step.b43
  rw [← al_41 h, ← al_42 h, h.f_3, h.n_1]
  try rfl
set_option maxRecDepth 8192 in
theorem al_44 (h : Holds V0 s j) : (broadcastInDim S1 ![] bcast_S_S1 (select (res_main_while0b_v10 V0) (Host.divf (Host.reduceAdd (res_main_while0b_v23 V0) (constant S_ .f32 0x00000000#32) reducesTo_S32768_S_d0 h_S_) (constant S_ .f32 0x47000000#32)) (constant S_ .f32 0x00000000#32)) : (Proc.devRef .tc main_while0b_call4_v0 : DevRef τ sig).ty.Contents (Elt F)) = Cert.ReferenceIdeal.Step.b44 j s := by
  unfold Cert.ReferenceIdeal.Step.b44
  rw [← al_40 h]
  try rfl
set_option maxRecDepth 8192 in
theorem al_45 (h : Holds V0 s j) : (Host.dynamicUpdateSlice (V0 (Proc.devRef .tc main_v2_4)) (broadcastInDim S1 ![] bcast_S_S1 (select (res_main_while0b_v10 V0) (Host.divf (Host.reduceAdd (res_main_while0b_v23 V0) (constant S_ .f32 0x00000000#32) reducesTo_S32768_S_d0 h_S_) (constant S_ .f32 0x47000000#32)) (constant S_ .f32 0x00000000#32))) (fun k => (((![V0 (Proc.devRef .tc main_v2_1)] : Fin 1 → (⟨S_, .i32⟩ : BufTy).Contents (Elt F))) k (Shape.Idx.first h_S_)).toInt) updateFits_S1024_S1 : (Proc.devRef .tc main_while0b_v28 : DevRef τ sig).ty.Contents (Elt F)) = Cert.ReferenceIdeal.Step.b45 j s := by
  unfold Cert.ReferenceIdeal.Step.b45
  rw [← al_44 h, h.f_4, h.n_1]
  try rfl

/-! One trip's step of the carried values is `step`, field by field; a counter steps to the next number. -/

theorem step_2 (h : Holds V0 s j) : step_main_v2_2 V0 = (step j s).main_v2_2 := by
  unfold step_main_v2_2 Cert.ReferenceIdeal.Step.step
  show id (res_main_while0b_v8 V0) = _
  rw [al_9 h]
  try rfl
theorem step_3 (h : Holds V0 s j) : step_main_v2_3 V0 = (step j s).main_v2_3 := by
  unfold step_main_v2_3 Cert.ReferenceIdeal.Step.step
  exact al_43 h
theorem step_4 (h : Holds V0 s j) : step_main_v2_4 V0 = (step j s).main_v2_4 := by
  unfold step_main_v2_4 Cert.ReferenceIdeal.Step.step
  exact al_45 h
theorem step_1 (h : Holds V0 s j) : step_main_v2_1 V0 = constantI S_ 32 (BitVec.ofNat 32 (j + 1)) := by
  unfold step_main_v2_1
  rw [h.n_1]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_2 := (STEP_main_v2_2 V0).trans (step_2 h)
  f_3 := (STEP_main_v2_3 V0).trans (step_3 h)
  f_4 := (STEP_main_v2_4 V0).trans (step_4 h)
  n_1 := (STEP_main_v2_1 V0).trans (step_1 h)
  f_0 := (STEP_main_v2_0 V0).trans h.f_0

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg0))

variable (m : (ℓ : Loc nD τ sig) → Buf (Elt F) ℓ) (c : Dev nD)

set_option maxRecDepth 65536 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 1024 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v2_3) = (it c 1024).main_v2_3
      ∧ r.2.mem ((c.tc : Thread nD τ).loc main_v2_4) = (it c 1024).main_v2_4
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 1024
    ⟨(h c).1.trans hk.f_3, (h c).2.1.trans hk.f_4, (h c).2.2.1, (h c).2.2.2⟩) (RefValue.run m ρ)

end Cert.Proof.RefStep

end
-- ==== Proof.Frames.lean ====
/-
  Each program's frame: it runs, terminates, leaves its arguments as they were and every counter at zero.
-/
module

public import proofs.«01_k».proof.Defs
public import proofs.«01_k».proof.Proof.Whole
public import proofs.«01_k».proof.Proof.Bits.Whole
public import proofs.«01_k».proof.Proof.RefStep
public import Idealize.ShloMosaic.Lib.Quiescent

@[expose] public section

noncomputable section

namespace Cert.Proof

open Idealize.ShloMosaic Idealize.ShloMosaic.TcCoe Idealize.SL.Sem

/-- The kernel as it is written runs, and leaves its arguments and the counters as they were. -/
theorem frame_kernel : Cert.quiescent_Kernel := fun m g _ =>
  (θ_run Cert.Kernel.defs _ _).mono (fun _ h => ⟨fun c => ⟨(h.1 c).1, (h.1 c).2.1⟩, h.2⟩) (Bits.run_main m g)

/-- The kernel over the extended reals runs, and leaves its arguments and the counters as they were. -/
theorem frame_ideal : Cert.quiescent_KernelIdeal := fun m g _ =>
  (θ_run Cert.KernelIdeal.defs _ _).mono (fun _ h => ⟨fun c => ⟨(h.1 c).1, (h.1 c).2.1⟩, h.2⟩) (Ideal.run_main m g)

/-- The sequence of the reference's states, from the memory it starts from. -/
def refStates (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => RefStep.initState m c
  | n + 1 => Cert.ReferenceIdeal.Step.step n (refStates m c n)

/-- The reference runs, and leaves its arguments and the counters as they were: it has no counter. -/
theorem frame_ref : Cert.quiescent_ReferenceIdeal := fun m g _ =>
  (θ_run Cert.ReferenceIdeal.defs _ _).mono
    (fun r h => ⟨fun c => ⟨(h c).2.2.1, (h c).2.2.2⟩, sem_eq_zero_of_no_sems (by decide) r.2⟩)
    (RefStep.run_iter m g (refStates m) (fun _ => rfl) (fun _ _ => rfl))

end Cert.Proof

end
-- ==== Proof.Top2.lean ====
/-
  The two greatest entries of a finite row, ties to the lower index: their existence and uniqueness, the reading of a
  word minimum and of a maximum at a best index, and the selection of the two greatest from the two greatest of each
  chunk.
-/
module

public import Idealize.ShloMosaic.Lib.SortFacts
public import Idealize.ShloMosaic.PureOps.Reduce
public import Idealize.ShloMosaic.PureOps.Ideal.Laws

@[expose] public section

noncomputable section

namespace Cert.Proof.Top2

open Idealize.ShloMosaic

/-- Index `i` is at least as good as `j`: a greater entry, or an equal one at a lower or the same index. -/
def Bt {n : ℕ} (y : Fin n → EReal) (i j : Fin n) : Prop := y j < y i ∨ (y j = y i ∧ i ≤ j)

theorem Bt.le {n : ℕ} {y : Fin n → EReal} {i j : Fin n} (h : Bt y i j) : y j ≤ y i := h.elim le_of_lt fun h => h.1.le
theorem Bt.idx {n : ℕ} {y : Fin n → EReal} {i j : Fin n} (h : Bt y i j) (e : y j = y i) : i ≤ j :=
  h.elim (fun h => absurd e h.ne) fun h => h.2
theorem Bt.antisymm {n : ℕ} {y : Fin n → EReal} {i j : Fin n} (h : Bt y i j) (h' : Bt y j i) : i = j := by
  have e : y j = y i := le_antisymm h.le h'.le
  exact le_antisymm (h.idx e) (h'.idx e.symm)

/-- `a` is the best index and `b` the best of the others. -/
structure IsTop2 {n : ℕ} (y : Fin n → EReal) (a b : Fin n) : Prop where
  first : ∀ j, Bt y a j
  ne : b ≠ a
  second : ∀ j, j ≠ a → Bt y b j

theorem IsTop2.unique {n : ℕ} {y : Fin n → EReal} {a b a' b' : Fin n} (h : IsTop2 y a b) (h' : IsTop2 y a' b') :
    a = a' ∧ b = b' := by
  obtain rfl : a = a' := (h.first a').antisymm (h'.first a)
  exact ⟨rfl, (h.second b' h'.ne).antisymm (h'.second b h.ne)⟩

/-- A nonempty set of indices has a best one. -/
theorem exists_best {n : ℕ} (y : Fin n → EReal) (S : Finset (Fin n)) (hS : S.Nonempty) : ∃ a ∈ S, ∀ j ∈ S, Bt y a j := by
  obtain ⟨m, hm, hmax⟩ := S.exists_max_image y hS
  have hT : (S.filter fun i => y i = y m).Nonempty := ⟨m, Finset.mem_filter.mpr ⟨hm, rfl⟩⟩
  have ha := Finset.min'_mem _ hT
  obtain ⟨haS, hay⟩ := Finset.mem_filter.mp ha
  refine ⟨_, haS, fun j hj => ?_⟩
  rcases lt_or_eq_of_le (hmax j hj) with h | h
  · exact Or.inl (lt_of_lt_of_eq h hay.symm)
  · exact Or.inr ⟨h.trans hay.symm, Finset.min'_le _ _ (Finset.mem_filter.mpr ⟨hj, h⟩)⟩

theorem exists_top2 {n : ℕ} (hn : 2 ≤ n) (y : Fin n → EReal) : ∃ a b, IsTop2 y a b := by
  obtain ⟨a, -, ha⟩ := exists_best y Finset.univ ⟨⟨0, by omega⟩, Finset.mem_univ _⟩
  have hne : (Finset.univ.erase a).Nonempty := by
    rw [← Finset.card_pos, Finset.card_erase_of_mem (Finset.mem_univ a), Finset.card_univ, Fintype.card_fin]; omega
  obtain ⟨b, hb, hb'⟩ := exists_best y _ hne
  exact ⟨a, b, fun j => ha j (Finset.mem_univ j), (Finset.mem_erase.mp hb).1, fun j hj => hb' j (Finset.mem_erase.mpr ⟨hj, Finset.mem_univ j⟩)⟩

/-! ## Folds read at a best index -/

theorem minsi_toInt (a b : BitVec 32) : (IntOp.minsi a b).toInt = min a.toInt b.toInt := by
  unfold IntOp.minsi
  rw [BitVec.slt]
  by_cases h : a.toInt < b.toInt
  · rw [if_pos (decide_eq_true h), min_eq_left h.le]
  · rw [if_neg (by simpa using h), min_eq_right (not_lt.mp h)]

/-- A word minimum over a finite family is the entry that is least. -/
theorem fold_minsi {ι : Type} [Fintype ι] (acc : BitVec 32) (f : ι → BitVec 32) (k0 : ι)
    (h : ∀ k, (f k0).toInt ≤ (f k).toInt) (hb : (f k0).toInt ≤ acc.toInt) : (Finset.univ : Finset ι).fold IntOp.minsi acc f = f k0 := by
  apply BitVec.eq_of_toInt_eq
  rw [← Finset.fold_hom (op' := min) (m := BitVec.toInt) minsi_toInt]
  refine le_antisymm ?_ ?_
  · rw [Finset.fold_min_le]; exact Or.inr ⟨k0, Finset.mem_univ _, le_rfl⟩
  · rw [Finset.le_fold_min]; exact ⟨hb, fun k _ => h k⟩

/-- A word minimum is at least any lower bound of the family and the starting word. -/
theorem le_fold_minsi {ι : Type} [Fintype ι] (acc : BitVec 32) (f : ι → BitVec 32) (v : ℤ)
    (h : ∀ k, v ≤ (f k).toInt) (hb : v ≤ acc.toInt) : v ≤ ((Finset.univ : Finset ι).fold IntOp.minsi acc f).toInt := by
  rw [← Finset.fold_hom (op' := min) (m := BitVec.toInt) minsi_toInt, Finset.le_fold_min]
  exact ⟨hb, fun k _ => h k⟩

/-- A maximum over a finite family is the entry that is greatest. -/
theorem fold_max {ι : Type} [Fintype ι] (f : ι → EReal) (k0 : ι) (h : ∀ k, f k ≤ f k0) :
    (Finset.univ : Finset ι).fold max ⊥ f = f k0 := by
  refine le_antisymm ?_ ?_
  · rw [Finset.fold_max_le]; exact ⟨bot_le, fun k _ => h k⟩
  · rw [Finset.le_fold_max]; exact Or.inr ⟨k0, Finset.mem_univ _, le_rfl⟩

/-- The word of a small number, read signed. -/
theorem toInt_ofNat_small (k : ℕ) (h : k < 2 ^ 31) : (BitVec.ofNat 32 k).toInt = (k : ℤ) := by
  rw [BitVec.toInt_eq_toNat_of_lt (by rw [BitVec.toNat_ofNat]; omega), BitVec.toNat_ofNat]
  omega

/-- The least index with a property, as the word minimum over the family that holds a large word elsewhere. -/
theorem fold_first {n : ℕ} (hn : n ≤ 1073741823) (P : Fin n → Prop) [DecidablePred P] (a : Fin n) (ha : P a) (hmin : ∀ j, P j → a ≤ j) :
    (Finset.univ : Finset (Fin n)).fold IntOp.minsi 2147483647#32 (fun k => if P k then BitVec.ofNat 32 k.val else 1073741823#32)
      = BitVec.ofNat 32 a.val := by
  have hav : a.val < n := a.isLt
  refine (fold_minsi _ _ a (fun k => ?_) ?_).trans (if_pos ha)
  · rw [if_pos ha, toInt_ofNat_small _ (by omega)]
    by_cases hk : P k
    · rw [if_pos hk, toInt_ofNat_small _ (by have := k.isLt; omega)]; exact_mod_cast hmin k hk
    · rw [if_neg hk, show (1073741823#32 : BitVec 32).toInt = 1073741823 by decide]; omega
  · rw [if_pos ha, toInt_ofNat_small _ (by omega), show (2147483647#32 : BitVec 32).toInt = 2147483647 by decide]; omega

/-! ## The two greatest, from the two greatest of each chunk -/

section Chunks
variable {n m : ℕ} (hn : n ≤ 1073741823) (y : Fin n → EReal) (ch : Fin n → Fin m) (A B : Fin m → Fin n)
  (hA : ∀ c, ch (A c) = c) (hB : ∀ c, ch (B c) = c) (hfirst : ∀ c j, ch j = c → Bt y (A c) j)
  (hne : ∀ c, B c ≠ A c) (hsecond : ∀ c j, ch j = c → j ≠ A c → Bt y (B c) j) {a b : Fin n} (h : IsTop2 y a b)
include hA hB hfirst hne hsecond h

/-- The best index is its chunk's best. -/
theorem best_chunk : A (ch a) = a := (hfirst (ch a) a rfl).antisymm (h.first _)
/-- A chunk's best is the best index only in that index's chunk. -/
theorem best_iff (c : Fin m) : A c = a ↔ c = ch a :=
  ⟨fun e => by rw [← e]; exact (hA c).symm, fun e => by rw [e]; exact best_chunk y ch A B hA hB hfirst hne hsecond h⟩
/-- No chunk's second is the best index. -/
theorem second_ne (c : Fin m) : B c ≠ a := by
  intro e
  have hc : c = ch a := by rw [← e]; exact (hB c).symm
  have := best_chunk y ch A B hA hB hfirst hne hsecond h
  rw [← hc] at this
  exact hne c (e.trans this.symm)
/-- The second index is its chunk's best, or its chunk's second where the chunk holds the best index. -/
theorem second_chunk : (A (ch b) ≠ a ∧ A (ch b) = b) ∨ (A (ch b) = a ∧ B (ch b) = b) := by
  by_cases hc : A (ch b) = a
  · refine Or.inr ⟨hc, ?_⟩
    exact (hsecond (ch b) b rfl (by rw [hc]; exact h.ne)).antisymm (h.second _ (second_ne y ch A B hA hB hfirst hne hsecond h _))
  · exact Or.inl ⟨hc, (hfirst (ch b) b rfl).antisymm (h.second _ hc)⟩

/-- The greatest entry, over the chunks' greatest. -/
theorem chunk_max : (Finset.univ : Finset (Fin m)).fold max ⊥ (fun c => y (A c)) = y a := by
  refine (fold_max _ (ch a) fun c => ?_).trans ?_
  · rw [best_chunk y ch A B hA hB hfirst hne hsecond h]; exact (h.first _).le
  · rw [best_chunk y ch A B hA hB hfirst hne hsecond h]

include hn
/-- The best index, as the least of the chunks' best indices at which the greatest entry stands. -/
theorem chunk_iw1 : (Finset.univ : Finset (Fin m)).fold IntOp.minsi 2147483647#32
    (fun c => if y (A c) = y a then BitVec.ofNat 32 (A c).val else 1073741823#32) = BitVec.ofNat 32 a.val := by
  have e := best_chunk y ch A B hA hB hfirst hne hsecond h
  have hav := a.isLt
  refine (fold_minsi _ _ (ch a) (fun c => ?_) ?_).trans ?_
  · rw [e, if_pos rfl, toInt_ofNat_small _ (by omega)]
    by_cases hk : y (A c) = y a
    · rw [if_pos hk, toInt_ofNat_small _ (by have := (A c).isLt; omega)]; exact_mod_cast (h.first (A c)).idx hk
    · rw [if_neg hk, show (1073741823#32 : BitVec 32).toInt = 1073741823 by decide]; omega
  · rw [e, if_pos rfl, toInt_ofNat_small _ (by omega), show (2147483647#32 : BitVec 32).toInt = 2147483647 by decide]; omega
  · rw [e, if_pos rfl]

omit hn
/-- The second greatest entry: the greater of the chunks' best entries, the best index's aside, and the chunks' seconds. -/
theorem chunk_gm2 : max ((Finset.univ : Finset (Fin m)).fold max ⊥ (fun c => if A c = a then ⊥ else y (A c)))
    ((Finset.univ : Finset (Fin m)).fold max ⊥ (fun c => y (B c))) = y b := by
  have hl : ∀ c, (if A c = a then ⊥ else y (A c)) ≤ y b := fun c => by
    by_cases hc : A c = a
    · rw [if_pos hc]; exact bot_le
    · rw [if_neg hc]; exact (h.second _ hc).le
  have hr : ∀ c, y (B c) ≤ y b := fun c => (h.second _ (second_ne y ch A B hA hB hfirst hne hsecond h c)).le
  refine le_antisymm (max_le ?_ ?_) ?_
  · rw [Finset.fold_max_le]; exact ⟨bot_le, fun c _ => hl c⟩
  · rw [Finset.fold_max_le]; exact ⟨bot_le, fun c _ => hr c⟩
  · rcases second_chunk y ch A B hA hB hfirst hne hsecond h with ⟨h1, h2⟩ | ⟨h1, h2⟩
    · refine le_max_of_le_left ?_
      rw [Finset.le_fold_max]; exact Or.inr ⟨ch b, Finset.mem_univ _, by rw [if_neg h1, h2]⟩
    · refine le_max_of_le_right ?_
      rw [Finset.le_fold_max]; exact Or.inr ⟨ch b, Finset.mem_univ _, by rw [h2]⟩

include hn
/-- The second index: the lesser of the least candidate among the chunks' best and the least among the chunks' seconds. -/
theorem chunk_iw2 (hbot : ∀ j, ⊥ < y j) : IntOp.minsi
    ((Finset.univ : Finset (Fin m)).fold IntOp.minsi 2147483647#32
      (fun c => if (if A c = a then ⊥ else y (A c)) = y b then BitVec.ofNat 32 (A c).val else 1073741823#32))
    ((Finset.univ : Finset (Fin m)).fold IntOp.minsi 2147483647#32
      (fun c => if y (B c) = y b then BitVec.ofNat 32 (B c).val else 1073741823#32)) = BitVec.ofNat 32 b.val := by
  have hbv := b.isLt
  have hbig : (1073741823#32 : BitVec 32).toInt = 1073741823 := by decide
  have hacc : (2147483647#32 : BitVec 32).toInt = 2147483647 := by decide
  have hl : ∀ c, (b.val : ℤ) ≤ (if (if A c = a then ⊥ else y (A c)) = y b then BitVec.ofNat 32 (A c).val else 1073741823#32 : BitVec 32).toInt := fun c => by
    by_cases hk : (if A c = a then ⊥ else y (A c)) = y b
    · rw [if_pos hk, toInt_ofNat_small _ (by have := (A c).isLt; omega)]
      by_cases hc : A c = a
      · rw [if_pos hc] at hk; exact absurd hk (hbot b).ne
      · rw [if_neg hc] at hk; exact_mod_cast (h.second _ hc).idx hk
    · rw [if_neg hk, hbig]; omega
  have hr : ∀ c, (b.val : ℤ) ≤ (if y (B c) = y b then BitVec.ofNat 32 (B c).val else 1073741823#32 : BitVec 32).toInt := fun c => by
    by_cases hk : y (B c) = y b
    · rw [if_pos hk, toInt_ofNat_small _ (by have := (B c).isLt; omega)]
      exact_mod_cast (h.second _ (second_ne y ch A B hA hB hfirst hne hsecond h c)).idx hk
    · rw [if_neg hk, hbig]; omega
  apply BitVec.eq_of_toInt_eq
  rw [minsi_toInt, toInt_ofNat_small _ (by omega)]
  refine le_antisymm ?_ (le_min (le_fold_minsi _ _ _ hl (by omega)) (le_fold_minsi _ _ _ hr (by omega)))
  rcases second_chunk y ch A B hA hB hfirst hne hsecond h with ⟨h1, h2⟩ | ⟨h1, h2⟩
  · refine min_le_of_left_le ?_
    rw [← Finset.fold_hom (op' := min) (m := BitVec.toInt) minsi_toInt, Finset.fold_min_le]
    exact Or.inr ⟨ch b, Finset.mem_univ _, by rw [if_neg h1, h2, if_pos rfl, toInt_ofNat_small _ (by omega)]⟩
  · refine min_le_of_right_le ?_
    rw [← Finset.fold_hom (op' := min) (m := BitVec.toInt) minsi_toInt, Finset.fold_min_le]
    exact Or.inr ⟨ch b, Finset.mem_univ _, by rw [h2, if_pos rfl, toInt_ofNat_small _ (by omega)]⟩

end Chunks

/-! ## The stable sort's first two -/

theorem sorted_finRange (n : ℕ) : (List.finRange n).Pairwise (· < ·) := List.pairwise_lt_finRange n

/-- On an increasing list a stable sort by "greater" is the sort by "better". -/
theorem stableSort_better {n : ℕ} (y : Fin n → EReal) (R R' : Fin n → Fin n → Bool) (hR : ∀ i j, R i j = decide (y j < y i))
    (hR' : ∀ i j, R' i j = decide (y j < y i ∨ (y j = y i ∧ i < j))) (l : List (Fin n)) (hl : l.Pairwise (· < ·)) :
    stableSort R l = stableSort R' l := by
  induction l with
  | nil => rfl
  | cons a l ih =>
    rw [List.pairwise_cons] at hl
    unfold stableSort
    rw [ih hl.2]
    refine insertBefore_congr R R' a _ fun b hb => ?_
    have hb' : b ∈ l := (perm_stableSort R' l).mem_iff.mp hb
    have hab := hl.1 b hb'
    rw [hR, hR']
    congr 1
    exact propext ⟨Or.inl, fun h => h.elim id fun h => absurd h.2 (not_lt.mpr hab.le)⟩

/-- The first two positions of a stable sort, greater first, are the two greatest entries. -/
theorem sorted_top2 {n : ℕ} (y : Fin n → EReal) (R : Fin n → Fin n → Bool) (hR : ∀ i j, R i j = decide (y j < y i)) (h0 : 0 < n) (h1 : 1 < n) :
    IsTop2 y (sortedFrom R ⟨0, h0⟩) (sortedFrom R ⟨1, h1⟩) := by
  classical
  let R' : Fin n → Fin n → Bool := fun i j => decide (y j < y i ∨ (y j = y i ∧ i < j))
  have hR' : ∀ i j, R' i j = decide (y j < y i ∨ (y j = y i ∧ i < j)) := fun _ _ => rfl
  have hp : sortPositions n R = sortPositions n R' := stableSort_better y R R' hR hR' _ (sorted_finRange n)
  have hs : sortedFrom R = sortedFrom R' := by
    funext k; unfold sortedFrom; rw [List.get_of_eq hp]; rfl
  have hirr : ∀ a b, R' a b = true → R' b a = false := fun a b hab => by
    rw [hR'] at hab ⊢
    have := of_decide_eq_true hab
    refine decide_eq_false ?_
    rintro (h | h)
    · rcases this with h' | h'
      · exact lt_asymm h h'
      · exact h.ne h'.1.symm
    · rcases this with h' | h'
      · exact h'.ne h.1.symm
      · exact lt_asymm h.2 h'.2
  have htr : ∀ a b c, R' a b = false → R' b c = false → R' a c = false := fun a b c hab hbc => by
    rw [hR'] at hab hbc ⊢
    have h1 := of_decide_eq_false hab
    have h2 := of_decide_eq_false hbc
    push Not at h1 h2
    refine decide_eq_false ?_
    push Not
    refine ⟨h1.1.trans h2.1, fun e => ?_⟩
    have e1 : y b = y a := le_antisymm (h2.1.trans e.le) h1.1
    exact (h2.2 (e.trans e1.symm)).trans (h1.2 e1)
  have hno := sortedFrom_noInversion R' R' hirr (fun _ _ h => h) htr
  have hbt : ∀ i j : Fin n, i < j → Bt y (sortedFrom R' i) (sortedFrom R' j) := fun i j hij => by
    have h := hno i j hij
    rw [hR'] at h
    have h := of_decide_eq_false h
    push Not at h
    rcases lt_or_eq_of_le h.1 with h' | h'
    · exact Or.inl h'
    · exact Or.inr ⟨h', h.2 h'.symm⟩
  rw [hs]
  refine ⟨fun j => ?_, ?_, fun j hj => ?_⟩
  · obtain ⟨p, rfl⟩ := sortedFrom_surjective R' j
    by_cases hp0 : p.val = 0
    · rw [show p = ⟨0, h0⟩ from Fin.ext hp0]; exact Or.inr ⟨rfl, le_rfl⟩
    · exact hbt _ _ (Fin.lt_def.mpr (Nat.pos_of_ne_zero hp0))
  · exact fun e => by
      have := congrArg Fin.val (sortedFrom_injective R' e)
      exact Nat.one_ne_zero this
  · obtain ⟨p, rfl⟩ := sortedFrom_surjective R' j
    by_cases hp0 : p.val = 0
    · exact absurd (by rw [show p = ⟨0, h0⟩ from Fin.ext hp0]) hj
    · by_cases hp1 : p.val = 1
      · rw [show p = ⟨1, h1⟩ from Fin.ext hp1]; exact Or.inr ⟨rfl, le_rfl⟩
      · exact hbt _ _ (Fin.lt_def.mpr (by show 1 < p.val; omega))

end Cert.Proof.Top2

end
-- ==== Proof.KConst.lean ====
/-
  The idealized constants of the kernel, and the reading of a row's maximum, word minimum and broadcast.
-/
module

public import proofs.«01_k».proof.Proof.Top2
public import Idealize.ShloMosaic.Lib.ValueIdx
public import Idealize.ShloMosaic.Lib.IdealHost
public import Idealize.ShloMosaic.Lib.ValueLayout
public import Idealize.ShloMosaic.Lib.Pipeline.Value
public import proofs.«01_k».proof.Proof.Gen.KernelIdeal

@[expose] public section

noncomputable section

namespace Cert.Proof.Ideal

open Cert.KernelIdeal Cert.KernelIdeal.Gen
open Idealize.ShloMosaic Idealize.ShloMosaic.ValueIdx
open Cert.Proof.Top2

/-! ## The constants -/

/-- The score's factor. -/
def wc : EReal := Ideal.ofBits .f32 0x3F59999A#32
/-- The old state's factor. -/
def k0 : EReal := Ideal.ofBits .f32 0x3F7D70A4#32
/-- The new spikes' factor. -/
def k1 : EReal := Ideal.ofBits .f32 0x3C23D70A#32

theorem ofBits_bot : Ideal.ofBits .f32 0xFF800000#32 = (⊥ : EReal) := by
  simp [Ideal.ofBits, Ideal.ieee]
theorem wc_real : ∃ r : ℝ, 0 < r ∧ wc = (r : EReal) :=
  ⟨14260634 * 2 ^ (-24 : ℤ), by positivity, by unfold wc; simp [Ideal.ofBits, Ideal.ieee, -EReal.coe_mul]⟩
theorem k0_real : ∃ r : ℝ, 0 < r ∧ k0 = (r : EReal) :=
  ⟨16609444 * 2 ^ (-24 : ℤ), by positivity, by unfold k0; simp [Ideal.ofBits, Ideal.ieee, -EReal.coe_mul]⟩
theorem k1_real : ∃ r : ℝ, 0 < r ∧ k1 = (r : EReal) :=
  ⟨10737418 * 2 ^ (-30 : ℤ), by positivity, by unfold k1; simp [Ideal.ofBits, Ideal.ieee, -EReal.coe_mul]⟩

theorem mul_bot_lt {w x : EReal} (hw : ∃ r : ℝ, 0 < r ∧ w = (r : EReal)) (hx : ⊥ < x) : ⊥ < w * x := by
  obtain ⟨r, hr, rfl⟩ := hw
  induction x with
  | bot => exact absurd hx (lt_irrefl _)
  | top => rw [EReal.coe_mul_top_of_pos hr]; exact bot_lt_top
  | coe x => rw [← EReal.coe_mul]; exact EReal.bot_lt_coe _
theorem wc_mono : Monotone fun x : EReal => x * wc := fun a b h => by
  obtain ⟨r, hr, e⟩ := wc_real
  exact mul_le_mul_of_nonneg_right h (by rw [e]; exact_mod_cast hr.le)
theorem bot_mul_wc : (⊥ : EReal) * wc = ⊥ := by
  obtain ⟨r, hr, e⟩ := wc_real
  rw [e, EReal.bot_mul_coe_of_pos hr]
theorem fold_max_mul {ι : Type} [Fintype ι] (x : ι → EReal) :
    ((Finset.univ : Finset ι).fold max ⊥ x) * wc = (Finset.univ : Finset ι).fold max ⊥ fun k => x k * wc := by
  have := Finset.fold_hom (op := max) (op' := max) (f := x) (b := ⊥) (s := (Finset.univ : Finset ι)) (m := fun x : EReal => x * wc)
    (fun a b => wc_mono.map_max)
  rw [← this, bot_mul_wc]

theorem wc_word : FloatOps.ofBits (F := Ideal) .f32 0x3F59999A#32 = wc := rfl
theorem k0_word : FloatOps.ofBits (F := Ideal) .f32 0x3F7D70A4#32 = k0 := rfl
theorem k1_word : FloatOps.ofBits (F := Ideal) .f32 0x3C23D70A#32 = k1 := rfl
theorem bot_word : FloatOps.ofBits (F := Ideal) .f32 0xFF800000#32 = (⊥ : EReal) := ofBits_bot
attribute [irreducible] wc k0 k1

/-! ## Reading a row -/

theorem sel_ofBool {α : Type} (P : Prop) [Decidable P] (a b : α) : Scalar.select (BitVec.ofBool (decide P)) a b = if P then a else b := by
  unfold Scalar.select
  by_cases h : P <;> simp [h]

theorem sel_oeq {α : Type} (x y : EReal) (a b : α) : Scalar.select (FloatOps.cmpf (F := Ideal) (φ := .f32) .oeq x y) a b = if x = y then a else b := by
  show Scalar.select (Ideal.cmp .oeq x y) a b = _
  unfold Ideal.cmp
  exact sel_ofBool _ _ _
theorem sel_ne {α : Type} (x y : BitVec 32) (a b : α) : Scalar.select (IntOp.cmpi .ne x y) a b = if x = y then b else a := by
  unfold IntOp.cmpi Scalar.select
  by_cases h : x = y
  · subst h; simp
  · dsimp only; rw [bne_iff_ne.mpr h, if_neg h]; rfl
theorem sel_eq {α : Type} (x y : BitVec 32) (a b : α) : Scalar.select (IntOp.cmpi .eq x y) a b = if x = y then a else b := by
  unfold IntOp.cmpi Scalar.select
  by_cases h : x = y
  · subst h; simp
  · dsimp only; rw [beq_eq_false_iff_ne.mpr h, if_neg h]; rfl

theorem ofNat_inj32 {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

section Generic
variable {r c : ℕ}

theorem lift_row (h : (⟨2, ![r, c]⟩ : Shape).Reduces [1] ⟨1, ![r]⟩) (i : Fin r) (k : Fin c) : h.lift (ix1 i) k = ix2 i k := by
  funext a
  apply Fin.ext
  match a with
  | ⟨0, _⟩ => rfl
  | ⟨1, _⟩ => rfl

theorem col_read {α : Type} (v : (⟨1, ![r]⟩ : Shape).Idx → α) (h : (⟨1, ![r]⟩ : Shape).ShapeCasts ⟨2, ![r, 1]⟩) (i : Fin r) (z : Fin 1) :
    shapeCast ⟨2, ![r, 1]⟩ v h (ix2 i z) = v (ix1 i) :=
  shapeCast_apply v h _ _ (by
    rw [Shape.rowMajor_val_one, Shape.rowMajor_val_two]
    have : z.val = 0 := by omega
    show i.val = i.val * 1 + z.val
    omega)

/-- A row's maximum. -/
theorem row_max (V : FVec Ideal ⟨2, ![r, c]⟩ .f32) (h : (⟨2, ![r, c]⟩ : Shape).Reduces [1] ⟨1, ![r]⟩) (hφ hacc)
    (hs : (⟨1, ![r]⟩ : Shape).ShapeCasts ⟨2, ![r, 1]⟩) (i : Fin r) (z : Fin 1) :
    shapeCast ⟨2, ![r, 1]⟩ (multiReduction .maximumf [1] ⟨1, ![r]⟩ V 0xFF800000#32 h hφ hacc) hs (ix2 i z)
      = (Finset.univ : Finset (Fin c)).fold max ⊥ fun k => V (ix2 i k) := by
  rw [col_read]
  refine (Ideal.multiReduction_maximumf_single V _ h hφ hacc (ix1 i)).trans ?_
  rw [show (FloatOps.ofBits (F := Ideal) .f32 0xFF800000#32) = (⊥ : EReal) from ofBits_bot]
  exact congrArg (Finset.fold max ⊥ · Finset.univ) (funext fun k => congrArg V (lift_row h i k))

/-- A row's word minimum. -/
theorem row_min (V : IVec ⟨2, ![r, c]⟩ 32) (h : (⟨2, ![r, c]⟩ : Shape).Reduces [1] ⟨1, ![r]⟩) (hacc)
    (hs : (⟨1, ![r]⟩ : Shape).ShapeCasts ⟨2, ![r, 1]⟩) (i : Fin r) (z : Fin 1) :
    shapeCast ⟨2, ![r, 1]⟩ (multiReductionI .minsi [1] ⟨1, ![r]⟩ V 2147483647#32 h hacc) hs (ix2 i z)
      = (Finset.univ : Finset (Fin c)).fold IntOp.minsi 2147483647#32 fun k => V (ix2 i k) := by
  rw [col_read]
  refine (multiReductionI_eq_fold .minsi V _ h hacc (ix1 i)).trans ?_
  refine (h.fold_filter_drop_single _ _ V (ix1 i)).trans ?_
  exact congrArg (Finset.fold IntOp.minsi 2147483647#32 · Finset.univ) (funext fun k => congrArg V (lift_row h i k))

theorem bcast_read {α : Type} (hr : r ≠ 1) (v : (⟨2, ![r, 1]⟩ : Shape).Idx → α) (h : (⟨2, ![r, 1]⟩ : Shape).Broadcasts ⟨2, ![r, c]⟩) (i : Fin r) (k : Fin c) :
    broadcastTo ⟨2, ![r, c]⟩ v h (ix2 i k) = v (ix2 i 0) :=
  broadcastTo_apply v h _ _ fun a => by
    match a with
    | ⟨0, _⟩ => show i.val = if r = 1 then 0 else i.val; rw [if_neg hr]
    | ⟨1, _⟩ => rfl

end Generic

end Cert.Proof.Ideal

end
-- ==== Proof.KSt.lean ====
/-
  The problem's values over the extended reals: the state of every neuron after each time step, the scores, the two
  neurons of greatest score, and the two results.
-/
module

public import proofs.«01_k».proof.Proof.Top2
public import proofs.«01_k».proof.Proof.KConst

@[expose] public section

noncomputable section

namespace Cert.Proof.Val

open Cert.KernelIdeal
open Idealize.ShloMosaic Idealize.ShloMosaic.ValueIdx
open Cert.Proof.Top2 Cert.Proof.Ideal

/-- The threshold a step's greatest state is compared with. -/
def thr : EReal := Ideal.ofBits .f32 0x3F147AE1#32
/-- The coverage of a step that passes the threshold: two of 32768 neurons. -/
def cov2 : EReal := Ideal.ofBits .f32 0x38800000#32
theorem thr_word : FloatOps.ofBits (F := Ideal) .f32 0x3F147AE1#32 = thr := rfl
theorem cov2_word : FloatOps.ofBits (F := Ideal) .f32 0x38800000#32 = cov2 := rfl
attribute [irreducible] thr cov2

variable (A : S1024x32768.Idx → EReal) (N : S32768.Idx → EReal)

/-- The states after `T` time steps. -/
def st : ℕ → Fin 32768 → EReal
  | 0 => fun i => N (ix1 i)
  | T + 1 => fun i => k0 * st T i + k1 * A (ix2 ⟨T % 1024, Nat.mod_lt _ (by decide)⟩ i)

/-- The scores after time step `T`. -/
def sc (T : ℕ) (i : Fin 32768) : EReal := st A N (T + 1) i * wc
/-- The greatest state after time step `T`. -/
def mx (T : ℕ) : EReal := (Finset.univ : Finset (Fin 32768)).fold max ⊥ (st A N (T + 1))

theorem exists_sc (T : ℕ) : ∃ ab : Fin 32768 × Fin 32768, IsTop2 (sc A N T) ab.1 ab.2 := by
  obtain ⟨a, b, h⟩ := exists_top2 (by decide) (sc A N T)
  exact ⟨(a, b), h⟩
/-- The two neurons of greatest score after time step `T`. -/
def top (T : ℕ) : Fin 32768 × Fin 32768 := (exists_sc A N T).choose
theorem top_spec (T : ℕ) : IsTop2 (sc A N T) (top A N T).1 (top A N T).2 := (exists_sc A N T).choose_spec

open Classical in
/-- The mask: ones at the two neurons of greatest score, on the steps that pass the threshold. -/
def maskR : S1024x32768.Idx → EReal := fun j =>
  if thr ≤ mx A N (j 0).val then (if (j 1) = (top A N (j 0).val).1 ∨ (j 1) = (top A N (j 0).val).2 then 1 else 0) else 0
open Classical in
/-- The coverage: two of 32768 on the steps that pass the threshold. -/
def covR : S1024.Idx → EReal := fun j => if thr ≤ mx A N (j 0).val then cov2 else 0

theorem maskR_at (T : Fin 1024) (j : Fin 32768) [Decidable (thr ≤ mx A N T.val)] [Decidable (j = (top A N T.val).1 ∨ j = (top A N T.val).2)] :
    maskR A N (ix2 T j) = if thr ≤ mx A N T.val then (if j = (top A N T.val).1 ∨ j = (top A N T.val).2 then 1 else 0) else 0 := by
  unfold maskR
  congr
theorem covR_at (T : Fin 1024) [Decidable (thr ≤ mx A N T.val)] : covR A N (ix1 T) = if thr ≤ mx A N T.val then cov2 else 0 := by
  unfold covR
  congr

/-- States stay above minus infinity when the inputs are. -/
theorem st_bot (hA : ∀ j, ⊥ < A j) (hN : ∀ j, ⊥ < N j) (T : ℕ) (i : Fin 32768) : ⊥ < st A N T i := by
  induction T with
  | zero => exact hN _
  | succ T ih =>
    show ⊥ < k0 * st A N T i + k1 * A _
    exact EReal.bot_lt_add_iff.mpr ⟨mul_bot_lt k0_real ih, mul_bot_lt k1_real (hA _)⟩
theorem sc_bot (hA : ∀ j, ⊥ < A j) (hN : ∀ j, ⊥ < N j) (T : ℕ) (i : Fin 32768) : ⊥ < sc A N T i := by
  unfold sc; rw [mul_comm]; exact mul_bot_lt wc_real (st_bot A N hA hN _ i)

end Cert.Proof.Val

end
-- ==== Proof.KStage2.lean ====
/-
  What stage 2 of the kernel stores for one row, at the idealized values: ones at the row's two greatest scores and the
  coverage of the row, when its greatest state passes the threshold.
-/
module

public import proofs.«01_k».proof.Proof.KSt
public import proofs.«01_k».proof.Proof.S2Body

@[expose] public section

noncomputable section

namespace Cert.Proof.Ideal

open Cert.KernelIdeal Cert.KernelIdeal.Gen
open Idealize.ShloMosaic Idealize.ShloMosaic.ValueIdx
open Cert.Proof.Top2 Cert.Proof.Val

section Words

theorem minsi_read {s : Shape} {w : ℕ} (x y : IVec s w) (j : s.Idx) : minsi x y j = IntOp.minsi (x j) (y j) := rfl
theorem ori_read {s : Shape} {w : ℕ} (x y : IVec s w) (j : s.Idx) : ori x y j = IntOp.ori (x j) (y j) := rfl
theorem plus_read {s : Shape} {w : ℕ} (x y : IVec s w) (j : s.Idx) : addi x y j = IntOp.addi (x j) (y j) := rfl
theorem ieq_read {s : Shape} {w : ℕ} (p : CmpIPredicate) (x y : IVec s w) (j : s.Idx) : cmpi p x y j = IntOp.cmpi p (x j) (y j) := rfl

theorem sel_oge {α : Type} (x y : EReal) (a b : α) : Scalar.select (FloatOps.cmpf (F := Ideal) (φ := .f32) .oge x y) a b = if y ≤ x then a else b := by
  show Scalar.select (Ideal.cmp .oge x y) a b = _
  unfold Ideal.cmp
  exact sel_ofBool _ _ _

theorem eqw (x u : BitVec 32) : IntOp.cmpi .eq x u = if x = u then 1#1 else 0#1 := by
  unfold IntOp.cmpi
  by_cases h : x = u
  · subst h; simp
  · dsimp only; rw [beq_eq_false_iff_ne.mpr h, if_neg h]; rfl

theorem real_one : FloatOps.sitofp (F := Ideal) .f32 (1#32) = (1 : EReal) := by
  show (((1#32 : BitVec 32).toInt : ℝ) : EReal) = 1
  rw [show (1#32 : BitVec 32).toInt = 1 by decide]; simp
theorem real_zero : FloatOps.sitofp (F := Ideal) .f32 (0#32) = (0 : EReal) := by
  show (((0#32 : BitVec 32).toInt : ℝ) : EReal) = 0
  rw [show (0#32 : BitVec 32).toInt = 0 by decide]; simp

/-- The mask's value at an index: one where the index is one of the two words. -/
theorem hot_read (x u w : BitVec 32) : FloatOps.sitofp (F := Ideal) .f32 ((IntOp.ori (IntOp.cmpi .eq x u) (IntOp.cmpi .eq x w)).setWidth 32) = if x = u ∨ x = w then (1 : EReal) else 0 := by
  rw [eqw, eqw]
  by_cases h : x = u
  · by_cases h' : x = w
    · rw [if_pos h, if_pos h', if_pos (Or.inl h), show (IntOp.ori (1#1 : BitVec 1) 1#1).setWidth 32 = 1#32 by decide, real_one]
    · rw [if_pos h, if_neg h', if_pos (Or.inl h), show (IntOp.ori (1#1 : BitVec 1) 0#1).setWidth 32 = 1#32 by decide, real_one]
  · by_cases h' : x = w
    · rw [if_neg h, if_pos h', if_pos (Or.inr h'), show (IntOp.ori (0#1 : BitVec 1) 1#1).setWidth 32 = 1#32 by decide, real_one]
    · rw [if_neg h, if_neg h', if_neg (by tauto), show (IntOp.ori (0#1 : BitVec 1) 0#1).setWidth 32 = 0#32 by decide, real_zero]

end Words

section Row
variable (x0 x1 : Vec Ideal S512x64 .f32) (y0 y1 : Vec Ideal S512x64 .i32) (i : Fin 512)
  (y : Fin 32768 → EReal) (ch : Fin 32768 → Fin 64) (A B : Fin 64 → Fin 32768)
  (hx0 : ∀ k, x0 (ix2 i k) * wc = y (A k)) (hx1 : ∀ k, x1 (ix2 i k) = y (B k))
  (hy0 : ∀ k, y0 (ix2 i k) = BitVec.ofNat 32 (A k).val) (hy1 : ∀ k, y1 (ix2 i k) = BitVec.ofNat 32 (B k).val)

theorem s2_3 : k1_pay3 x0 = x0 := shapeCast_self _ _
theorem s2_4 : k1_pay4 x1 = x1 := shapeCast_self _ _
theorem s2_5 : k1_pay5 (F := Ideal) y0 = y0 := shapeCast_self _ _
theorem s2_6 : k1_pay6 (F := Ideal) y1 = y1 := shapeCast_self _ _

theorem s2_7 (z : Fin 1) : k1_pay7 x0 (ix2 i z) = (Finset.univ : Finset (Fin 64)).fold max ⊥ fun k => x0 (ix2 i k) := by
  unfold k1_pay7
  rw [s2_3]
  exact row_max x0 _ _ _ _ i z

theorem s2_sel {α : Type} (u v : α) (z : Fin 1) : Scalar.select (k1_pay8 x0 (ix2 i z)) u v
    = if thr ≤ (Finset.univ : Finset (Fin 64)).fold max ⊥ (fun k => x0 (ix2 i k)) then u else v := by
  unfold k1_pay8
  rw [cmpf_apply, broadcast_apply, s2_7]
  refine (congrArg (fun q => Scalar.select (FloatOps.cmpf (F := Ideal) (φ := .f32) .oge _ q) u v) thr_word).trans (sel_oge _ _ u v)

/-- The coverage of a row. -/
theorem cover_read (z : Fin 1) : cover x0 (ix2 i z) = if thr ≤ (Finset.univ : Finset (Fin 64)).fold max ⊥ (fun k => x0 (ix2 i k)) then cov2 else 0 := by
  unfold cover k1_pay2
  rw [select_apply, s2_sel, broadcast_apply, broadcast_apply]
  have e0 : FloatOps.ofBits (F := Ideal) .f32 0x00000000#32 = (0 : EReal) := Ideal.ofBits_zero_f32
  have e1 := cov2_word
  exact congrArg₂ (fun u v : EReal => if thr ≤ (Finset.univ : Finset (Fin 64)).fold max ⊥ (fun k => x0 (ix2 i k)) then u else v) e1 e0

include hx0 in
theorem s2_9 (k : Fin 64) : k1_pay9 x0 (ix2 i k) = y (A k) := by
  unfold k1_pay9
  rw [mulf_apply, broadcast_apply, s2_3, ← hx0 k, wc_word]

variable (hA : ∀ c, ch (A c) = c) (hB : ∀ c, ch (B c) = c) (hfirst : ∀ c j, ch j = c → Bt y (A c) j) (hne : ∀ c, B c ≠ A c)
  (hsecond : ∀ c j, ch j = c → j ≠ A c → Bt y (B c) j) {a b : Fin 32768} (h : IsTop2 y a b)
include hA hB hfirst hne hsecond h hx0 hy0

theorem s2_max : ((Finset.univ : Finset (Fin 64)).fold max ⊥ fun k => x0 (ix2 i k)) * wc = y a := by
  rw [fold_max_mul]
  exact (congrArg (Finset.fold max ⊥ · Finset.univ) (funext hx0)).trans (chunk_max y ch A B hA hB hfirst hne hsecond h)

theorem s2_10 (z : Fin 1) : k1_pay10 x0 y0 (ix2 i z) = BitVec.ofNat 32 a.val := by
  unfold k1_pay10
  refine (row_min _ _ _ _ i z).trans (Eq.trans ?_ (chunk_iw1 (by decide) y ch A B hA hB hfirst hne hsecond h))
  refine congrArg (Finset.fold IntOp.minsi 2147483647#32 · Finset.univ) (funext fun k => ?_)
  rw [select_apply, cmpf_apply, bcast_read (by decide), mulf_apply, broadcast_apply, broadcast_apply, sel_oeq, s2_9 x0 i y A hx0, s2_7, s2_5, hy0, wc_word,
    s2_max x0 y0 i y ch A B hx0 hy0 hA hB hfirst hne hsecond h]

theorem s2_11 (k : Fin 64) : k1_pay11 x0 y0 (ix2 i k) = if A k = a then ⊥ else y (A k) := by
  unfold k1_pay11
  rw [select_apply, broadcast_apply, bot_word, ieq_read, bcast_read (by decide), s2_10 x0 y0 i y ch A B hx0 hy0 hA hB hfirst hne hsecond h, s2_5, hy0,
    sel_eq, s2_9 x0 i y A hx0]
  have e : BitVec.ofNat 32 (A k).val = BitVec.ofNat 32 a.val ↔ A k = a :=
    (ofNat_inj32 (by have := (A k).isLt; omega) (by have := a.isLt; omega)).trans ⟨Fin.ext, fun h => h ▸ rfl⟩
  by_cases hk : A k = a
  · rw [if_pos (e.mpr hk), if_pos hk]
  · rw [if_neg (fun h => hk (e.mp h)), if_neg hk]

include hx1
theorem s2_12 (z : Fin 1) : k1_pay12 x0 x1 y0 (ix2 i z) = y b := by
  unfold k1_pay12
  rw [maximumf_apply, s2_4]
  refine Eq.trans (congrArg₂ max ((row_max (k1_pay11 x0 y0) _ _ _ _ i z).trans ?_) ((row_max x1 _ _ _ _ i z).trans ?_)) (chunk_gm2 y ch A B hA hB hfirst hne hsecond h)
  · exact congrArg (Finset.fold max ⊥ · Finset.univ) (funext (s2_11 x0 y0 i y ch A B hx0 hy0 hA hB hfirst hne hsecond h))
  · exact congrArg (Finset.fold max ⊥ · Finset.univ) (funext hx1)

theorem s2_13 (z : Fin 1) : k1_pay13 x0 x1 y0 (ix2 i z) = (Finset.univ : Finset (Fin 64)).fold IntOp.minsi 2147483647#32
    (fun c => if (if A c = a then ⊥ else y (A c)) = y b then BitVec.ofNat 32 (A c).val else 1073741823#32) := by
  unfold k1_pay13
  refine (row_min _ _ _ _ i z).trans ?_
  refine congrArg (Finset.fold IntOp.minsi 2147483647#32 · Finset.univ) (funext fun k => ?_)
  rw [select_apply, cmpf_apply, bcast_read (by decide), broadcast_apply, sel_oeq, s2_11 x0 y0 i y ch A B hx0 hy0 hA hB hfirst hne hsecond h,
    s2_12 x0 x1 y0 i y ch A B hx0 hx1 hy0 hA hB hfirst hne hsecond h, s2_5, hy0]

theorem s2_14 {α : Type} (u v : α) (k : Fin 64) : Scalar.select (k1_pay14 x0 x1 y0 (ix2 i k)) u v = if y (B k) = y b then u else v := by
  unfold k1_pay14
  rw [cmpf_apply, bcast_read (by decide), s2_12 x0 x1 y0 i y ch A B hx0 hx1 hy0 hA hB hfirst hne hsecond h, s2_4, hx1]
  exact sel_oeq _ _ u v

include hy1
/-- The mask of a row. -/
theorem mask_read (hbot : ∀ j, ⊥ < y j) (g : grid1.Coords) (k : Fin 4096) : mask g x0 x1 y0 y1 (ix2 i k)
    = if thr ≤ (Finset.univ : Finset (Fin 64)).fold max ⊥ (fun k => x0 (ix2 i k)) then (if k.val + (g 1).val * 4096 = a.val ∨ k.val + (g 1).val * 4096 = b.val then 1 else 0) else 0 := by
  have hg : (g 1).val < 8 := (g 1).isLt
  have hk := k.isLt
  unfold mask k1_pay1
  rw [sitofp_apply, extui_apply, ori_read, ieq_read, ieq_read, bcast_read (by decide), bcast_read (by decide), hot_read, plus_read, broadcast_apply,
    iota_single_apply, select_apply, select_apply, s2_sel, s2_sel, broadcast_apply, minsi_read]
  have e2 : ∀ (hh) (hs), IntOp.minsi (k1_pay13 x0 x1 y0 (ix2 i 0))
      (shapeCast S512x1 (multiReductionI .minsi [1] S512 (select (k1_pay14 x0 x1 y0) (k1_pay6 (F := Ideal) y1) (broadcast S512x64 1073741823#32)) 2147483647#32 hh rfl) hs (ix2 i 0)) = BitVec.ofNat 32 b.val := fun hh hs => by
    refine Eq.trans (congrArg₂ IntOp.minsi (s2_13 x0 x1 y0 i y ch A B hx0 hx1 hy0 hA hB hfirst hne hsecond h 0) ((row_min _ hh rfl hs i 0).trans ?_)) (chunk_iw2 (by decide) y ch A B hA hB hfirst hne hsecond h hbot)
    refine congrArg (Finset.fold IntOp.minsi 2147483647#32 · Finset.univ) (funext fun k => ?_)
    rw [select_apply, broadcast_apply, s2_14 x0 x1 y0 i y ch A B hx0 hx1 hy0 hA hB hfirst hne hsecond h, s2_6, hy1]
  rw [e2, s2_10 x0 y0 i y ch A B hx0 hy0 hA hB hfirst hne hsecond h]
  have e3 : IntOp.addi (BitVec.ofNat 32 (ix2 i k (1 : Fin 2)).val) (Scalar.muli (BitVec.ofNat 32 (g 1).val) 4096#32) = BitVec.ofNat 32 (k.val + (g 1).val * 4096) := by
    show BitVec.ofNat 32 k.val + BitVec.ofNat 32 (g 1).val * BitVec.ofNat 32 4096 = _
    rw [← BitVec.ofNat_mul, ← BitVec.ofNat_add]
  have e4 : ∀ c : Fin 32768, BitVec.ofNat 32 (k.val + (g 1).val * 4096) = BitVec.ofNat 32 c.val ↔ k.val + (g 1).val * 4096 = c.val := fun c =>
    ofNat_inj32 (by omega) (by have := c.isLt; omega)
  have e5 : ¬ BitVec.ofNat 32 (k.val + (g 1).val * 4096) = 4294967295#32 := fun hc =>
    absurd ((ofNat_inj32 (a := k.val + (g 1).val * 4096) (b := 4294967295) (by omega) (by omega)).mp hc) (by omega)
  rw [e3]
  by_cases ht : thr ≤ (Finset.univ : Finset (Fin 64)).fold max ⊥ (fun k => x0 (ix2 i k))
  · simp only [if_pos ht, e4]
  · simp only [if_neg ht, e5, or_self, if_false]

end Row

end Cert.Proof.Ideal

end
-- ==== Proof.PreDec.lean ====
/-
  The precondition, decoded: every entry of both arguments is above minus infinity.
-/
module

public import proofs.«01_k».proof.Defs
public import proofs.«01_k».proof.Proof.KStage2
public import Idealize.ShloMosaic.Lib.ReduceAll

@[expose] public section

noncomputable section

namespace Cert.Proof

open Cert.Pre_above_minus_infinity
open Idealize.ShloMosaic
open Cert.Proof.Ideal

/-- The shapes the precondition's operations need. -/
theorem preFacts : Cert.Pre_above_minus_infinity.Facts where
  bcast_S_S1024x32768 := by decide
  reducesTo_S1024x32768_S_d0_1 := by decide
  h_S_ := by decide
  bcast_S_S32768 := by decide
  reducesTo_S32768_S_d0 := by decide

theorem ogt_one (x y : EReal) (h : FloatOps.cmpf (F := Ideal) (φ := .f32) .ogt x y = 1#1) : y < x := by
  change Ideal.cmp .ogt x y = 1#1 at h
  unfold Ideal.cmp at h
  by_contra hn
  simp [hn] at h

theorem and_one (x y : BitVec 1) (h : IntOp.andi x y = 1#1) : x = 1#1 ∧ y = 1#1 := by
  revert x y
  decide

instance : Subsingleton (Cert.Pre_above_minus_infinity.S_.Idx) := ⟨fun a b => funext fun i => i.elim0⟩

/-- What the precondition says of the two arguments. -/
theorem above [Cert.Pre_above_minus_infinity.Facts] (x : FVec Ideal S1024x32768 .f32) (y : FVec Ideal S32768 .f32)
    (h : Cert.Pre_above_minus_infinity.fn (F := Ideal) x y = fun _ => 1#1) : (∀ i, (⊥ : EReal) < x i) ∧ ∀ i, (⊥ : EReal) < y i := by
  unfold Cert.Pre_above_minus_infinity.fn at h
  have h0 := congrFun h (Shape.Idx.first Facts.h_S_)
  obtain ⟨hx, hy⟩ := and_one _ _ h0
  constructor
  · intro i
    have e := ogt_one _ _ (Host.reduce_andi_all _ _ _ _ _ hx i)
    exact lt_of_eq_of_lt bot_word.symm e
  · intro i
    have e := ogt_one _ _ (Host.reduce_andi_all _ _ _ _ _ hy i)
    exact lt_of_eq_of_lt bot_word.symm e

end Cert.Proof

end
-- ==== Proof.RVal1.lean ====
/-
  One time step of the reference, at the idealized values: the states, the greatest state, the scores and the two
  positions its top-k returns.
-/
module

public import proofs.«01_k».proof.Proof.KSt
public import proofs.«01_k».proof.Proof.KStage2
public import proofs.«01_k».proof.Proof.Gen.ReferenceIdeal.Step
public import Idealize.ShloMosaic.Lib.DynamicIndex
public import Idealize.ShloMosaic.Lib.SortFacts
public import Idealize.ShloMosaic.Lib.Pointwise.Reduce

@[expose] public section

noncomputable section

namespace Cert.Proof.Ref

open Cert.ReferenceIdeal Cert.ReferenceIdeal.Gen Cert.ReferenceIdeal.Step
open Idealize.ShloMosaic hiding ix0 ix1 ix2
open Idealize.ShloMosaic.ValueIdx
open Cert.Proof.Top2 Cert.Proof.Val Cert.Proof.Ideal

section Reads

theorem ix1_ofFin {n : ℕ} (k : Fin n) : (ix1 k : (⟨1, ![n]⟩ : Shape).Idx) = Shape.Idx.ofFin k := by
  rw [Shape.Idx.eq_ofFin (ix1 k)]; rfl

/-- The block of one row, read at the row the start names. -/
theorem slice_row_read {m n : ℕ} {α : Type} (x : (⟨2, ![m, n]⟩ : Shape).Idx → α) (start : Fin 2 → ℤ) (r : Fin m) (h)
    (h0 : start 0 = (r.val : ℤ)) (h1 : start 1 = 0) (z : Fin 1) (i : Fin n) :
    Host.dynamicSlice ⟨2, ![1, n]⟩ x start h (ix2 z i) = x (ix2 r i) := by
  have hr := r.isLt
  rw [Host.dynamicSlice_eq_extractStridedSlice ⟨2, ![1, n]⟩ x start ![r.val, 0] h
    ⟨rfl, fun a => by
      match a with
      | ⟨0, _⟩ => show r.val + 1 ≤ m; omega
      | ⟨1, _⟩ => show 0 + n ≤ n; omega⟩
    (fun a => by
      match a with
      | ⟨0, _⟩ => exact h0
      | ⟨1, _⟩ => exact h1)]
  refine extractStridedSlice_apply _ x _ (ix2 z i) (ix2 r i) fun a => ?_
  match a with
  | ⟨0, _⟩ => show r.val = r.val + z.val; have := z.isLt; omega
  | ⟨1, _⟩ => show i.val = 0 + i.val; omega

/-- A vector made of the one row of a matrix reads that row. -/
theorem flat_row_read {n : ℕ} {α : Type} (x : (⟨2, ![1, n]⟩ : Shape).Idx → α) (h : (⟨2, ![1, n]⟩ : Shape).ShapeCasts ⟨1, ![n]⟩) (i : Fin n) :
    shapeCast ⟨1, ![n]⟩ x h (ix1 i) = x (ix2 (0 : Fin 1) i) := by
  refine shapeCast_apply x h (ix1 i) (ix2 (0 : Fin 1) i) ?_
  rw [Shape.rowMajor_val_one, Shape.rowMajor_val_two]
  show 0 * n + i.val = i.val
  omega

/-- The maximum of a vector from minus infinity. -/
theorem vec_max {n : ℕ} (x : FVec Ideal ⟨1, ![n]⟩ .f32) (h' : (⟨1, ![n]⟩ : Shape).ReducesTo [0] ⟨0, ![]⟩)
    (hu : 0 < (⟨0, ![]⟩ : Shape).numel) (y : Fin n → EReal) (hy : ∀ i, x (ix1 i) = y i)
    (z : (⟨0, ![]⟩ : Shape).Idx) :
    Host.reduce FloatOps.maximumf x (constant (⟨0, ![]⟩ : Shape) .f32 0xFF800000#32) h' hu z
      = (Finset.univ : Finset (Fin n)).fold max ⊥ y := by
  rw [Host.reduce_eq_fold, Shape.ReducesTo.fold_fiber_r1_a0]
  have hf : (fun k => x (Idealize.ShloMosaic.ix1 k)) = y := funext hy
  rw [hf]
  exact congrArg (fun b => Finset.fold (β := EReal) max b y (Finset.univ : Finset (Fin n))) bot_word

/-- The positions top-k returns: those of the stable sort, greater first. -/
theorem topk_read {N : ℕ} (x : (⟨1, ![N]⟩ : Shape).Idx → EReal) (h : (⟨1, ![N]⟩ : Shape).Slices (fun _ => 0) ⟨1, ![2]⟩)
    (y : Fin N → EReal) (hy : ∀ i, x (ix1 i) = y i) (k : Fin 2) (k' : Fin N) (hk : k'.val = k.val)
    (R : Fin N → Fin N → Bool) (hR : R = fun i j => FloatOps.cmpfTotal (F := Ideal) (φ := .f32) .gt (y i) (y j) == 1#1) :
    (Host.topK ⟨1, ![2]⟩ 0 (FloatOps.cmpfTotal (F := Ideal) (φ := .f32) .gt) x h).2 (ix1 k) = BitVec.ofNat 32 (sortedFrom R k').val := by
  subst hR
  unfold Host.topK
  dsimp only
  refine (extractStridedSlice_apply _ _ h (ix1 k) (ix1 k') fun a => ?_).trans ?_
  · match a with
    | ⟨0, _⟩ => show k'.val = 0 + k.val; omega
  · have hd : 0 < (⟨1, ![N]⟩ : Shape).rank := Nat.one_pos
    unfold Host.sort2
    rw [dif_pos hd]
    show (if hd : 0 < (⟨1, ![N]⟩ : Shape).rank then iotaInDim (⟨1, ![N]⟩ : Shape) 32 ⟨0, hd⟩ _ else 0#32) = _
    rw [dif_pos hd]
    show BitVec.ofNat 32 ((Shape.Idx.along (ix1 k' : (⟨1, ![N]⟩ : Shape).Idx) (0 : Fin 1) _) 0).val = _
    have al : ∀ K : Fin N, (Shape.Idx.along (ix1 k' : (⟨1, ![N]⟩ : Shape).Idx) (0 : Fin 1) K) 0 = K := fun K => by
      rw [Shape.Idx.along_rank1, Shape.Idx.ofFin_zero]
    refine (congrArg (fun z : Fin N => BitVec.ofNat 32 z.val) (al _)).trans ?_
    refine congrArg (fun R : Fin N → Fin N → Bool => BitVec.ofNat 32 (sortedFrom R k').val) (funext fun i => funext fun j => ?_)
    have ax : ∀ K : Fin N, x (Shape.Idx.along (ix1 k' : (⟨1, ![N]⟩ : Shape).Idx) (0 : Fin 1) K) = y K := fun K => by
      rw [Shape.Idx.along_rank1, ← ix1_ofFin, hy]
    exact congrArg₂ (fun u v : EReal => FloatOps.cmpfTotal (F := Ideal) (φ := .f32) .gt u v == 1#1) (ax i) (ax j)

/-- The comparison the sort uses. -/
theorem gt_read (a b : EReal) : (FloatOps.cmpfTotal (F := Ideal) (φ := .f32) .gt a b == 1#1) = decide (b < a) := by
  show (Ideal.cmp .ogt a b == 1#1) = _
  unfold Ideal.cmp
  by_cases h : b < a <;> simp [h]

/-- Top-k of two: the two greatest entries. -/
theorem topk_top2 {N : ℕ} (h1 : 1 < N) (x : (⟨1, ![N]⟩ : Shape).Idx → EReal) (h : (⟨1, ![N]⟩ : Shape).Slices (fun _ => 0) ⟨1, ![2]⟩)
    (y : Fin N → EReal) (hy : ∀ i, x (ix1 i) = y i) (a b : Fin N) (hab : IsTop2 y a b) :
    (Host.topK ⟨1, ![2]⟩ 0 (FloatOps.cmpfTotal (F := Ideal) (φ := .f32) .gt) x h).2 (ix1 (0 : Fin 2)) = BitVec.ofNat 32 a.val
    ∧ (Host.topK ⟨1, ![2]⟩ 0 (FloatOps.cmpfTotal (F := Ideal) (φ := .f32) .gt) x h).2 (ix1 (1 : Fin 2)) = BitVec.ofNat 32 b.val := by
  obtain ⟨e0, e1⟩ := (sorted_top2 y (fun i j => FloatOps.cmpfTotal (F := Ideal) (φ := .f32) .gt (y i) (y j) == 1#1)
    (fun i j => gt_read _ _) (by omega) h1).unique hab
  rw [topk_read x h y hy 0 ⟨0, by omega⟩ rfl _ rfl, topk_read x h y hy 1 ⟨1, h1⟩ rfl _ rfl, e0, e1]
  exact ⟨rfl, rfl⟩

end Reads

variable (A : S1024x32768.Idx → EReal) (N : S32768.Idx → EReal) (j : ℕ) (s : Step.State Ideal)

/-- What a step starts from: the inputs and the states after `j` steps. -/
structure Starts : Prop where
  lt : j < 1024
  inp : s.main_v2_0 = A
  state : ∀ i, s.main_v2_2 (ix1 i) = st A N j i

variable {A N j s} (hs : Starts A N j s)
include hs

theorem word_start : ((constantI S_ 32 (BitVec.ofNat 32 j) : IVec S_ 32) (Shape.Idx.first h_S_)).toInt = (j : ℤ) := by
  have h := hs.lt
  exact toInt_ofNat_small j (by omega)

theorem row_read (i : Fin 32768) : b2 j s (ix1 i) = A (ix2 (⟨j, hs.lt⟩ : Fin 1024) i) := by
  unfold b2 b1
  rw [hs.inp]
  refine (flat_row_read _ _ i).trans ?_
  refine slice_row_read A _ ⟨j, hs.lt⟩ _ ?_ ?_ 0 i
  · exact word_start hs
  · exact BitVec.toInt_zero

theorem state_read (i : Fin 32768) : b9 j s (ix1 i) = st A N (j + 1) i := by
  have e4 : b4 j s (ix1 i) = k0 := by
    unfold b4 b3
    exact (broadcastInDim_scalar_apply _ _ _).trans k0_word
  have e7 : b7 j s (ix1 i) = k1 := by
    unfold b7 b6
    exact (broadcastInDim_scalar_apply _ _ _).trans k1_word
  unfold b9 b5 b8
  rw [addf_apply, mulf_apply, mulf_apply, e4, e7, hs.state, row_read hs]
  have h : j % 1024 = j := Nat.mod_eq_of_lt hs.lt
  show k0 * st A N j i + k1 * A (ix2 (⟨j, hs.lt⟩ : Fin 1024) i) = k0 * st A N j i + k1 * A (ix2 (⟨j % 1024, _⟩ : Fin 1024) i)
  congr 4
  exact Fin.ext h.symm

theorem peak_read (z : S_.Idx) : b11 j s z = mx A N j := by
  unfold b11 b10
  exact vec_max _ _ _ (st A N (j + 1)) (fun i => state_read hs i) z

theorem ignite_read {α : Type} (z : S_.Idx) (u v : α) [Decidable (thr ≤ mx A N j)] : Scalar.select (b13 j s z) u v = if thr ≤ mx A N j then u else v := by
  have e12 : b12 j s z = thr := thr_word
  unfold b13
  rw [cmpf_apply, peak_read hs, e12, sel_oge]
  congr

theorem score_read (i : Fin 32768) : b16 j s (ix1 i) = sc A N j i := by
  have e : b15 j s (ix1 i) = wc := by
    unfold b15 b14
    exact (broadcastInDim_scalar_apply _ _ _).trans wc_word
  unfold b16
  rw [mulf_apply, state_read hs, e]
  rfl

theorem first_read : b18 j s (ix1 (0 : Fin 2)) = BitVec.ofNat 32 (top A N j).1.val := by
  unfold b18
  exact (topk_top2 (by decide) _ _ (sc A N j) (fun i => score_read hs i) _ _ (top_spec A N j)).1
theorem second_read : b18 j s (ix1 (1 : Fin 2)) = BitVec.ofNat 32 (top A N j).2.val := by
  unfold b18
  exact (topk_top2 (by decide) _ _ (sc A N j) (fun i => score_read hs i) _ _ (top_spec A N j)).2

end Cert.Proof.Ref

end
-- ==== Proof.RVal2.lean ====
/-
  One time step of the reference, at the idealized values: the row of the mask and the coverage it writes.
-/
module

public import proofs.«01_k».proof.Proof.RVal1
public import Idealize.ShloMosaic.Lib.Routing.OpsSet
public import Idealize.ShloMosaic.Lib.Routing.OpsPair

@[expose] public section

noncomputable section

namespace Cert.Proof.Ref

open Cert.ReferenceIdeal Cert.ReferenceIdeal.Gen Cert.ReferenceIdeal.Step
open Idealize.ShloMosaic hiding ix0 ix1 ix2
open Idealize.ShloMosaic.ValueIdx
open Cert.Proof.Top2 Cert.Proof.Val Cert.Proof.Ideal

section Reads

/-- Where the scatter's update `k` lands: at the entry its index word names. -/
theorem lands_iff (idx : IVec S2x1 32) (k : Fin 2) (x : Fin 32768) :
    scatter_S32768_S2x1_S2_n_0_0_1.resultIdx? (ix1 k) idx = some (ix1 x) ↔ (idx (ix2 k (0 : Fin 1))).toInt = (x.val : ℤ) := by
  have hw : scatter_S32768_S2x1_S2_n_0_0_1.window (ix1 k) 0 = 0 := by
    unfold ScatterDims.window
    exact dif_neg (by decide)
  have hst : scatter_S32768_S2x1_S2_n_0_0_1.start (ix1 k) idx 0 = (idx (ix2 k (0 : Fin 1))).toInt := by
    unfold ScatterDims.start
    refine (dif_pos (by decide)).trans (congrArg (fun i => (idx i).toInt) (funext fun b => Fin.ext ?_))
    match b with
    | ⟨0, _⟩ => rfl
    | ⟨1, _⟩ => rfl
  rw [Routing.resultIdx?_eq_some]
  constructor
  · intro h
    have h0 := h 0
    rw [hst, hw] at h0
    exact (add_zero _).symm.trans h0
  · intro h a
    have ha : a = 0 := Subsingleton.elim _ _
    subst ha
    rw [hst, hw]
    exact (add_zero _).trans h

/-- The scatter of one value at two entries. -/
theorem scatter_read (x0 : S32768.Idx → EReal) (idx : IVec S2x1 32) (upd : S2.Idx → EReal) (v w : EReal) (a b : Fin 32768)
    (h0 : ∀ i, x0 i = w) (hv : ∀ k, upd k = v) (ha : (idx (ix2 (0 : Fin 2) (0 : Fin 1))).toInt = (a.val : ℤ))
    (hb : (idx (ix2 (1 : Fin 2) (0 : Fin 1))).toInt = (b.val : ℤ)) (i : Fin 32768) :
    Host.scatter scatter_S32768_S2x1_S2_n_0_0_1 (fun _ b => b) x0 idx upd (ix1 i) = if i = a ∨ i = b then v else w := by
  by_cases h : i = a ∨ i = b
  · rw [if_pos h]
    rcases h with rfl | rfl
    · exact Routing.scatter_set_hit _ x0 idx upd _ v (fun k _ => hv k) (ix1 (0 : Fin 2)) ((lands_iff idx 0 _).mpr ha)
    · exact Routing.scatter_set_hit _ x0 idx upd _ v (fun k _ => hv k) (ix1 (1 : Fin 2)) ((lands_iff idx 1 _).mpr hb)
  · rw [if_neg h]
    refine (Routing.scatter_set_miss _ x0 idx upd _ fun k e => h ?_).trans (h0 _)
    rw [ValueIdx.eq_ix1 k] at e
    have e' := (lands_iff idx (k 0) i).mp e
    generalize k 0 = q at e'
    match q, e' with
    | ⟨0, _⟩, e' => exact Or.inl (Fin.ext (by have := e'.symm.trans ha; omega))
    | ⟨1, _⟩, e' => exact Or.inr (Fin.ext (by have := e'.symm.trans hb; omega))

/-- The sum of the ones at two different entries. -/
theorem sum_two {n : ℕ} (a b : Fin n) (h : b ≠ a) : (∑ i : Fin n, (if i = a ∨ i = b then (1 : EReal) else 0)) = 1 + 1 := by
  have e : ∀ i : Fin n, (if i = a ∨ i = b then (1 : EReal) else 0) = (if i = a then 1 else 0) + (if i = b then 1 else 0) := fun i => by
    by_cases ha : i = a
    · have hb : ¬ i = b := fun hb => h (hb.symm.trans ha)
      simp [ha, h.symm]
    · simp [ha]
  rw [Finset.sum_congr rfl fun i _ => e i, Finset.sum_add_distrib]
  simp

theorem n_word : FloatOps.ofBits (F := Ideal) .f32 0x47000000#32 = ((32768 : ℝ) : EReal) := by
  show Ideal.ofBits .f32 0x47000000#32 = _
  simp [Ideal.ofBits, Ideal.ieee, -EReal.coe_mul]
  norm_num
theorem cov2_val : cov2 = ((2 / 32768 : ℝ) : EReal) := by
  unfold cov2
  simp [Ideal.ofBits, Ideal.ieee, -EReal.coe_mul]
  norm_num
theorem div_two : Ideal.div (1 + 1) ((32768 : ℝ) : EReal) = cov2 := by
  have h2 : (1 + 1 : EReal) = ((2 : ℝ) : EReal) := by norm_num; rfl
  unfold Ideal.div
  rw [if_neg (by norm_num [← EReal.coe_zero]), cov2_val, h2, ← EReal.coe_inv, ← EReal.coe_mul]
  norm_num

/-- A matrix with one row replaced. -/
theorem put_row_read {m n : ℕ} {α : Type} (x : (⟨2, ![m, n]⟩ : Shape).Idx → α) (u : (⟨2, ![1, n]⟩ : Shape).Idx → α) (start : Fin 2 → ℤ) (r : Fin m) (h)
    (h0 : start 0 = (r.val : ℤ)) (h1 : start 1 = 0) (T : Fin m) (i : Fin n) :
    Host.dynamicUpdateSlice x u start h (ix2 T i) = if T = r then u (ix2 (0 : Fin 1) i) else x (ix2 T i) := by
  have hr := r.isLt
  rw [Host.dynamicUpdateSlice_eq_updateSlice x u start h ![r.val, 0]
    (fun a => by
      match a with
      | ⟨0, _⟩ => show (min (max (start 0) 0) ((m - 1 : ℕ) : ℤ)).toNat = r.val; rw [h0]; omega
      | ⟨1, _⟩ => show (min (max (start 1) 0) ((n - n : ℕ) : ℤ)).toNat = 0; rw [h1]; omega)
    ⟨rfl, fun a => by
      match a with
      | ⟨0, _⟩ => show r.val + 1 ≤ m; omega
      | ⟨1, _⟩ => show 0 + n ≤ n; omega⟩]
  unfold updateSlice
  by_cases e : T = r
  · subst e
    rw [if_pos rfl]
    refine (dif_pos fun a => ?_).trans (congrArg u (funext fun b => Fin.ext ?_))
    · match a with
      | ⟨0, _⟩ => exact ⟨le_refl T.val, Nat.lt_succ_self T.val⟩
      | ⟨1, _⟩ => exact ⟨Nat.zero_le _, by show i.val < 0 + n; have := i.isLt; omega⟩
    · match b with
      | ⟨0, _⟩ => exact Nat.sub_self T.val
      | ⟨1, _⟩ => exact Nat.sub_zero i.val
  · rw [if_neg e]
    refine dif_neg fun hin => e (Fin.ext ?_)
    have := hin 0
    change r.val ≤ T.val ∧ T.val < r.val + 1 at this
    omega

/-- A vector with one entry replaced. -/
theorem put_entry_read {m : ℕ} {α : Type} (x : (⟨1, ![m]⟩ : Shape).Idx → α) (u : (⟨1, ![1]⟩ : Shape).Idx → α) (start : Fin 1 → ℤ) (r : Fin m) (h)
    (h0 : start 0 = (r.val : ℤ)) (v : α) (hu : ∀ k, u k = v) (T : Fin m) :
    Host.dynamicUpdateSlice x u start h (ix1 T) = if T = r then v else x (ix1 T) := by
  have hr := r.isLt
  rw [Host.dynamicUpdateSlice_eq_updateSlice x u start h ![r.val]
    (fun a => by
      match a with
      | ⟨0, _⟩ => show (min (max (start 0) 0) ((m - 1 : ℕ) : ℤ)).toNat = r.val; rw [h0]; omega)
    ⟨rfl, fun a => by
      match a with
      | ⟨0, _⟩ => show r.val + 1 ≤ m; omega⟩]
  unfold updateSlice
  by_cases e : T = r
  · subst e
    rw [if_pos rfl]
    refine (dif_pos fun a => ?_).trans (hu _)
    match a with
    | ⟨0, _⟩ => exact ⟨le_refl T.val, Nat.lt_succ_self T.val⟩
  · rw [if_neg e]
    refine dif_neg fun hin => e (Fin.ext ?_)
    have := hin 0
    change r.val ≤ T.val ∧ T.val < r.val + 1 at this
    omega

end Reads

variable {A : S1024x32768.Idx → EReal} {N : S32768.Idx → EReal} {j : ℕ} {s : Step.State Ideal} (hs : Starts A N j s)
include hs

/-- The index of one of the two neurons, wrapped if it were negative. -/
theorem wrap_read (k : Fin 2) (a : Fin 32768) (h : b18 j s (ix1 k) = BitVec.ofNat 32 a.val) :
    (b28 j s (ix2 k (0 : Fin 1))).toInt = (a.val : ℤ) := by
  have ha := a.isLt
  have hn : (b18 j s (ix1 k)).toInt = (a.val : ℤ) := by rw [h]; exact toInt_ofNat_small _ (by omega)
  have e : b28 j s (ix2 k (0 : Fin 1)) = b27 j s (ix1 k) := by
    unfold b28
    refine broadcastInDim_apply _ _ _ _ _ fun a => ?_
    match a with
    | ⟨0, _⟩ => rfl
  rw [e]
  unfold b27 b23
  have e22 : b22 j s = constantI S2 32 0#32 := by
    unfold b22 b21
    exact funext fun i => broadcastInDim_scalar_apply _ _ i
  rw [e22, select_slt_zero_of_nonneg _ _ _ _ (by rw [hn]; omega)]
  exact hn

theorem marks_read (i : Fin 32768) : b31 j s (ix1 i) = if i = (top A N j).1 ∨ i = (top A N j).2 then 1 else 0 := by
  unfold b31
  refine scatter_read _ _ _ 1 0 _ _ (fun i => ?_) (fun k => ?_) (wrap_read hs 0 _ (first_read hs)) (wrap_read hs 1 _ (second_read hs)) i
  · unfold b20 b19
    exact (broadcastInDim_scalar_apply _ _ _).trans Ideal.ofBits_zero_f32
  · unfold b30 b29
    exact (broadcastInDim_scalar_apply _ _ _).trans Ideal.ofBits_one_f32

theorem mask_row_read (i : Fin 32768) : b34 j s (ix1 i) = maskR A N (ix2 (⟨j, hs.lt⟩ : Fin 1024) i) := by
  classical
  have e33 : b33 j s (ix1 i) = (0 : EReal) := by
    unfold b33 b32
    exact (broadcastInDim_scalar_apply _ _ _).trans Ideal.ofBits_zero_f32
  have e13 : broadcastInDim S32768 ![] bcast_S_S32768 (b13 j s) (ix1 i) = b13 j s ix0 := broadcastInDim_scalar_apply _ _ _
  unfold b34
  rw [select_apply, e13, e33, marks_read hs, ignite_read hs, maskR_at]

theorem count_read (z : S_.Idx) (hi : thr ≤ mx A N j) : b36 j s z = (1 + 1 : EReal) := by
  classical
  have e : ∀ i : Fin 32768, b34 j s (ix1 i) = if i = (top A N j).1 ∨ i = (top A N j).2 then (1 : EReal) else 0 := fun i => by
    rw [mask_row_read hs, maskR_at, if_pos hi]
  unfold b36
  refine (Ideal.hostReduceAdd_r1_a0 _ (b34 j s) _ z).trans ?_
  have e0 : b35 j s (Shape.Idx.first h_S_) = (0 : EReal) := Ideal.ofBits_zero_f32
  rw [e0, zero_add]
  exact (Finset.sum_congr rfl fun i _ => e i).trans (sum_two _ _ (top_spec A N j).ne)

theorem share_read (z : S_.Idx) : b40 j s z = covR A N (ix1 (⟨j, hs.lt⟩ : Fin 1024)) := by
  classical
  have e39 : b39 j s z = (0 : EReal) := Ideal.ofBits_zero_f32
  have e37 : b37 j s z = ((32768 : ℝ) : EReal) := n_word
  unfold b40
  rw [select_apply, ignite_read hs, e39, covR_at]
  by_cases h : thr ≤ mx A N j
  · rw [if_pos h, if_pos h]
    unfold b38
    show Ideal.div (b36 j s z) (b37 j s z) = cov2
    rw [count_read hs z h, e37, div_two]
  · rw [if_neg h, if_neg h]

theorem mask_read (T : Fin 1024) (i : Fin 32768) :
    b43 j s (ix2 T i) = if T = ⟨j, hs.lt⟩ then maskR A N (ix2 T i) else s.main_v2_3 (ix2 T i) := by
  have e41 : b41 j s (ix2 (0 : Fin 1) i) = b34 j s (ix1 i) := by
    unfold b41
    refine broadcastInDim_apply _ _ _ _ _ fun a => ?_
    match a with
    | ⟨0, _⟩ => rfl
  unfold b43
  refine (put_row_read s.main_v2_3 (b41 j s) _ ⟨j, hs.lt⟩ _ ?_ ?_ T i).trans ?_
  · exact word_start hs
  · exact BitVec.toInt_zero
  · by_cases e : T = ⟨j, hs.lt⟩
    · rw [if_pos e, if_pos e, e41, mask_row_read hs, e]
    · rw [if_neg e, if_neg e]

theorem cov_read (T : Fin 1024) : b45 j s (ix1 T) = if T = ⟨j, hs.lt⟩ then covR A N (ix1 T) else s.main_v2_4 (ix1 T) := by
  unfold b45
  refine (put_entry_read s.main_v2_4 (b44 j s) _ ⟨j, hs.lt⟩ _ ?_ (covR A N (ix1 (⟨j, hs.lt⟩ : Fin 1024))) (fun k => ?_) T).trans ?_
  · exact word_start hs
  · unfold b44
    exact (broadcastInDim_scalar_apply _ _ _).trans (share_read hs _)
  · by_cases e : T = ⟨j, hs.lt⟩
    · rw [if_pos e, if_pos e, e]
    · rw [if_neg e, if_neg e]

end Cert.Proof.Ref

end
-- ==== Proof.KState.lean ====
/-
  The states stage 1 of the kernel carries and stores, as the problem's states.
-/
module

public import proofs.«01_k».proof.Proof.KSt
public import proofs.«01_k».proof.Proof.Vals

@[expose] public section

noncomputable section

namespace Cert.Proof.Ideal

open Cert.KernelIdeal Cert.KernelIdeal.Gen
open Idealize.ShloMosaic Idealize.ShloMosaic.ValueIdx
open Cert.Proof.Top2 Cert.Proof.Val
open Idealize.ShloMosaic.TcCoe

section State

/-- A row's update: the state scaled plus the spikes scaled. -/
theorem pay6_read (nm : Vec Ideal S8x512 .f32) (x : Vec Ideal S1x1x8x512 .f32) (q : Fin 8) (l : Fin 512) :
    k0_pay6 nm x (ix2 q l) = k0 * nm (ix2 q l) + k1 * x (ix4 0 0 q l) := by
  unfold k0_pay6
  rw [addf_apply, mulf_apply, mulf_apply, broadcast_apply, broadcast_apply, k0_word, k1_word]
  refine congrArg (fun z => k0 * nm (ix2 q l) + k1 * z) (shapeCast_apply x _ _ _ ?_)
  rw [Shape.rowMajor_val_two, Shape.rowMajor_val_four]
  show ((0 * 1 + 0) * 8 + q.val) * 512 + l.val = q.val * 512 + l.val
  omega

theorem pay5_read (v : Vec Ideal S1x8x512 .f32) (q : Fin 8) (l : Fin 512) : k0_pay5 v (ix2 q l) = v (ix3 0 q l) := by
  unfold k0_pay5
  rw [shapeCast_self]
  refine shapeCast_apply v _ _ _ ?_
  rw [Shape.rowMajor_val_two, Shape.rowMajor_val_three]
  show (0 * 8 + q.val) * 512 + l.val = q.val * 512 + l.val
  omega

variable (A : S1024x32768.Idx → EReal) (N : S32768.Idx → EReal)

theorem nmAt_st (p : Fin 16) (init : Vec Ideal S8x512 .f32)
    (h0 : ∀ q l, init (ix2 q l) = st A N (p.val % 2 * 512) (tileCol p q l)) (k : ℕ) (hk : k ≤ 512) (q : Fin 8) (l : Fin 512) :
    nmAt (F := Ideal) A p init k (ix2 q l) = st A N (p.val % 2 * 512 + k) (tileCol p q l) := by
  induction k with
  | zero => exact h0 q l
  | succ k ih =>
    refine (pay6_read _ _ q l).trans ?_
    rw [ih (by omega)]
    refine congrArg (fun z => k0 * st A N (p.val % 2 * 512 + k) (tileCol p q l) + k1 * z) ?_
    show A (ix2 _ _) = A (ix2 _ _)
    refine congrArg (fun r => A (ix2 r (tileCol p q l))) (Fin.ext ?_)
    show p.val % 2 * 512 + k % 512 = (p.val % 2 * 512 + k) % 1024
    omega

variable (c : Dev nD) (N0 : Fin 16 → S1x8x512.Idx → EReal) (hN : ∀ p q l, N0 p (ix3 0 q l) = N (ix1 (tileCol p q l)))
include hN

theorem nmIn_st (p : Fin 16) (q : Fin 8) (l : Fin 512) :
    nmIn (F := Ideal) c A N0 p (ix2 q l) = st A N (p.val % 2 * 512) (tileCol p q l) := by
  have hp := p.isLt
  have even : ∀ p' : Fin 16, p'.val % 2 = 0 → ∀ q l, k0_pay5 (F := Ideal) (N0 p') (ix2 q l) = st A N (p'.val % 2 * 512) (tileCol p' q l) := by
    intro p' h q l
    refine (pay5_read _ q l).trans ?_
    rw [h, hN]
    rfl
  unfold nmIn
  by_cases h : p.val % 2 = 0
  · rw [if_pos h]; exact even p h q l
  · rw [if_neg h]
    have hv : (pv p).val = p.val - 1 := by show (p.val + 15) % 16 = p.val - 1; omega
    refine (nmAt_st A N (pv p) _ (even (pv p) (by rw [hv]; omega)) 512 (le_refl _) q l).trans ?_
    have e1 : (pv p).val % 2 * 512 + 512 = p.val % 2 * 512 := by rw [hv]; omega
    have e2 : tileCol (pv p) q l = tileCol p q l := Fin.ext (by
      show (pv p).val / 2 * 4096 + q.val * 512 + l.val = p.val / 2 * 4096 + q.val * 512 + l.val
      rw [hv]; omega)
    rw [e1, e2]

theorem rows_st (p : Fin 16) (r : Fin 4096) (l : Fin 512) :
    rowsV (F := Ideal) A p (nmIn (F := Ideal) c A N0 p) (ix2 r l)
      = st A N (p.val % 2 * 512 + r.val / 8 + 1) (tileCol p ⟨r.val % 8, Nat.mod_lt _ (by decide)⟩ l) := by
  unfold rowsV
  exact nmAt_st A N p _ (nmIn_st A N c N0 hN p) (r.val / 8 + 1) (by have := r.isLt; omega) _ l

end State

end Cert.Proof.Ideal

end
-- ==== Proof.KRow.lean ====
/-
  Stage 1 of the kernel on one row, at the idealized values: the row's greatest state, its second greatest score, and the
  lanes of the two greatest scores.
-/
module

public import proofs.«01_k».proof.Proof.KConst
public import proofs.«01_k».proof.Proof.Gen.KernelIdeal.Skeleton

@[expose] public section

noncomputable section

namespace Cert.Proof.Ideal

open Cert.KernelIdeal Cert.KernelIdeal.Gen
open Idealize.ShloMosaic Idealize.ShloMosaic.ValueIdx
open Cert.Proof.Top2

/-! ## Stage 1 -/

section Row
variable (V : Vec Ideal S4096x512 .f32) (i : Fin 4096)

/-- The row's scores. -/
def yRow (k : Fin 512) : EReal := V (ix2 i k) * wc

theorem pay9_read (z : Fin 1) : k0_pay9 V (ix2 i z) = (Finset.univ : Finset (Fin 512)).fold max ⊥ fun k => V (ix2 i k) :=
  row_max V _ _ _ _ i z

theorem pay11_read (k : Fin 512) : k0_pay11 V (ix2 i k) = yRow V i k := by
  unfold k0_pay11 yRow
  rw [mulf_apply, broadcast_apply, wc_word]
theorem pay10_read (j : S4096x1.Idx) : k0_pay10 (F := Ideal) j = wc := by
  unfold k0_pay10
  rw [broadcast_apply, wc_word]
theorem cmpi_read {s : Shape} {w : ℕ} (p : CmpIPredicate) (x y : IVec s w) (j : s.Idx) : cmpi p x y j = IntOp.cmpi p (x j) (y j) := rfl

variable {a b : Fin 512} (h : IsTop2 (yRow V i) a b)
include h

theorem rmax_mul : ((Finset.univ : Finset (Fin 512)).fold max ⊥ fun k => V (ix2 i k)) * wc = yRow V i a := by
  rw [fold_max_mul]
  exact fold_max (yRow V i) a fun k => (h.first k).le

theorem pay12_read (z : Fin 1) : k0_pay12 V (k0_pay9 V) k0_pay10 (ix2 i z) = BitVec.ofNat 32 a.val := by
  refine (row_min _ _ _ _ i z).trans ?_
  refine Eq.trans ?_ (fold_first (n := 512) (by decide) (fun k => yRow V i k = yRow V i a) a rfl fun j hj => (h.first j).idx hj)
  refine congrArg (Finset.fold IntOp.minsi 2147483647#32 · Finset.univ) (funext fun k => ?_)
  rw [select_apply, iota_single_apply, cmpf_apply, bcast_read (by decide), broadcast_apply, sel_oeq, pay11_read, mulf_apply, pay9_read,
    mul_comm, pay10_read, rmax_mul V i h]

theorem pay13_read (k : Fin 512) : k0_pay13 V (k0_pay9 V) k0_pay10 (ix2 i k) = if k = a then ⊥ else yRow V i k := by
  unfold k0_pay13
  rw [select_apply, broadcast_apply, bot_word, cmpi_read, bcast_read (by decide), pay12_read V i h, iota_single_apply, sel_ne, pay11_read]
  have hk := k.isLt
  have ha := a.isLt
  have e : BitVec.ofNat 32 (ix2 i k (1 : Fin 2)).val = BitVec.ofNat 32 a.val ↔ k = a :=
    (ofNat_inj32 (a := k.val) (by omega) (by omega)).trans ⟨Fin.ext, fun h => h ▸ rfl⟩
  by_cases hka : k = a
  · rw [if_pos (e.mpr hka), if_pos hka]
  · rw [if_neg (fun h => hka (e.mp h)), if_neg hka]

theorem pay13_max : (Finset.univ : Finset (Fin 512)).fold max ⊥ (fun k => if k = a then ⊥ else yRow V i k) = yRow V i b := by
  refine (fold_max _ b fun k => ?_).trans (if_neg h.ne)
  rw [if_neg h.ne]
  by_cases e : k = a
  · rw [if_pos e]; exact bot_le
  · rw [if_neg e]; exact (h.second k e).le

theorem pay14_read (z : Fin 1) : k0_pay14 V (k0_pay9 V) k0_pay10 (ix2 i z) = yRow V i b := by
  refine (row_max _ _ _ _ _ i z).trans ?_
  refine Eq.trans ?_ (pay13_max V i h)
  exact congrArg (Finset.fold max ⊥ · Finset.univ) (funext fun k => pay13_read V i h k)

theorem pay15_read (hbot : ∀ k, ⊥ < yRow V i k) (z : Fin 1) : k0_pay15 V (k0_pay9 V) k0_pay10 (ix2 i z) = BitVec.ofNat 32 b.val := by
  refine (row_min _ _ _ _ i z).trans ?_
  refine Eq.trans ?_ (fold_first (n := 512) (by decide) (fun k => (if k = a then ⊥ else yRow V i k) = yRow V i b) b (if_neg h.ne) fun j hj => ?_)
  · refine congrArg (Finset.fold IntOp.minsi 2147483647#32 · Finset.univ) (funext fun k => ?_)
    rw [select_apply, iota_single_apply, cmpf_apply, bcast_read (by decide), broadcast_apply, sel_oeq, pay14_read V i h, pay13_read V i h]
  · by_cases e : j = a
    · rw [if_pos e] at hj; exact absurd hj (hbot b).ne
    · rw [if_neg e] at hj; exact (h.second j e).idx hj

end Row

end Cert.Proof.Ideal

end
-- ==== Proof.KBase.lean ====
/-
  The first index of a row's chunk, as stage 1 of the kernel computes it.
-/
module

public import proofs.«01_k».proof.Proof.KConst
public import proofs.«01_k».proof.Proof.Gen.KernelIdeal.Skeleton
public import Idealize.ShloMosaic.Lib.Affine

@[expose] public section

noncomputable section

namespace Cert.Proof.Ideal

open Cert.KernelIdeal Cert.KernelIdeal.Gen
open Idealize.ShloMosaic Idealize.ShloMosaic.ValueIdx
open Cert.Proof.Top2

/-- The first index of a row's chunk, as the kernel computes it: `4096` per point of the first axis and `512` per sublane. -/
theorem pay16_read (n : ℕ) (hn : n < 8) (i : Fin 4096) (z : Fin 1) :
    k0_pay16 (BitVec.ofNat 32 n) (ix2 i z) = BitVec.ofNat 32 (n * 4096 + i.val % 8 * 512) := by
  have hi := i.isLt
  have hrem : IntOp.remsi .vector (BitVec.ofNat 32 i.val) 8#32 = BitVec.ofNat 32 (i.val % 8) :=
    BitVec.eq_of_toNat_eq (by
      rw [IntOp.toNat_remsi _ (by rw [BitVec.toNat_ofNat]; omega) 8 (by decide) (by decide), BitVec.toNat_ofNat, BitVec.toNat_ofNat]
      omega)
  show IntOp.addi (IntOp.muli (BitVec.ofNat 32 n) 4096#32) (IntOp.muli (Scalar.select
    (IntOp.andi (IntOp.xori (IntOp.cmpi .slt (IntOp.remsi .vector (iota .tc S4096x1 32 [0] _ (ix2 i z)) 8#32) 0#32)
      (broadcastTo S4096x1 (broadcast S4096x1 (IntOp.cmpi .slt 8#32 0#32)) _ (ix2 i z))) (IntOp.cmpi .ne (IntOp.remsi .vector (iota .tc S4096x1 32 [0] _ (ix2 i z)) 8#32) 0#32))
    (IntOp.addi (IntOp.remsi .vector (iota .tc S4096x1 32 [0] _ (ix2 i z)) 8#32) 8#32) (IntOp.remsi .vector (iota .tc S4096x1 32 [0] _ (ix2 i z)) 8#32)) 512#32) = _
  rw [iota_single_apply]
  show IntOp.addi (IntOp.muli (BitVec.ofNat 32 n) 4096#32) (IntOp.muli (Scalar.select
    (IntOp.andi (IntOp.xori (IntOp.cmpi .slt (IntOp.remsi .vector (BitVec.ofNat 32 i.val) 8#32) 0#32)
      (IntOp.cmpi .slt 8#32 0#32)) (IntOp.cmpi .ne (IntOp.remsi .vector (BitVec.ofNat 32 i.val) 8#32) 0#32))
    (IntOp.addi (IntOp.remsi .vector (BitVec.ofNat 32 i.val) 8#32) 8#32) (IntOp.remsi .vector (BitVec.ofNat 32 i.val) 8#32)) 512#32) = _
  rw [hrem]
  generalize hs : i.val % 8 = s
  have hs8 : s < 8 := by omega
  interval_cases n <;> interval_cases s <;> decide

end Cert.Proof.Ideal

end
-- ==== Proof.KOut.lean ====
/-
  What stage 1 of the kernel stores for one row, at the idealized values: the row's greatest state, its second greatest
  score, and the global indices of the two greatest scores.
-/
module

public import proofs.«01_k».proof.Proof.KRow
public import proofs.«01_k».proof.Proof.KBase
public import proofs.«01_k».proof.Proof.S1Body

@[expose] public section

noncomputable section

namespace Cert.Proof.Ideal

open Cert.KernelIdeal Cert.KernelIdeal.Gen
open Idealize.ShloMosaic Idealize.ShloMosaic.ValueIdx
open Cert.Proof.Top2

section Out
variable (V : Vec Ideal S4096x512 .f32) (i : Fin 4096) (t : Fin cfg0.N)

theorem unit_read {α : Type} (v : S4096x1.Idx → α) (h : S4096x1.ShapeCasts S1x4096x1) (z : Fin 1) (z' : Fin 1) : shapeCast S1x4096x1 v h (ix3 z i z') = v (ix2 i z') :=
  shapeCast_apply v h _ _ (by
    rw [Shape.rowMajor_val_two, Shape.rowMajor_val_three]
    have : z.val = 0 := by omega
    show i.val * 1 + z'.val = (z.val * 4096 + i.val) * 1 + z'.val
    omega)

theorem addi_read {s : Shape} {w : ℕ} (x y : IVec s w) (j : s.Idx) : addi x y j = IntOp.addi (x j) (y j) := rfl

theorem coord0_0 : ∀ t : Fin cfg0.N, ((grid0.coords t) 0).val = t.val / 2 := by decide

/-- The row's greatest state. -/
theorem out4_read (z z' : Fin 1) : out4 V (ix3 z i z') = (Finset.univ : Finset (Fin 512)).fold max ⊥ fun k => V (ix2 i k) :=
  by unfold out4 k0_pay1; rw [unit_read, pay9_read]

variable {a b : Fin 512} (h : IsTop2 (yRow V i) a b)
include h

/-- The row's second greatest score. -/
theorem out5_read (z z' : Fin 1) : out5 V (ix3 z i z') = yRow V i b :=
  by unfold out5 k0_pay2; rw [unit_read, pay14_read V i h]
/-- The global index of the row's greatest score. -/
theorem out6_read (z z' : Fin 1) : out6 t V (ix3 z i z') = BitVec.ofNat 32 (t.val / 2 * 4096 + i.val % 8 * 512 + a.val) := by
  have ht : t.val < 16 := t.isLt.trans_eq N_0
  unfold out6 k0_pay3
  rw [unit_read, addi_read, pay12_read V i h, coord0_0 t, pay16_read _ (by omega)]
  exact (BitVec.ofNat_add _ _).symm
/-- The global index of the row's second greatest score. -/
theorem out7_read (hbot : ∀ k, ⊥ < yRow V i k) (z z' : Fin 1) : out7 t V (ix3 z i z') = BitVec.ofNat 32 (t.val / 2 * 4096 + i.val % 8 * 512 + b.val) := by
  have ht : t.val < 16 := t.isLt.trans_eq N_0
  unfold out7 k0_pay4
  rw [unit_read, addi_read, pay15_read V i h hbot, coord0_0 t, pay16_read _ (by omega)]
  exact (BitVec.ofNat_add _ _).symm

end Out

end Cert.Proof.Ideal

end
-- ==== Proof.KArr.lean ====
/-
  The arrays stage 1 of the kernel leaves: for every time step and every chunk of 512 neurons, the chunk's greatest
  state, its second greatest score, and the global indices of its two greatest scores.
-/
module

public import proofs.«01_k».proof.Proof.KState
public import proofs.«01_k».proof.Proof.KOut

@[expose] public section

noncomputable section

namespace Cert.Proof.Ideal

open Cert.KernelIdeal Cert.KernelIdeal.Gen
open Idealize.ShloMosaic Idealize.ShloMosaic.ValueIdx
open Cert.Proof.Top2 Cert.Proof.Val
open Idealize.ShloMosaic.TcCoe
open Idealize.ShloMosaic.Pipeline (Dat Cfg Window)

/-! ## Chunks -/

/-- Neuron `l` of chunk `ch`. -/
def chIdx (ch : Fin 64) (l : Fin 512) : Fin 32768 := ⟨ch.val * 512 + l.val, by have := ch.isLt; have := l.isLt; omega⟩

section Chunk
variable (A : S1024x32768.Idx → EReal) (N : S32768.Idx → EReal)

/-- The chunk's scores after time step `T`. -/
def csc (T : ℕ) (ch : Fin 64) (l : Fin 512) : EReal := sc A N T (chIdx ch l)
/-- The chunk's greatest state after time step `T`. -/
def cmx (T : ℕ) (ch : Fin 64) : EReal := (Finset.univ : Finset (Fin 512)).fold max ⊥ fun l => st A N (T + 1) (chIdx ch l)
theorem exists_csc (T : ℕ) (ch : Fin 64) : ∃ ab : Fin 512 × Fin 512, IsTop2 (csc A N T ch) ab.1 ab.2 := by
  obtain ⟨a, b, h⟩ := exists_top2 (by decide) (csc A N T ch)
  exact ⟨(a, b), h⟩
/-- The chunk's two greatest scores after time step `T`. -/
def ctop (T : ℕ) (ch : Fin 64) : Fin 512 × Fin 512 := (exists_csc A N T ch).choose
theorem ctop_spec (T : ℕ) (ch : Fin 64) : IsTop2 (csc A N T ch) (ctop A N T ch).1 (ctop A N T ch).2 := (exists_csc A N T ch).choose_spec

/-- The time step and the chunk of row `r` of the arrays' group `g`. -/
abbrev rT (r : Fin 8192) : ℕ := r.val / 8
abbrev rC (g : Fin 8) (r : Fin 8192) : Fin 64 := ⟨g.val * 8 + r.val % 8, by have := g.isLt; omega⟩

/-- The chunks' greatest states. -/
def G1 : S8x8192x1.Idx → EReal := fun j => cmx A N (rT (j 1)) (rC (j 0) (j 1))
/-- The chunks' second greatest scores. -/
def G2 : S8x8192x1.Idx → EReal := fun j => csc A N (rT (j 1)) (rC (j 0) (j 1)) (ctop A N (rT (j 1)) (rC (j 0) (j 1))).2
/-- The indices of the chunks' greatest scores. -/
def G3 : S8x8192x1.Idx → BitVec 32 := fun j => BitVec.ofNat 32 (chIdx (rC (j 0) (j 1)) (ctop A N (rT (j 1)) (rC (j 0) (j 1))).1).val
/-- The indices of the chunks' second greatest scores. -/
def G4 : S8x8192x1.Idx → BitVec 32 := fun j => BitVec.ofNat 32 (chIdx (rC (j 0) (j 1)) (ctop A N (rT (j 1)) (rC (j 0) (j 1))).2).val

/-! ## One point's blocks -/

/-- Row `i` of point `t`'s blocks: its group and its row in the arrays. -/
abbrev pG (t : Fin cfg0.N) : Fin 8 := ⟨t.val / 2, by have := t.isLt.trans_eq N_0; omega⟩
abbrev pR (t : Fin cfg0.N) (i : Fin 4096) : Fin 8192 := ⟨t.val % 2 * 4096 + i.val, by have := i.isLt; omega⟩

variable (t : Fin cfg0.N) (X : Vec Ideal S4096x512 .f32)
  (hX : ∀ i l, X (ix2 i l) = st A N (rT (pR t i) + 1) (chIdx (rC (pG t) (pR t i)) l))
include hX

theorem yRow_csc (i : Fin 4096) : yRow X i = csc A N (rT (pR t i)) (rC (pG t) (pR t i)) := by
  funext l
  unfold yRow csc sc
  rw [hX]

theorem out4_G (z z' : Fin 1) (i : Fin 4096) : out4 X (ix3 z i z') = G1 A N (ix3 (pG t) (pR t i) z') := by
  rw [out4_read]
  show _ = cmx A N (rT (pR t i)) (rC (pG t) (pR t i))
  unfold cmx
  refine congrArg (Finset.fold max ⊥ · Finset.univ) (funext fun l => hX i l)
theorem out5_G (z z' : Fin 1) (i : Fin 4096) : out5 X (ix3 z i z') = G2 A N (ix3 (pG t) (pR t i) z') := by
  have h := ctop_spec A N (rT (pR t i)) (rC (pG t) (pR t i))
  rw [← yRow_csc A N t X hX i] at h
  rw [out5_read X i h, yRow_csc A N t X hX i]
  rfl
theorem gidx (i : Fin 4096) (a : Fin 512) : t.val / 2 * 4096 + i.val % 8 * 512 + a.val = (chIdx (rC (pG t) (pR t i)) a).val := by
  show _ = (t.val / 2 * 8 + (t.val % 2 * 4096 + i.val) % 8) * 512 + a.val
  omega
theorem out6_G (z z' : Fin 1) (i : Fin 4096) : out6 t X (ix3 z i z') = G3 A N (ix3 (pG t) (pR t i) z') := by
  have h := ctop_spec A N (rT (pR t i)) (rC (pG t) (pR t i))
  rw [← yRow_csc A N t X hX i] at h
  rw [out6_read X i t h, gidx A N t X hX i]
  rfl
theorem out7_G (hA : ∀ j, ⊥ < A j) (hN : ∀ j, ⊥ < N j) (z z' : Fin 1) (i : Fin 4096) :
    out7 t X (ix3 z i z') = G4 A N (ix3 (pG t) (pR t i) z') := by
  have h := ctop_spec A N (rT (pR t i)) (rC (pG t) (pR t i))
  rw [← yRow_csc A N t X hX i] at h
  have hb : ∀ k, ⊥ < yRow X i k := fun k => by
    rw [yRow_csc A N t X hX i]; exact sc_bot A N hA hN _ _
  rw [out7_read X i t h hb, gidx A N t X hX i]
  rfl

end Chunk

/-! ## The windows' blocks in their arrays -/

theorem idx0_0 : ∀ t : Fin cfg0.N, win0_0.index t (0 : Fin 3) = t.val / 2 ∧ win0_0.index t (1 : Fin 3) = 0 ∧ win0_0.index t (2 : Fin 3) = 0 :=
  (by decide +kernel : ∀ t : Fin grid0.N, _)
theorem idx0_1 : ∀ t : Fin cfg0.N, win0_1.index t (0 : Fin 3) = t.val / 2 ∧ win0_1.index t (1 : Fin 3) = t.val % 2 ∧ win0_1.index t (2 : Fin 3) = 0 :=
  (by decide +kernel : ∀ t : Fin grid0.N, _)
theorem idx0_2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)
theorem idx0_3 : ∀ t : Fin cfg0.N, win0_3.index t (0 : Fin 3) = t.val / 2 ∧ win0_3.index t (1 : Fin 3) = t.val % 2 ∧ win0_3.index t (2 : Fin 3) = 0 :=
  (by decide +kernel : ∀ t : Fin grid0.N, _)
theorem idx0_4 : ∀ t : Fin cfg0.N, win0_4.index t (0 : Fin 3) = t.val / 2 ∧ win0_4.index t (1 : Fin 3) = t.val % 2 ∧ win0_4.index t (2 : Fin 3) = 0 :=
  (by decide +kernel : ∀ t : Fin grid0.N, _)

theorem emb0_0 (t : Fin cfg0.N) (j : S1x8x512.Idx) : ((cfg0.win 0).blk t).view.emb j = ix3 (pG t) (j 1) (j 2) := by
  obtain ⟨e0, e1, e2⟩ := idx0_0 t
  have h0 : (j 0).val < 1 := (j 0).isLt
  funext a; apply Fin.ext
  match a with
  | ⟨0, _⟩ => show win0_0.index t (0 : Fin 3) * 1 + 1 * (j 0).val = t.val / 2; omega
  | ⟨1, _⟩ => show win0_0.index t (1 : Fin 3) * 8 + 1 * (j 1).val = (j 1).val; omega
  | ⟨2, _⟩ => show win0_0.index t (2 : Fin 3) * 512 + 1 * (j 2).val = (j 2).val; omega
theorem emb0_1 (t : Fin cfg0.N) (j : S1x4096x1.Idx) : ((cfg0.win 1).blk t).view.emb j = ix3 (pG t) (pR t (j 1)) (j 2) := by
  obtain ⟨e0, e1, e2⟩ := idx0_1 t
  have h0 : (j 0).val < 1 := (j 0).isLt
  funext a; apply Fin.ext
  match a with
  | ⟨0, _⟩ => show win0_1.index t (0 : Fin 3) * 1 + 1 * (j 0).val = t.val / 2; omega
  | ⟨1, _⟩ => show win0_1.index t (1 : Fin 3) * 4096 + 1 * (j 1).val = t.val % 2 * 4096 + (j 1).val; omega
  | ⟨2, _⟩ => show win0_1.index t (2 : Fin 3) * 1 + 1 * (j 2).val = (j 2).val; omega
theorem emb0_2 (t : Fin cfg0.N) (j : S1x4096x1.Idx) : ((cfg0.win 2).blk t).view.emb j = ix3 (pG t) (pR t (j 1)) (j 2) := by
  obtain ⟨e0, e1, e2⟩ := idx0_2 t
  have h0 : (j 0).val < 1 := (j 0).isLt
  funext a; apply Fin.ext
  match a with
  | ⟨0, _⟩ => show win0_2.index t (0 : Fin 3) * 1 + 1 * (j 0).val = t.val / 2; omega
  | ⟨1, _⟩ => show win0_2.index t (1 : Fin 3) * 4096 + 1 * (j 1).val = t.val % 2 * 4096 + (j 1).val; omega
  | ⟨2, _⟩ => show win0_2.index t (2 : Fin 3) * 1 + 1 * (j 2).val = (j 2).val; omega
theorem emb0_3 (t : Fin cfg0.N) (j : S1x4096x1.Idx) : ((cfg0.win 3).blk t).view.emb j = ix3 (pG t) (pR t (j 1)) (j 2) := by
  obtain ⟨e0, e1, e2⟩ := idx0_3 t
  have h0 : (j 0).val < 1 := (j 0).isLt
  funext a; apply Fin.ext
  match a with
  | ⟨0, _⟩ => show win0_3.index t (0 : Fin 3) * 1 + 1 * (j 0).val = t.val / 2; omega
  | ⟨1, _⟩ => show win0_3.index t (1 : Fin 3) * 4096 + 1 * (j 1).val = t.val % 2 * 4096 + (j 1).val; omega
  | ⟨2, _⟩ => show win0_3.index t (2 : Fin 3) * 1 + 1 * (j 2).val = (j 2).val; omega
theorem emb0_4 (t : Fin cfg0.N) (j : S1x4096x1.Idx) : ((cfg0.win 4).blk t).view.emb j = ix3 (pG t) (pR t (j 1)) (j 2) := by
  obtain ⟨e0, e1, e2⟩ := idx0_4 t
  have h0 : (j 0).val < 1 := (j 0).isLt
  funext a; apply Fin.ext
  match a with
  | ⟨0, _⟩ => show win0_4.index t (0 : Fin 3) * 1 + 1 * (j 0).val = t.val / 2; omega
  | ⟨1, _⟩ => show win0_4.index t (1 : Fin 3) * 4096 + 1 * (j 1).val = t.val % 2 * 4096 + (j 1).val; omega
  | ⟨2, _⟩ => show win0_4.index t (2 : Fin 3) * 1 + 1 * (j 2).val = (j 2).val; omega

/-- The point and the row whose block holds index `i` of a result array. -/
abbrev ptOf (i : S8x8192x1.Idx) : Fin cfg0.N := ⟨(i 0).val * 2 + (i 1).val / 4096, by
  have h0 : (i 0).val < 8 := (i 0).isLt; have h1 : (i 1).val < 8192 := (i 1).isLt
  exact Nat.lt_of_lt_of_eq (show (i 0).val * 2 + (i 1).val / 4096 < 16 by omega) N_0.symm⟩
abbrev rowOf (i : S8x8192x1.Idx) : S1x4096x1.Idx := ix3 0 ⟨(i 1).val % 4096, Nat.mod_lt _ (by decide)⟩ (i 2)
theorem ptOf_eq (i : S8x8192x1.Idx) : (ix3 (pG (ptOf i)) (pR (ptOf i) (rowOf i 1)) (rowOf i 2) : S8x8192x1.Idx) = i := by
  have h0 : (i 0).val < 8 := (i 0).isLt; have h1 : (i 1).val < 8192 := (i 1).isLt
  funext a; apply Fin.ext
  match a with
  | ⟨0, _⟩ => show ((i 0).val * 2 + (i 1).val / 4096) / 2 = (i 0).val; omega
  | ⟨1, _⟩ => show ((i 0).val * 2 + (i 1).val / 4096) % 2 * 4096 + (i 1).val % 4096 = (i 1).val; omega
  | ⟨2, _⟩ => rfl

theorem covered0_1 (i : S8x8192x1.Idx) : ∃ t : Fin cfg0.N, (cfg0.win 1).flush t = true ∧ i ∈ ((cfg0.win 1).blk t).view.set :=
  ⟨ptOf i, flush0_1 _, Eq.mp (congrArg (fun z => z ∈ ((cfg0.win 1).blk (ptOf i)).view.set) ((emb0_1 _ _).trans (ptOf_eq i))) (((cfg0.win 1).blk (ptOf i)).view.emb_mem_set (rowOf i))⟩
theorem covered0_2 (i : S8x8192x1.Idx) : ∃ t : Fin cfg0.N, (cfg0.win 2).flush t = true ∧ i ∈ ((cfg0.win 2).blk t).view.set :=
  ⟨ptOf i, flush0_2 _, Eq.mp (congrArg (fun z => z ∈ ((cfg0.win 2).blk (ptOf i)).view.set) ((emb0_2 _ _).trans (ptOf_eq i))) (((cfg0.win 2).blk (ptOf i)).view.emb_mem_set (rowOf i))⟩
theorem covered0_3 (i : S8x8192x1.Idx) : ∃ t : Fin cfg0.N, (cfg0.win 3).flush t = true ∧ i ∈ ((cfg0.win 3).blk t).view.set :=
  ⟨ptOf i, flush0_3 _, Eq.mp (congrArg (fun z => z ∈ ((cfg0.win 3).blk (ptOf i)).view.set) ((emb0_3 _ _).trans (ptOf_eq i))) (((cfg0.win 3).blk (ptOf i)).view.emb_mem_set (rowOf i))⟩
theorem covered0_4 (i : S8x8192x1.Idx) : ∃ t : Fin cfg0.N, (cfg0.win 4).flush t = true ∧ i ∈ ((cfg0.win 4).blk t).view.set :=
  ⟨ptOf i, flush0_4 _, Eq.mp (congrArg (fun z => z ∈ ((cfg0.win 4).blk (ptOf i)).view.set) ((emb0_4 _ _).trans (ptOf_eq i))) (((cfg0.win 4).blk (ptOf i)).view.emb_mem_set (rowOf i))⟩

/-! ## The arrays after the stage -/

section Arr
variable (m : (ℓ : Loc nD τ sig) → Buf (Elt Ideal) ℓ) (c : Dev nD)

/-- The spikes and the start states as launched. -/
abbrev inA : S1024x32768.Idx → EReal := m ((c : Thread nD τ).loc main_arg0)
abbrev inN : S32768.Idx → EReal := m ((c : Thread nD τ).loc main_arg1)

theorem VA_arg0 : VA m c main_arg0 = inA m c := V1_of m c main_arg0 (by decide)
theorem VA_v0 : (VA m c main_v0 : S8x8x512.Idx → EReal) = shapeCast S8x8x512 (inN m c) shapeCasts_S32768_S8x8x512 := rfl

theorem v0_read (g : Fin 8) (q : Fin 8) (l : Fin 512) (i : Fin 32768) (hi : i.val = g.val * 4096 + q.val * 512 + l.val) :
    shapeCast S8x8x512 (inN m c) shapeCasts_S32768_S8x8x512 (ix3 g q l) = inN m c (ix1 i) := by
  refine shapeCast_apply _ _ _ _ ?_
  rw [Shape.rowMajor_val_one, Shape.rowMajor_val_three]
  show i.val = (g.val * 8 + q.val) * 512 + l.val
  omega
theorem n0_read (p : Fin 16) (q : Fin 8) (l : Fin 512) : n0 (VA m) c p (ix3 0 q l) = inN m c (ix1 (tileCol p q l)) := by
  show VA m c main_v0 (((cfg0.win 0).blk (p.cast N_0.symm)).view.emb (ix3 0 q l)) = _
  exact (congrArg (VA m c main_v0) (emb0_0 (p.cast N_0.symm) (ix3 0 q l))).trans
    ((congrFun (VA_v0 m c) (ix3 (pG (p.cast N_0.symm)) q l)).trans (v0_read m c (pG (p.cast N_0.symm)) q l (tileCol p q l) rfl))

theorem rows0_st (t : Fin cfg0.N) (i : Fin 4096) (l : Fin 512) :
    rows0 (VA m) c t (ix2 i l) = st (inA m c) (inN m c) (rT (pR t i) + 1) (chIdx (rC (pG t) (pR t i)) l) := by
  unfold rows0
  rw [VA_arg0]
  refine (rows_st (inA m c) (inN m c) c (n0 (VA m) c) (n0_read m c) (pt t) i l).trans ?_
  have hi := i.isLt
  have e1 : (pt t).val % 2 * 512 + i.val / 8 + 1 = rT (pR t i) + 1 := by
    show t.val % 2 * 512 + i.val / 8 + 1 = (t.val % 2 * 4096 + i.val) / 8 + 1
    omega
  have e2 : tileCol (pt t) ⟨i.val % 8, Nat.mod_lt _ (by decide)⟩ l = chIdx (rC (pG t) (pR t i)) l := Fin.ext (by
    show t.val / 2 * 4096 + i.val % 8 * 512 + l.val = (t.val / 2 * 8 + (t.val % 2 * 4096 + i.val) % 8) * 512 + l.val
    omega)
  rw [e1, e2]

theorem arr1 : (dat0 (VA m) c).arrAt 1 cfg0.N = G1 (inA m c) (inN m c) :=
  (dat0 (VA m) c).arrAt_eq_of_cover 1 (G1 (inA m c) (inN m c)) (fun t _ => by
    funext y
    show (dat0 (VA m) c).after 1 t y = G1 (inA m c) (inN m c) (((cfg0.win 1).blk t).view.emb y)
    rw [emb0_1, after0_1]
    exact (congrArg (out4 (rows0 (VA m) c t)) (eq_ix3 y)).trans (out4_G _ _ t _ (rows0_st m c t) (y 0) (y 2) (y 1))) covered0_1
theorem arr2 : (dat0 (VA m) c).arrAt 2 cfg0.N = G2 (inA m c) (inN m c) :=
  (dat0 (VA m) c).arrAt_eq_of_cover 2 (G2 (inA m c) (inN m c)) (fun t _ => by
    funext y
    show (dat0 (VA m) c).after 2 t y = G2 (inA m c) (inN m c) (((cfg0.win 2).blk t).view.emb y)
    rw [emb0_2, after0_2]
    exact (congrArg (out5 (rows0 (VA m) c t)) (eq_ix3 y)).trans (out5_G _ _ t _ (rows0_st m c t) (y 0) (y 2) (y 1))) covered0_2
theorem arr3 : (dat0 (VA m) c).arrAt 3 cfg0.N = G3 (inA m c) (inN m c) :=
  (dat0 (VA m) c).arrAt_eq_of_cover 3 (G3 (inA m c) (inN m c)) (fun t _ => by
    funext y
    show (dat0 (VA m) c).after 3 t y = G3 (inA m c) (inN m c) (((cfg0.win 3).blk t).view.emb y)
    rw [emb0_3, after0_3]
    exact (congrArg (out6 t (rows0 (VA m) c t)) (eq_ix3 y)).trans (out6_G _ _ t _ (rows0_st m c t) (y 0) (y 2) (y 1))) covered0_3
theorem arr4 (hA : ∀ j, ⊥ < inA m c j) (hN : ∀ j, ⊥ < inN m c j) : (dat0 (VA m) c).arrAt 4 cfg0.N = G4 (inA m c) (inN m c) :=
  (dat0 (VA m) c).arrAt_eq_of_cover 4 (G4 (inA m c) (inN m c)) (fun t _ => by
    funext y
    show (dat0 (VA m) c).after 4 t y = G4 (inA m c) (inN m c) (((cfg0.win 4).blk t).view.emb y)
    rw [emb0_4, after0_4]
    exact (congrArg (out7 t (rows0 (VA m) c t)) (eq_ix3 y)).trans (out7_G _ _ t _ (rows0_st m c t) hA hN (y 0) (y 2) (y 1))) covered0_4

end Arr

end Cert.Proof.Ideal

end
-- ==== Proof.KHost.lean ====
/-
  What the host's reshapes between the two stages hand stage 2: for every time step the 64 chunks' values in a row.
-/
module

public import proofs.«01_k».proof.Proof.KArr

@[expose] public section

noncomputable section

namespace Cert.Proof.Ideal

open Cert.KernelIdeal Cert.KernelIdeal.Gen
open Idealize.ShloMosaic Idealize.ShloMosaic.ValueIdx
open Cert.Proof.Top2 Cert.Proof.Val
open Idealize.ShloMosaic.TcCoe
open Idealize.ShloMosaic.Pipeline (Dat Cfg Window)

/-- A stage 1 array as the rows of time steps: element `ch` of row `T` is chunk `ch`'s value at time step `T`. -/
def regroup {α : Type} (v : S8x8192x1.Idx → α) : S1024x64.Idx → α :=
  shapeCast S1024x64 (transpose S1024x8x8 [1, 0, 2] (shapeCast S8x1024x8 v shapeCasts_S8x8192x1_S8x1024x8) transposes_S8x1024x8_S1024x8x8_1_0_2) shapeCasts_S1024x8x8_S1024x64

theorem rg_out {α : Type} (v : S1024x8x8.Idx → α) (T : Fin 1024) (ch : Fin 64) (g q : Fin 8) (h : ch.val = g.val * 8 + q.val) :
    shapeCast S1024x64 v shapeCasts_S1024x8x8_S1024x64 (ix2 T ch) = v (ix3 T g q) := by
  refine shapeCast_apply v _ _ _ ?_
  rw [Shape.rowMajor_val_two, Shape.rowMajor_val_three]
  show (T.val * 8 + g.val) * 8 + q.val = T.val * 64 + ch.val
  omega
theorem rg_mid {α : Type} (v : S8x1024x8.Idx → α) (T : Fin 1024) (g q : Fin 8) :
    transpose S1024x8x8 [1, 0, 2] v transposes_S8x1024x8_S1024x8x8_1_0_2 (ix3 T g q) = v (ix3 g T q) := by
  refine transpose_apply _ v _ _ _ fun a => ?_
  match a with
  | ⟨0, _⟩ => rfl
  | ⟨1, _⟩ => rfl
  | ⟨2, _⟩ => rfl
theorem rg_in {α : Type} (v : S8x8192x1.Idx → α) (T : Fin 1024) (g q : Fin 8) (r : Fin 8192) (h : r.val = T.val * 8 + q.val) :
    shapeCast S8x1024x8 v shapeCasts_S8x8192x1_S8x1024x8 (ix3 g T q) = v (ix3 g r 0) := by
  refine shapeCast_apply v _ _ _ ?_
  rw [Shape.rowMajor_val_three, Shape.rowMajor_val_three]
  show (g.val * 8192 + r.val) * 1 + 0 = (g.val * 1024 + T.val) * 8 + q.val
  omega
theorem regroup_read' {α : Type} (v : S8x8192x1.Idx → α) (T : Fin 1024) (ch : Fin 64) (g q : Fin 8) (r : Fin 8192)
    (h : ch.val = g.val * 8 + q.val) (h' : r.val = T.val * 8 + q.val) : regroup v (ix2 T ch) = v (ix3 g r 0) := by
  unfold regroup
  rw [rg_out _ T ch g q h, rg_mid, rg_in v T g q r h']
theorem regroup_read {α : Type} (v : S8x8192x1.Idx → α) (T : Fin 1024) (ch : Fin 64) :
    regroup v (ix2 T ch) = v (ix3 ⟨ch.val / 8, by have := ch.isLt; omega⟩ ⟨T.val * 8 + ch.val % 8, by have := T.isLt; omega⟩ 0) :=
  regroup_read' v T ch ⟨ch.val / 8, by have := ch.isLt; omega⟩ ⟨ch.val % 8, Nat.mod_lt _ (by decide)⟩ _
    (by show ch.val = ch.val / 8 * 8 + ch.val % 8; omega) rfl

section Reads
variable (W : Valuation τ sig (Elt Ideal))
theorem after_v4 : StableHlo.after hostOps1 W main_v4 = regroup (W main_v1_0) := rfl
theorem after_v7 : StableHlo.after hostOps1 W main_v7 = regroup (W main_v1_1) := rfl
theorem after_v10 : StableHlo.after hostOps1 W main_v10 = regroup (W main_v1_2) := rfl
theorem after_v13 : StableHlo.after hostOps1 W main_v13 = regroup (W main_v1_3) := rfl
theorem after_v15 : StableHlo.after hostOps2 W main_v15 = shapeCast S1024 (W main_v14_1) shapeCasts_S1024x1_S1024 := rfl
end Reads

section VB
variable (m : (ℓ : Loc nD τ sig) → Buf (Elt Ideal) ℓ) (c : Dev nD)

theorem V2A (r : Ref sig .tc) : V2 m (outsA m) c r = V2 m (outsB m) c r := congrFun (V2_AB m c).symm r
theorem VB_v4 : VB m c main_v4 = regroup (G1 (inA m c) (inN m c)) :=
  (after_v4 (V2 m (outsA m) c)).trans (congrArg regroup ((V2A m c main_v1_0).trans ((V2_0 m c).trans (arr1 m c))))
theorem VB_v7 : VB m c main_v7 = regroup (G2 (inA m c) (inN m c)) :=
  (after_v7 (V2 m (outsA m) c)).trans (congrArg regroup ((V2A m c main_v1_1).trans ((V2_1 m c).trans (arr2 m c))))
theorem VB_v10 : VB m c main_v10 = regroup (G3 (inA m c) (inN m c)) :=
  (after_v10 (V2 m (outsA m) c)).trans (congrArg regroup ((V2A m c main_v1_2).trans ((V2_2 m c).trans (arr3 m c))))
theorem VB_v13 (hA : ∀ j, ⊥ < inA m c j) (hN : ∀ j, ⊥ < inN m c j) : VB m c main_v13 = regroup (G4 (inA m c) (inN m c)) :=
  (after_v13 (V2 m (outsA m) c)).trans (congrArg regroup ((V2A m c main_v1_3).trans ((V2_3 m c).trans (arr4 m c hA hN))))

end VB

section Rows
variable (A : S1024x32768.Idx → EReal) (N : S32768.Idx → EReal) (T : Fin 1024) (k : Fin 64)

/-- The indices of a chunk's two greatest scores. -/
abbrev cA (T : ℕ) (k : Fin 64) : Fin 32768 := chIdx k (ctop A N T k).1
abbrev cB (T : ℕ) (k : Fin 64) : Fin 32768 := chIdx k (ctop A N T k).2

theorem rT_eq (h) : rT ⟨T.val * 8 + k.val % 8, h⟩ = T.val := by
  show (T.val * 8 + k.val % 8) / 8 = T.val
  omega
theorem rC_eq (h h') : rC ⟨k.val / 8, h'⟩ ⟨T.val * 8 + k.val % 8, h⟩ = k := Fin.ext (by
  show k.val / 8 * 8 + (T.val * 8 + k.val % 8) % 8 = k.val
  omega)
theorem G1_row : regroup (G1 A N) (ix2 T k) = cmx A N T.val k := by
  rw [regroup_read]
  show cmx A N (rT _) (rC _ _) = _
  rw [rT_eq, rC_eq]
theorem G2_row : regroup (G2 A N) (ix2 T k) = sc A N T.val (cB A N T.val k) := by
  rw [regroup_read]
  show csc A N (rT _) (rC _ _) (ctop A N (rT _) (rC _ _)).2 = _
  rw [rT_eq, rC_eq]
  rfl
theorem G3_row : regroup (G3 A N) (ix2 T k) = BitVec.ofNat 32 (cA A N T.val k).val := by
  rw [regroup_read]
  show BitVec.ofNat 32 (chIdx (rC _ _) (ctop A N (rT _) (rC _ _)).1).val = _
  rw [rT_eq, rC_eq]
theorem G4_row : regroup (G4 A N) (ix2 T k) = BitVec.ofNat 32 (cB A N T.val k).val := by
  rw [regroup_read]
  show BitVec.ofNat 32 (chIdx (rC _ _) (ctop A N (rT _) (rC _ _)).2).val = _
  rw [rT_eq, rC_eq]

/-! ## The chunks' values, as the whole row's -/

/-- The chunk a neuron is in. -/
abbrev chOf (j : Fin 32768) : Fin 64 := ⟨j.val / 512, by have := j.isLt; omega⟩
theorem chOf_chIdx (k : Fin 64) (l : Fin 512) : chOf (chIdx k l) = k := Fin.ext (by
  have := l.isLt
  show (k.val * 512 + l.val) / 512 = k.val
  omega)
theorem chIdx_of (j : Fin 32768) : chIdx (chOf j) ⟨j.val % 512, Nat.mod_lt _ (by decide)⟩ = j := Fin.ext (by
  show j.val / 512 * 512 + j.val % 512 = j.val
  omega)
theorem chIdx_of' (k : Fin 64) (j : Fin 32768) (h : chOf j = k) : ∃ l, chIdx k l = j := by subst h; exact ⟨_, chIdx_of j⟩
theorem Bt_ch (T : ℕ) (k : Fin 64) (l l' : Fin 512) (h : Bt (csc A N T k) l l') : Bt (sc A N T) (chIdx k l) (chIdx k l') := by
  rcases h with h | ⟨h1, h2⟩
  · exact Or.inl h
  · refine Or.inr ⟨h1, ?_⟩
    show k.val * 512 + l.val ≤ k.val * 512 + l'.val
    exact Nat.add_le_add_left h2 _

theorem row_first (T : ℕ) (k : Fin 64) (j : Fin 32768) (h : chOf j = k) : Bt (sc A N T) (cA A N T k) j := by
  obtain ⟨l, rfl⟩ := chIdx_of' k j h
  exact Bt_ch A N T k _ _ ((ctop_spec A N T k).first l)
theorem row_ne (T : ℕ) (k : Fin 64) : cB A N T k ≠ cA A N T k := fun h => (ctop_spec A N T k).ne (Fin.ext (by
  have := congrArg Fin.val h
  have h2 : k.val * 512 + (ctop A N T k).2.val = k.val * 512 + (ctop A N T k).1.val := this
  omega))
theorem row_second (T : ℕ) (k : Fin 64) (j : Fin 32768) (h : chOf j = k) (hj : j ≠ cA A N T k) : Bt (sc A N T) (cB A N T k) j := by
  obtain ⟨l, rfl⟩ := chIdx_of' k j h
  exact Bt_ch A N T k _ _ ((ctop_spec A N T k).second l fun e => hj (e ▸ rfl))
theorem cmx_mul (T : ℕ) (k : Fin 64) : cmx A N T k * wc = sc A N T (cA A N T k) := by
  unfold cmx
  rw [fold_max_mul]
  exact fold_max (csc A N T k) _ fun l => ((ctop_spec A N T k).first l).le
theorem cmx_max (T : ℕ) : (Finset.univ : Finset (Fin 64)).fold max ⊥ (fun k => cmx A N T k) = mx A N T := by
  unfold cmx mx
  refine le_antisymm ?_ ?_
  · rw [Finset.fold_max_le]
    refine ⟨bot_le, fun k _ => ?_⟩
    rw [Finset.fold_max_le]
    exact ⟨bot_le, fun l _ => (Finset.le_fold_max _).mpr (Or.inr ⟨chIdx k l, Finset.mem_univ _, le_refl _⟩)⟩
  · rw [Finset.fold_max_le]
    refine ⟨bot_le, fun j _ => (Finset.le_fold_max _).mpr (Or.inr ⟨chOf j, Finset.mem_univ _, (Finset.le_fold_max _).mpr (Or.inr ⟨⟨j.val % 512, Nat.mod_lt _ (by decide)⟩, Finset.mem_univ _, ?_⟩)⟩)⟩
    rw [chIdx_of]

end Rows

end Cert.Proof.Ideal

end
-- ==== Proof.KFinal.lean ====
/-
  The kernel's two results at the idealized values: the mask and the coverage of the problem.
-/
module

public import proofs.«01_k».proof.Proof.KHost
public import proofs.«01_k».proof.Proof.KStage2

@[expose] public section

noncomputable section

namespace Cert.Proof.Ideal

open Cert.KernelIdeal Cert.KernelIdeal.Gen
open Idealize.ShloMosaic Idealize.ShloMosaic.ValueIdx
open Cert.Proof.Top2 Cert.Proof.Val
open Idealize.ShloMosaic.TcCoe
open Idealize.ShloMosaic.Pipeline (Dat Cfg Window)

/-! ## The windows' blocks in their arrays -/

theorem idx1_0 : ∀ t : Fin cfg1.N, win1_0.index t (0 : Fin 2) = t.val / 8 ∧ win1_0.index t (1 : Fin 2) = 0 := (by decide +kernel : ∀ t : Fin grid1.N, _)
theorem idx1_1 : ∀ t : Fin cfg1.N, win1_1.index t (0 : Fin 2) = t.val / 8 ∧ win1_1.index t (1 : Fin 2) = 0 := (by decide +kernel : ∀ t : Fin grid1.N, _)
theorem idx1_2 : ∀ t : Fin cfg1.N, win1_2.index t (0 : Fin 2) = t.val / 8 ∧ win1_2.index t (1 : Fin 2) = 0 := (by decide +kernel : ∀ t : Fin grid1.N, _)
theorem idx1_3 : ∀ t : Fin cfg1.N, win1_3.index t (0 : Fin 2) = t.val / 8 ∧ win1_3.index t (1 : Fin 2) = 0 := (by decide +kernel : ∀ t : Fin grid1.N, _)
theorem idx1_4 : ∀ t : Fin cfg1.N, win1_4.index t (0 : Fin 2) = t.val / 8 ∧ win1_4.index t (1 : Fin 2) = t.val % 8 := (by decide +kernel : ∀ t : Fin grid1.N, _)
theorem idx1_5 : ∀ t : Fin cfg1.N, win1_5.index t (0 : Fin 2) = t.val / 8 ∧ win1_5.index t (1 : Fin 2) = 0 := (by decide +kernel : ∀ t : Fin grid1.N, _)

/-- Row `i` of point `t`'s blocks in the arrays. -/
abbrev qT (t : Fin cfg1.N) (i : Fin 512) : Fin 1024 := ⟨t.val / 8 * 512 + i.val, by have := t.isLt.trans_eq N_1; have := i.isLt; omega⟩
/-- Column `k` of point `t`'s mask block in the mask. -/
abbrev qJ (t : Fin cfg1.N) (k : Fin 4096) : Fin 32768 := ⟨t.val % 8 * 4096 + k.val, by have := k.isLt; omega⟩

theorem emb1_0 (t : Fin cfg1.N) (j : S512x64.Idx) : ((cfg1.win 0).blk t).view.emb j = ix2 (qT t (j 0)) (j 1) := by
  obtain ⟨e0, e1⟩ := idx1_0 t
  funext a; apply Fin.ext
  match a with
  | ⟨0, _⟩ => show win1_0.index t (0 : Fin 2) * 512 + 1 * (j 0).val = t.val / 8 * 512 + (j 0).val; omega
  | ⟨1, _⟩ => show win1_0.index t (1 : Fin 2) * 64 + 1 * (j 1).val = (j 1).val; omega
theorem emb1_1 (t : Fin cfg1.N) (j : S512x64.Idx) : ((cfg1.win 1).blk t).view.emb j = ix2 (qT t (j 0)) (j 1) := by
  obtain ⟨e0, e1⟩ := idx1_1 t
  funext a; apply Fin.ext
  match a with
  | ⟨0, _⟩ => show win1_1.index t (0 : Fin 2) * 512 + 1 * (j 0).val = t.val / 8 * 512 + (j 0).val; omega
  | ⟨1, _⟩ => show win1_1.index t (1 : Fin 2) * 64 + 1 * (j 1).val = (j 1).val; omega
theorem emb1_2 (t : Fin cfg1.N) (j : S512x64.Idx) : ((cfg1.win 2).blk t).view.emb j = ix2 (qT t (j 0)) (j 1) := by
  obtain ⟨e0, e1⟩ := idx1_2 t
  funext a; apply Fin.ext
  match a with
  | ⟨0, _⟩ => show win1_2.index t (0 : Fin 2) * 512 + 1 * (j 0).val = t.val / 8 * 512 + (j 0).val; omega
  | ⟨1, _⟩ => show win1_2.index t (1 : Fin 2) * 64 + 1 * (j 1).val = (j 1).val; omega
theorem emb1_3 (t : Fin cfg1.N) (j : S512x64.Idx) : ((cfg1.win 3).blk t).view.emb j = ix2 (qT t (j 0)) (j 1) := by
  obtain ⟨e0, e1⟩ := idx1_3 t
  funext a; apply Fin.ext
  match a with
  | ⟨0, _⟩ => show win1_3.index t (0 : Fin 2) * 512 + 1 * (j 0).val = t.val / 8 * 512 + (j 0).val; omega
  | ⟨1, _⟩ => show win1_3.index t (1 : Fin 2) * 64 + 1 * (j 1).val = (j 1).val; omega
theorem emb1_4 (t : Fin cfg1.N) (j : S512x4096.Idx) : ((cfg1.win 4).blk t).view.emb j = ix2 (qT t (j 0)) (qJ t (j 1)) := by
  obtain ⟨e0, e1⟩ := idx1_4 t
  funext a; apply Fin.ext
  match a with
  | ⟨0, _⟩ => show win1_4.index t (0 : Fin 2) * 512 + 1 * (j 0).val = t.val / 8 * 512 + (j 0).val; omega
  | ⟨1, _⟩ => show win1_4.index t (1 : Fin 2) * 4096 + 1 * (j 1).val = t.val % 8 * 4096 + (j 1).val; omega
theorem emb1_5 (t : Fin cfg1.N) (j : S512x1.Idx) : ((cfg1.win 5).blk t).view.emb j = ix2 (qT t (j 0)) (j 1) := by
  obtain ⟨e0, e1⟩ := idx1_5 t
  funext a; apply Fin.ext
  match a with
  | ⟨0, _⟩ => show win1_5.index t (0 : Fin 2) * 512 + 1 * (j 0).val = t.val / 8 * 512 + (j 0).val; omega
  | ⟨1, _⟩ => show win1_5.index t (1 : Fin 2) * 1 + 1 * (j 1).val = (j 1).val; omega

/-- The point and the place in its block of an index of the mask. -/
abbrev mPt (i : S1024x32768.Idx) : Fin cfg1.N := ⟨(i 0).val / 512 * 8 + (i 1).val / 4096, by
  have h0 : (i 0).val < 1024 := (i 0).isLt; have h1 : (i 1).val < 32768 := (i 1).isLt
  exact Nat.lt_of_lt_of_eq (show (i 0).val / 512 * 8 + (i 1).val / 4096 < 16 by omega) N_1.symm⟩
abbrev mRow (i : S1024x32768.Idx) : S512x4096.Idx := ix2 ⟨(i 0).val % 512, Nat.mod_lt _ (by decide)⟩ ⟨(i 1).val % 4096, Nat.mod_lt _ (by decide)⟩
theorem mPt_eq (i : S1024x32768.Idx) : (ix2 (qT (mPt i) (mRow i 0)) (qJ (mPt i) (mRow i 1)) : S1024x32768.Idx) = i := by
  have h0 : (i 0).val < 1024 := (i 0).isLt; have h1 : (i 1).val < 32768 := (i 1).isLt
  funext a; apply Fin.ext
  match a with
  | ⟨0, _⟩ => show ((i 0).val / 512 * 8 + (i 1).val / 4096) / 8 * 512 + (i 0).val % 512 = (i 0).val; omega
  | ⟨1, _⟩ => show ((i 0).val / 512 * 8 + (i 1).val / 4096) % 8 * 4096 + (i 1).val % 4096 = (i 1).val; omega
theorem covered1_4 (i : S1024x32768.Idx) : ∃ t : Fin cfg1.N, (cfg1.win 4).flush t = true ∧ i ∈ ((cfg1.win 4).blk t).view.set :=
  ⟨mPt i, flush1_4 _, Eq.mp (congrArg (fun z => z ∈ ((cfg1.win 4).blk (mPt i)).view.set) ((emb1_4 _ _).trans (mPt_eq i))) (((cfg1.win 4).blk (mPt i)).view.emb_mem_set (mRow i))⟩

/-- The point and the place in its block of an index of the coverage. -/
abbrev vPt (i : S1024x1.Idx) : Fin cfg1.N := ⟨(i 0).val / 512 * 8 + 7, by
  have h0 : (i 0).val < 1024 := (i 0).isLt
  exact Nat.lt_of_lt_of_eq (show (i 0).val / 512 * 8 + 7 < 16 by omega) N_1.symm⟩
abbrev vRow (i : S1024x1.Idx) : S512x1.Idx := ix2 ⟨(i 0).val % 512, Nat.mod_lt _ (by decide)⟩ (i 1)
theorem vPt_eq (i : S1024x1.Idx) : (ix2 (qT (vPt i) (vRow i 0)) (vRow i 1) : S1024x1.Idx) = i := by
  have h0 : (i 0).val < 1024 := (i 0).isLt
  funext a; apply Fin.ext
  match a with
  | ⟨0, _⟩ => show ((i 0).val / 512 * 8 + 7) / 8 * 512 + (i 0).val % 512 = (i 0).val; omega
  | ⟨1, _⟩ => rfl
theorem covered1_5 (i : S1024x1.Idx) : ∃ t : Fin cfg1.N, (cfg1.win 5).flush t = true ∧ i ∈ ((cfg1.win 5).blk t).view.set :=
  ⟨vPt i, (flush1_5 _).mpr (by show ((i 0).val / 512 * 8 + 7) % 8 = 7; omega), Eq.mp (congrArg (fun z => z ∈ ((cfg1.win 5).blk (vPt i)).view.set) ((emb1_5 _ _).trans (vPt_eq i))) (((cfg1.win 5).blk (vPt i)).view.emb_mem_set (vRow i))⟩

theorem flat_at {α : Type} (v : S1024x1.Idx → α) (i : Fin 1024) : shapeCast S1024 v shapeCasts_S1024x1_S1024 (ix1 i) = v (ix2 i (0 : Fin 1)) := by
  refine shapeCast_apply v _ _ _ ?_
  rw [Shape.rowMajor_val_one, Shape.rowMajor_val_two]
  show i.val * 1 + 0 = i.val
  omega
theorem flat_read {α : Type} (u : S1024.Idx → α) : shapeCast S1024 (fun j : S1024x1.Idx => u (ix1 (j 0))) shapeCasts_S1024x1_S1024 = u := by
  funext j
  obtain ⟨i, rfl⟩ : ∃ i : Fin 1024, j = ix1 i := ⟨j 0, eq_ix1 j⟩
  exact flat_at _ i

section Final
variable (m : (ℓ : Loc nD τ sig) → Buf (Elt Ideal) ℓ) (c : Dev nD)

theorem blk1_0 (t : Fin cfg1.N) (i : Fin 512) (k : Fin 64) : iblk1 (VB m) c 0 t (ix2 i k) = cmx (inA m c) (inN m c) (qT t i).val k := by
  show VB m c main_v4 (((cfg1.win 0).blk t).view.emb (ix2 i k)) = _
  exact (congrArg (VB m c main_v4) (emb1_0 t (ix2 i k))).trans ((congrFun (VB_v4 m c) (ix2 (qT t i) k)).trans (G1_row _ _ (qT t i) k))
theorem blk1_1 (t : Fin cfg1.N) (i : Fin 512) (k : Fin 64) : iblk1 (VB m) c 1 t (ix2 i k) = sc (inA m c) (inN m c) (qT t i).val (cB (inA m c) (inN m c) (qT t i).val k) := by
  show VB m c main_v7 (((cfg1.win 1).blk t).view.emb (ix2 i k)) = _
  exact (congrArg (VB m c main_v7) (emb1_1 t (ix2 i k))).trans ((congrFun (VB_v7 m c) (ix2 (qT t i) k)).trans (G2_row _ _ (qT t i) k))
theorem blk1_2 (t : Fin cfg1.N) (i : Fin 512) (k : Fin 64) : iblk1 (VB m) c 2 t (ix2 i k) = BitVec.ofNat 32 (cA (inA m c) (inN m c) (qT t i).val k).val := by
  show VB m c main_v10 (((cfg1.win 2).blk t).view.emb (ix2 i k)) = _
  exact (congrArg (VB m c main_v10) (emb1_2 t (ix2 i k))).trans ((congrFun (VB_v10 m c) (ix2 (qT t i) k)).trans (G3_row _ _ (qT t i) k))
variable (hA : ∀ j, ⊥ < inA m c j) (hN : ∀ j, ⊥ < inN m c j)
include hA hN in
theorem blk1_3 (t : Fin cfg1.N) (i : Fin 512) (k : Fin 64) : iblk1 (VB m) c 3 t (ix2 i k) = BitVec.ofNat 32 (cB (inA m c) (inN m c) (qT t i).val k).val := by
  show VB m c main_v13 (((cfg1.win 3).blk t).view.emb (ix2 i k)) = _
  exact (congrArg (VB m c main_v13) (emb1_3 t (ix2 i k))).trans ((congrFun (VB_v13 m c hA hN) (ix2 (qT t i) k)).trans (G4_row _ _ (qT t i) k))

theorem blk1_max (t : Fin cfg1.N) (i : Fin 512) : Finset.fold (β := EReal) max ⊥ (fun k : Fin 64 => iblk1 (VB m) c 0 t (ix2 i k)) Finset.univ = mx (inA m c) (inN m c) (qT t i).val :=
  (congrArg (fun f : Fin 64 → EReal => Finset.fold max ⊥ f Finset.univ) (funext fun k => blk1_0 m c t i k)).trans (cmx_max _ _ _)

include hA hN in
theorem maskAt_read (t : Fin cfg1.N) (i : Fin 512) (k : Fin 4096) : maskAt (VB m) c t (ix2 i k) = maskR (inA m c) (inN m c) (ix2 (qT t i) (qJ t k)) := by
  let T := (qT t i).val
  let y := sc (inA m c) (inN m c) T
  have h := mask_read (iblk1 (VB m) c 0 t) (iblk1 (VB m) c 1 t) (iblk1 (VB m) c 2 t) (iblk1 (VB m) c 3 t) i y chOf
    (cA (inA m c) (inN m c) T) (cB (inA m c) (inN m c) T)
    (fun k => (congrArg (· * wc) (blk1_0 m c t i k)).trans (cmx_mul _ _ T k)) (fun k => blk1_1 m c t i k) (fun k => blk1_2 m c t i k) (fun k => blk1_3 m c hA hN t i k)
    (fun k => chOf_chIdx k _) (fun k => chOf_chIdx k _) (fun k j hj => row_first _ _ T k j hj) (fun k => row_ne _ _ T k) (fun k j hj hne => row_second _ _ T k j hj hne)
    (top_spec (inA m c) (inN m c) T) (fun j => sc_bot _ _ hA hN T j) (grid1.coords t) k
  unfold maskAt
  refine h.trans ?_
  rw [blk1_max, coord1_1 t]
  have e : ∀ j : Fin 32768, (k.val + t.val % 8 * 4096 = j.val) = (qJ t k = j) := fun j => propext ⟨fun hj => Fin.ext (by
    show t.val % 8 * 4096 + k.val = j.val
    omega), fun hj => by
    have := congrArg Fin.val hj
    have h2 : t.val % 8 * 4096 + k.val = j.val := this
    omega⟩
  simp only [e]
  exact (maskR_at (inA m c) (inN m c) (qT t i) (qJ t k)).symm

theorem coverAt_read (t : Fin cfg1.N) (i : Fin 512) (z : Fin 1) : coverAt (VB m) c t (ix2 i z) = covR (inA m c) (inN m c) (ix1 (qT t i)) := by
  unfold coverAt
  refine (cover_read _ i z).trans ?_
  rw [blk1_max]
  have e : qT (base1 t) i = qT t i := Fin.ext (by
    show t.val / 8 * 8 / 8 * 512 + i.val = t.val / 8 * 512 + i.val
    omega)
  rw [e]
  exact (covR_at (inA m c) (inN m c) (qT t i)).symm

include hA hN in
theorem arr1_4 : (dat1 (VB m) c).arrAt 4 cfg1.N = maskR (inA m c) (inN m c) :=
  (dat1 (VB m) c).arrAt_eq_of_cover 4 (maskR (inA m c) (inN m c)) (fun t _ => by
    funext y
    show (dat1 (VB m) c).after 4 t y = maskR (inA m c) (inN m c) (((cfg1.win 4).blk t).view.emb y)
    rw [emb1_4, after1_4]
    exact (congrArg (maskAt (VB m) c t) (eq_ix2 y)).trans (maskAt_read m c hA hN t (y 0) (y 1))) covered1_4
theorem arr1_5 : (dat1 (VB m) c).arrAt 5 cfg1.N = fun j : S1024x1.Idx => covR (inA m c) (inN m c) (ix1 (j 0)) :=
  (dat1 (VB m) c).arrAt_eq_of_cover 5 (fun j : S1024x1.Idx => covR (inA m c) (inN m c) (ix1 (j 0))) (fun t _ => by
    funext y
    show (dat1 (VB m) c).after 5 t y = (fun j : S1024x1.Idx => covR (inA m c) (inN m c) (ix1 (j 0))) (((cfg1.win 5).blk t).view.emb y)
    rw [emb1_5, after1_5]
    exact (congrArg (coverAt (VB m) c t) (eq_ix2 y)).trans (coverAt_read m c t (y 0) (y 1))) covered1_5

include hA hN in
/-- The kernel's first result: the mask. -/
theorem final_mask : V5 m (outsB m) c main_v14_0 = maskR (inA m c) (inN m c) :=
  (V5_of m (outsB m) c main_v14_0 (by decide)).trans ((V4_0 m c).trans (arr1_4 m c hA hN))
/-- The kernel's second result: the coverage. -/
theorem final_cov : V5 m (outsB m) c main_v15 = covR (inA m c) (inN m c) :=
  (after_v15 (V4 m (outsB m) c)).trans ((congrArg (fun v => shapeCast S1024 v shapeCasts_S1024x1_S1024) ((V4_1 m c).trans (arr1_5 m c))).trans (flat_read _))

end Final

end Cert.Proof.Ideal

end
-- ==== Proof.Alg.lean ====
/-
  The value claim: over the extended reals, where every entry of the arguments is above minus infinity, the kernel's two
  results are the reference's.
-/
module

public import proofs.«01_k».proof.Proof.RVal2
public import proofs.«01_k».proof.Proof.KFinal
public import proofs.«01_k».proof.Proof.Frames
public import proofs.«01_k».proof.Proof.PreDec

@[expose] public section

noncomputable section

namespace Cert.Proof

open Cert.ReferenceIdeal Cert.ReferenceIdeal.Gen Cert.ReferenceIdeal.Step
open Idealize.ShloMosaic hiding ix0 ix1 ix2
open Idealize.ShloMosaic.ValueIdx Idealize.ShloMosaic.TcCoe Idealize.SL.Sem
open Cert.Proof.Val Cert.Proof.Ref

/-- What the reference holds after `n` of its steps. -/
structure After (A : S1024x32768.Idx → EReal) (N : S32768.Idx → EReal) (n : ℕ) (s : Step.State Ideal) : Prop where
  inp : s.main_v2_0 = A
  state : ∀ i, s.main_v2_2 (ix1 i) = st A N n i
  mask : ∀ T : Fin 1024, T.val < n → ∀ i, s.main_v2_3 (ix2 T i) = maskR A N (ix2 T i)
  cov : ∀ T : Fin 1024, T.val < n → s.main_v2_4 (ix1 T) = covR A N (ix1 T)

variable {A : S1024x32768.Idx → EReal} {N : S32768.Idx → EReal}

theorem After.next {n : ℕ} {s : Step.State Ideal} (h : After A N n s) (hn : n < 1024) : After A N (n + 1) (step n s) := by
  have hs : Starts A N n s := ⟨hn, h.inp, h.state⟩
  refine ⟨h.inp, fun i => ?_, fun T hT i => ?_, fun T hT => ?_⟩
  · rw [step_main_v2_2]; exact state_read hs i
  · rw [step_main_v2_3, mask_read hs]
    by_cases e : T = ⟨n, hn⟩
    · rw [if_pos e]
    · rw [if_neg e]
      exact h.mask T (by have : T.val ≠ n := fun q => e (Fin.ext q); omega) i
  · rw [step_main_v2_4, cov_read hs]
    by_cases e : T = ⟨n, hn⟩
    · rw [if_pos e]
    · rw [if_neg e]
      exact h.cov T (by have : T.val ≠ n := fun q => e (Fin.ext q); omega)

/-- The reference's arguments, as its memory first holds them. -/
def refA (m : (ℓ : Loc Cert.ReferenceIdeal.nD Cert.ReferenceIdeal.τ Cert.ReferenceIdeal.sig) → Buf (Elt Ideal) ℓ) (c : Dev Cert.ReferenceIdeal.nD) :
    S1024x32768.Idx → EReal := m ((c.tc : Thread Cert.ReferenceIdeal.nD Cert.ReferenceIdeal.τ).loc Cert.ReferenceIdeal.main_arg0)
def refN (m : (ℓ : Loc Cert.ReferenceIdeal.nD Cert.ReferenceIdeal.τ Cert.ReferenceIdeal.sig) → Buf (Elt Ideal) ℓ) (c : Dev Cert.ReferenceIdeal.nD) :
    S32768.Idx → EReal := m ((c.tc : Thread Cert.ReferenceIdeal.nD Cert.ReferenceIdeal.τ).loc Cert.ReferenceIdeal.main_arg1)

theorem after_all (m : (ℓ : Loc Cert.ReferenceIdeal.nD Cert.ReferenceIdeal.τ Cert.ReferenceIdeal.sig) → Buf (Elt Ideal) ℓ)
    (c : Dev Cert.ReferenceIdeal.nD) : ∀ n, n ≤ 1024 → After (refA m c) (refN m c) n (refStates m c n)
  | 0, _ => ⟨rfl, fun i => rfl, fun T hT => absurd hT (Nat.not_lt_zero _), fun T hT => absurd hT (Nat.not_lt_zero _)⟩
  | n + 1, h => (after_all m c n (by omega)).next (by omega)

/-- The reference's first result: the mask. -/
theorem ref_mask (m : (ℓ : Loc Cert.ReferenceIdeal.nD Cert.ReferenceIdeal.τ Cert.ReferenceIdeal.sig) → Buf (Elt Ideal) ℓ)
    (c : Dev Cert.ReferenceIdeal.nD) : (refStates m c 1024).main_v2_3 = maskR (refA m c) (refN m c) :=
  funext fun i => by
    rw [ValueIdx.eq_ix2 i]
    exact (after_all m c 1024 (le_refl _)).mask (i 0) (i 0).isLt (i 1)
/-- The reference's second result: the coverage. -/
theorem ref_cov (m : (ℓ : Loc Cert.ReferenceIdeal.nD Cert.ReferenceIdeal.τ Cert.ReferenceIdeal.sig) → Buf (Elt Ideal) ℓ)
    (c : Dev Cert.ReferenceIdeal.nD) : (refStates m c 1024).main_v2_4 = covR (refA m c) (refN m c) :=
  funext fun i => by
    rw [ValueIdx.eq_ix1 i]
    exact (after_all m c 1024 (le_refl _)).cov (i 0) (i 0).isLt

/-- The kernel's results are the reference's. -/
theorem algebraic [hPre_above_minus_infinity : Cert.Pre_above_minus_infinity.Facts] : Cert.algebraic_KernelIdeal_ReferenceIdeal_pre_above_minus_infinity := by
  intro m g m' g' hp ha
  have eA : ∀ c : Dev Cert.KernelIdeal.nD, refA m' c = Ideal.inA m c := fun c => (ha c).1
  have eN : ∀ c : Dev Cert.KernelIdeal.nD, refN m' c = Ideal.inN m c := fun c => (ha c).2
  refine ⟨fun c => maskR (Ideal.inA m c) (Ideal.inN m c), fun c => covR (Ideal.inA m c) (Ideal.inN m c), ?_, ?_⟩
  · refine (θ_run Cert.KernelIdeal.defs _ _).mono (fun r h c => ?_) (Ideal.run_main m g)
    obtain ⟨h0, h1, h2, h3⟩ := h.1 c
    obtain ⟨bA, bN⟩ := above _ _ (hp c)
    exact ⟨h2.trans (Ideal.final_mask m c bA bN), h3.trans (Ideal.final_cov m c), h0, h1⟩
  · refine (θ_run Cert.ReferenceIdeal.defs _ _).mono (fun r h c => ?_) (RefStep.run_iter m' g' (refStates m') (fun _ => rfl) (fun _ _ => rfl))
    obtain ⟨h0, h1, h2, h3⟩ := h c
    refine ⟨(h0.trans (ref_mask m' c)).trans ?_, (h1.trans (ref_cov m' c)).trans ?_, h2, h3⟩
    · rw [eA, eN]
    · rw [eA, eN]

end Cert.Proof

end
-- ==== Proof.lean ====
/-
  The claims of this certificate, each from its module.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Step
public import proofs.«01_k».proof.Proof.Frames
public import proofs.«01_k».proof.Proof.PreDec
public import proofs.«01_k».proof.Proof.Alg
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preFacts,
    frame_kernel, frame_ideal, fun m g _ => frame_ideal m g trivial, frame_ref, fun m g _ => frame_ref m g trivial, trivial,
    algebraic (hPre_above_minus_infinity := preFacts)⟩

end Cert.Proof

end
